-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_projection [hPre_finite_projection : Cert.Pre_finite_projection.Facts] (m : (ℓ : Loc Cert.KernelIdeal.nD Cert.KernelIdeal.τ Cert.KernelIdeal.sig) → Buf (Elt Ideal) ℓ) : Prop :=
  ∀ c : Dev Cert.KernelIdeal.nD,
    (Cert.Pre_finite_projection.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_projection [hPre_finite_projection : Cert.Pre_finite_projection.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_projection.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_finite_projection [hKernelIdeal : Cert.KernelIdeal.Facts] [hPre_finite_projection : Cert.Pre_finite_projection.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_projection m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_finite_projection [hReferenceIdeal : Cert.ReferenceIdeal.Facts] [hPre_finite_projection : Cert.Pre_finite_projection.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_projection m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_finite_projection [hKernelIdeal : Cert.KernelIdeal.Facts] [hReferenceIdeal : Cert.ReferenceIdeal.Facts] [hPre_finite_projection : Cert.Pre_finite_projection.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_projection m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v128)) (v1 : (c : Dev Cert.KernelIdeal.nD) → Buf (Elt Ideal) ((c.tc : Thread Cert.KernelIdeal.nD Cert.KernelIdeal.τ).loc Cert.KernelIdeal.main_v229)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v128) = v0 c
          ∧ r.2.mem ((c.tc : Thread Cert.KernelIdeal.nD Cert.KernelIdeal.τ).loc Cert.KernelIdeal.main_v229) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v195) = v0 c
          ∧ r.2.mem ((c.tc : Thread Cert.ReferenceIdeal.nD Cert.ReferenceIdeal.τ).loc Cert.ReferenceIdeal.main_v391) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_projection : Cert.Pre_finite_projection.Facts),
    quiescent_Kernel (hKernel := hKernel)
    ∧ quiescent_KernelIdeal (hKernelIdeal := hKernelIdeal)
    ∧ quiescent_KernelIdeal_pre_finite_projection (hKernelIdeal := hKernelIdeal) (hPre_finite_projection := hPre_finite_projection)
    ∧ quiescent_ReferenceIdeal (hReferenceIdeal := hReferenceIdeal)
    ∧ quiescent_ReferenceIdeal_pre_finite_projection (hReferenceIdeal := hReferenceIdeal) (hPre_finite_projection := hPre_finite_projection)
    ∧ preserves_Kernel_KernelIdeal
    ∧ algebraic_KernelIdeal_ReferenceIdeal_pre_finite_projection (hKernelIdeal := hKernelIdeal) (hReferenceIdeal := hReferenceIdeal) (hPre_finite_projection := hPre_finite_projection)
-- ==== Pre_finite_projection.lean ====
abbrev S4x8192x1024 : Shape := ⟨3, ![4, 8192, 1024]⟩
abbrev S16x4096x1024 : Shape := ⟨3, ![16, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x1024x2048 : Shape := ⟨3, ![1, 1024, 2048]⟩
abbrev S1x3x512 : Shape := ⟨3, ![1, 3, 512]⟩
abbrev S1x512 : Shape := ⟨2, ![1, 512]⟩
abbrev S1x1024x1024 : Shape := ⟨3, ![1, 1024, 1024]⟩
abbrev S1024 : Shape := ⟨1, ![1024]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1x1024x2048 : S_.BroadcastsInDim S1x1024x2048 (![] : Fin 0 → Fin S1x1024x2048.rank)
  reducesTo_S1x1024x2048_S_d0_1_2 : S1x1024x2048.ReducesTo [0, 1, 2] S_

variable [Facts]

def fn {F : FTy → Type} [FloatOps F] (main_arg0 : FVec F S4x8192x1024 .f32) (main_arg1 : FVec F S16x4096x1024 .f32) (main_arg2 : FVec F S1x1024 .f32) (main_arg3 : FVec F S1x1024x2816 .f32) (main_arg4 : FVec F S1x1024x2816 .f32) (main_arg5 : FVec F S1x2816x1024 .f32) (main_arg6 : FVec F S1x1024 .f32) (main_arg7 : FVec F S1x1024x2048 .f32) (main_arg8 : FVec F S1x3x512 .f32) (main_arg9 : FVec F S1x512 .f32) (main_arg10 : FVec F S1x512 .f32) (main_arg11 : FVec F S1x1024x1024 .f32) (main_arg12 : FVec F S1x1024 .f32) (main_arg13 : FVec F S1x1024x2816 .f32) (main_arg14 : FVec F S1x1024x2816 .f32) (main_arg15 : FVec F S1x2816x1024 .f32) (main_arg16 : FVec F S1024 .f32) : IVec S_ 1 :=
  let main_v0 : FVec F S1x1024 .f32 := Host.absf main_arg6
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1x1024x2048 .f32 := Host.absf main_arg7
  let main_cst_0 : FVec F S_ .f32 := constant S_ .f32 0x7F800000#32
  let main_v5 : FVec F S1x1024x2048 .f32 := broadcastInDim S1x1024x2048 ![] bcast_S_S1x1024x2048 main_cst_0
  let main_v6 : IVec S1x1024x2048 1 := cmpf .olt main_v4 main_v5
  let main_c_1 : IVec S_ 1 := constantI S_ 1 1#1
  let main_v7 : IVec S_ 1 := (fun x v => Host.reduce IntOp.andi x v reducesTo_S1x1024x2048_S_d0_1_2 h_S_) main_v6 main_c_1
  let main_v8 : IVec S_ 1 := andi main_v3 main_v7
  main_v8
-- ==== Kernel.lean ====
abbrev S4x8192x1024 : Shape := ⟨3, ![4, 8192, 1024]⟩
abbrev S16x4096x1024 : Shape := ⟨3, ![16, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x1024x2048 : Shape := ⟨3, ![1, 1024, 2048]⟩
abbrev S1x3x512 : Shape := ⟨3, ![1, 3, 512]⟩
abbrev S1x512 : Shape := ⟨2, ![1, 512]⟩
abbrev S1x1024x1024 : Shape := ⟨3, ![1, 1024, 1024]⟩
abbrev S1024 : Shape := ⟨1, ![1024]⟩
abbrev S1024x2816 : Shape := ⟨2, ![1024, 2816]⟩
abbrev S2816x1024 : Shape := ⟨2, ![2816, 1024]⟩
abbrev S1024x2048 : Shape := ⟨2, ![1024, 2048]⟩
abbrev S3x512 : Shape := ⟨2, ![3, 512]⟩
abbrev S512 : Shape := ⟨1, ![512]⟩
abbrev S1024x1024 : Shape := ⟨2, ![1024, 1024]⟩
abbrev S32768x1024 : Shape := ⟨2, ![32768, 1024]⟩
abbrev S32768x512 : Shape := ⟨2, ![32768, 512]⟩
abbrev S512x1024 : Shape := ⟨2, ![512, 1024]⟩
abbrev S512x512 : Shape := ⟨2, ![512, 512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩
abbrev S512x2048 : Shape := ⟨2, ![512, 2048]⟩
abbrev S128 : Shape := ⟨1, ![128]⟩
abbrev S1x128x1 : Shape := ⟨3, ![1, 128, 1]⟩
abbrev S1x1x128 : Shape := ⟨3, ![1, 1, 128]⟩
abbrev S64 : Shape := ⟨1, ![64]⟩
abbrev S64x1x1 : Shape := ⟨3, ![64, 1, 1]⟩
abbrev S_ : Shape := ⟨0, ![]⟩
abbrev S64x1x128 : Shape := ⟨3, ![64, 1, 128]⟩
abbrev S64x128x128 : Shape := ⟨3, ![64, 128, 128]⟩
abbrev S64x256x128 : Shape := ⟨3, ![64, 256, 128]⟩
abbrev S64x1 : Shape := ⟨2, ![64, 1]⟩
abbrev S1x64 : Shape := ⟨2, ![1, 64]⟩
abbrev S64x64 : Shape := ⟨2, ![64, 64]⟩
abbrev S128x64 : Shape := ⟨2, ![128, 64]⟩
abbrev S4x8192x512 : Shape := ⟨3, ![4, 8192, 512]⟩
abbrev S4x128x64x512 : Shape := ⟨4, ![4, 128, 64, 512]⟩
abbrev S4x64x256x512 : Shape := ⟨4, ![4, 64, 256, 512]⟩
abbrev S1x128x8x512 : Shape := ⟨4, ![1, 128, 8, 512]⟩
abbrev S8x256x128 : Shape := ⟨3, ![8, 256, 128]⟩
abbrev S1x8x256x512 : Shape := ⟨4, ![1, 8, 256, 512]⟩
abbrev S1x128x1x512 : Shape := ⟨4, ![1, 128, 1, 512]⟩
abbrev S128x512 : Shape := ⟨2, ![128, 512]⟩
abbrev S1x256x128 : Shape := ⟨3, ![1, 256, 128]⟩
abbrev S256x128 : Shape := ⟨2, ![256, 128]⟩
abbrev S256x512 : Shape := ⟨2, ![256, 512]⟩
abbrev S1x1x256x512 : Shape := ⟨4, ![1, 1, 256, 512]⟩
abbrev S4x64x128x512 : Shape := ⟨4, ![4, 64, 128, 512]⟩
abbrev S1x64x8x512 : Shape := ⟨4, ![1, 64, 8, 512]⟩
abbrev S1x64x1x512 : Shape := ⟨4, ![1, 64, 1, 512]⟩
abbrev S64x512 : Shape := ⟨2, ![64, 512]⟩
abbrev S128x1 : Shape := ⟨2, ![128, 1]⟩
abbrev S1x128 : Shape := ⟨2, ![1, 128]⟩
abbrev S128x128 : Shape := ⟨2, ![128, 128]⟩
abbrev S2x2 : Shape := ⟨2, ![2, 2]⟩
abbrev S2x1x2x1 : Shape := ⟨4, ![2, 1, 2, 1]⟩
abbrev S1x128x1x128 : Shape := ⟨4, ![1, 128, 1, 128]⟩
abbrev S2x128x2x128 : Shape := ⟨4, ![2, 128, 2, 128]⟩
abbrev S256x256 : Shape := ⟨2, ![256, 256]⟩
abbrev S8x512 : Shape := ⟨2, ![8, 512]⟩
abbrev S512x256 : Shape := ⟨2, ![512, 256]⟩
abbrev S65536x1024 : Shape := ⟨2, ![65536, 1024]⟩
abbrev S65536x512 : Shape := ⟨2, ![65536, 512]⟩
abbrev S1x64x1 : Shape := ⟨3, ![1, 64, 1]⟩
abbrev S1x1x64 : Shape := ⟨3, ![1, 1, 64]⟩
abbrev S64x1x64 : Shape := ⟨3, ![64, 1, 64]⟩
abbrev S64x64x64 : Shape := ⟨3, ![64, 64, 64]⟩
abbrev S64x128x64 : Shape := ⟨3, ![64, 128, 64]⟩
abbrev S16x4096x512 : Shape := ⟨3, ![16, 4096, 512]⟩
abbrev S16x64x64x512 : Shape := ⟨4, ![16, 64, 64, 512]⟩
abbrev S16x64x128x512 : Shape := ⟨4, ![16, 64, 128, 512]⟩
abbrev S8x128x64 : Shape := ⟨3, ![8, 128, 64]⟩
abbrev S1x8x128x512 : Shape := ⟨4, ![1, 8, 128, 512]⟩
abbrev S1x128x64 : Shape := ⟨3, ![1, 128, 64]⟩
abbrev S1x1x128x512 : Shape := ⟨4, ![1, 1, 128, 512]⟩

abbrev nBuf : Space → Nat
  | .hbm => 433
  | .vmem => 118
  | .smem => 0
  | _ => 0

abbrev hbmTy0_0 (i : Nat) : BufTy := match i % 128 with
  | 0 => ⟨S4x8192x1024, .f32⟩
  | 1 => ⟨S16x4096x1024, .f32⟩
  | 2 => ⟨S1x1024, .f32⟩
  | 3 => ⟨S1x1024x2816, .f32⟩
  | 4 => ⟨S1x1024x2816, .f32⟩
  | 5 => ⟨S1x2816x1024, .f32⟩
  | 6 => ⟨S1x1024, .f32⟩
  | 7 => ⟨S1x1024x2048, .f32⟩
  | 8 => ⟨S1x3x512, .f32⟩
  | 9 => ⟨S1x512, .f32⟩
  | 10 => ⟨S1x512, .f32⟩
  | 11 => ⟨S1x1024x1024, .f32⟩
  | 12 => ⟨S1x1024, .f32⟩
  | 13 => ⟨S1x1024x2816, .f32⟩
  | 14 => ⟨S1x1024x2816, .f32⟩
  | 15 => ⟨S1x2816x1024, .f32⟩
  | 16 => ⟨S1024, .f32⟩
  | 17 => ⟨S1024, .f32⟩
  | 18 => ⟨S1x1024, .f32⟩
  | 19 => ⟨S1024x2816, .f32⟩
  | 20 => ⟨S1024x2816, .bf16⟩
  | 21 => ⟨S1024x2816, .f32⟩
  | 22 => ⟨S1024x2816, .bf16⟩
  | 23 => ⟨S2816x1024, .f32⟩
  | 24 => ⟨S2816x1024, .bf16⟩
  | 25 => ⟨S1024, .f32⟩
  | 26 => ⟨S1x1024, .f32⟩
  | 27 => ⟨S1024x2048, .f32⟩
  | 28 => ⟨S1024x2048, .bf16⟩
  | 29 => ⟨S3x512, .f32⟩
  | 30 => ⟨S512, .f32⟩
  | 31 => ⟨S1x512, .f32⟩
  | 32 => ⟨S512, .f32⟩
  | 33 => ⟨S1x512, .f32⟩
  | 34 => ⟨S1024x1024, .f32⟩
  | 35 => ⟨S1024x1024, .bf16⟩
  | 36 => ⟨S1024, .f32⟩
  | 37 => ⟨S1x1024, .f32⟩
  | 38 => ⟨S1024x2816, .f32⟩
  | 39 => ⟨S1024x2816, .bf16⟩
  | 40 => ⟨S1024x2816, .f32⟩
  | 41 => ⟨S1024x2816, .bf16⟩
  | 42 => ⟨S2816x1024, .f32⟩
  | 43 => ⟨S2816x1024, .bf16⟩
  | 44 => ⟨S1x1024, .f32⟩
  | 45 => ⟨S32768x1024, .f32⟩
  | 46 => ⟨S32768x1024, .f32⟩
  | 47 => ⟨S32768x512, .f32⟩
  | 48 => ⟨S32768x512, .bf16⟩
  | 49 => ⟨S32768x512, .bf16⟩
  | 50 => ⟨S128, .i32⟩
  | 51 => ⟨S1x128x1, .i32⟩
  | 52 => ⟨S128, .i32⟩
  | 53 => ⟨S1x1x128, .i32⟩
  | 54 => ⟨S64, .i32⟩
  | 55 => ⟨S64x1x1, .i32⟩
  | 56 => ⟨S_, .f32⟩
  | 57 => ⟨S_, .f32⟩
  | 58 => ⟨S_, .f32⟩
  | 59 => ⟨S_, .f32⟩
  | 60 => ⟨S_, .i32⟩
  | 61 => ⟨S1x1x128, .i32⟩
  | 62 => ⟨S1x1x128, .i32⟩
  | 63 => ⟨S64x1x128, .i32⟩
  | 64 => ⟨S64x1x128, .i32⟩
  | 65 => ⟨S64x1x128, .i32⟩
  | 66 => ⟨S64x128x128, .i32⟩
  | 67 => ⟨S64x128x128, .i32⟩
  | 68 => ⟨S64x128x128, .i32⟩
  | 69 => ⟨S_, .i32⟩
  | 70 => ⟨S_, .i32⟩
  | 71 => ⟨S_, .i32⟩
  | 72 => ⟨S_, .i1⟩
  | 73 => ⟨S_, .i32⟩
  | 74 => ⟨S_, .i32⟩
  | 75 => ⟨S64x128x128, .i32⟩
  | 76 => ⟨S64x128x128, .i32⟩
  | 77 => ⟨S_, .i32⟩
  | 78 => ⟨S64x128x128, .i32⟩
  | 79 => ⟨S64x128x128, .i1⟩
  | 80 => ⟨S_, .i32⟩
  | 81 => ⟨S64x128x128, .i32⟩
  | 82 => ⟨S64x128x128, .i1⟩
  | 83 => ⟨S_, .i32⟩
  | 84 => ⟨S_, .i1⟩
  | 85 => ⟨S64x128x128, .i1⟩
  | 86 => ⟨S64x128x128, .i1⟩
  | 87 => ⟨S64x128x128, .i1⟩
  | 88 => ⟨S64x128x128, .i32⟩
  | 89 => ⟨S64x128x128, .i32⟩
  | 90 => ⟨S64x128x128, .i32⟩
  | 91 => ⟨S64x128x128, .f32⟩
  | 92 => ⟨S64x128x128, .f32⟩
  | 93 => ⟨S64x128x128, .f32⟩
  | 94 => ⟨S_, .f32⟩
  | 95 => ⟨S64x128x128, .f32⟩
  | 96 => ⟨S64x128x128, .f32⟩
  | 97 => ⟨S64x128x128, .f32⟩
  | 98 => ⟨S64x128x128, .f32⟩
  | 99 => ⟨S64x128x128, .f32⟩
  | 100 => ⟨S64x256x128, .f32⟩
  | 101 => ⟨S_, .f32⟩
  | 102 => ⟨S_, .f32⟩
  | 103 => ⟨S64x256x128, .f32⟩
  | 104 => ⟨S64x256x128, .f32⟩
  | 105 => ⟨S64x256x128, .bf16⟩
  | 106 => ⟨S64, .i32⟩
  | 107 => ⟨S_, .f32⟩
  | 108 => ⟨S_, .f32⟩
  | 109 => ⟨S_, .f32⟩
  | 110 => ⟨S_, .f32⟩
  | 111 => ⟨S64x1, .i32⟩
  | 112 => ⟨S1x64, .i32⟩
  | 113 => ⟨S64x64, .i32⟩
  | 114 => ⟨S64x64, .i32⟩
  | 115 => ⟨S64x64, .i32⟩
  | 116 => ⟨S_, .i32⟩
  | 117 => ⟨S_, .i32⟩
  | 118 => ⟨S_, .i32⟩
  | 119 => ⟨S_, .i1⟩
  | 120 => ⟨S_, .i32⟩
  | 121 => ⟨S_, .i32⟩
  | 122 => ⟨S64x64, .i32⟩
  | 123 => ⟨S64x64, .i32⟩
  | 124 => ⟨S_, .i32⟩
  | 125 => ⟨S64x64, .i32⟩
  | 126 => ⟨S64x64, .i1⟩
  | 127 => ⟨S_, .i32⟩
  | _ => ⟨S4x8192x1024, .f32⟩

abbrev hbmTy0_1 (i : Nat) : BufTy := match i % 128 with
  | 0 => ⟨S64x64, .i32⟩
  | 1 => ⟨S64x64, .i1⟩
  | 2 => ⟨S_, .i32⟩
  | 3 => ⟨S_, .i1⟩
  | 4 => ⟨S64x64, .i1⟩
  | 5 => ⟨S64x64, .i1⟩
  | 6 => ⟨S64x64, .i1⟩
  | 7 => ⟨S64x64, .i32⟩
  | 8 => ⟨S64x64, .i32⟩
  | 9 => ⟨S64x64, .i32⟩
  | 10 => ⟨S64x64, .f32⟩
  | 11 => ⟨S64x64, .f32⟩
  | 12 => ⟨S64x64, .f32⟩
  | 13 => ⟨S_, .f32⟩
  | 14 => ⟨S64x64, .f32⟩
  | 15 => ⟨S64x64, .f32⟩
  | 16 => ⟨S64x64, .f32⟩
  | 17 => ⟨S_, .f32⟩
  | 18 => ⟨S_, .f32⟩
  | 19 => ⟨S64x64, .f32⟩
  | 20 => ⟨S64x64, .f32⟩
  | 21 => ⟨S64x64, .f32⟩
  | 22 => ⟨S_, .f32⟩
  | 23 => ⟨S_, .f32⟩
  | 24 => ⟨S64x64, .f32⟩
  | 25 => ⟨S64x64, .f32⟩
  | 26 => ⟨S64x64, .f32⟩
  | 27 => ⟨S128x64, .f32⟩
  | 28 => ⟨S128x64, .f32⟩
  | 29 => ⟨S128x64, .bf16⟩
  | 30 => ⟨S128x64, .bf16⟩
  | 31 => ⟨S4x8192x512, .f32⟩
  | 32 => ⟨S4x128x64x512, .f32⟩
  | 33 => ⟨S4x64x256x512, .f32⟩
  | 34 => ⟨S4x64x128x512, .f32⟩
  | 35 => ⟨S4x64x128x512, .f32⟩
  | 36 => ⟨S4x8192x512, .f32⟩
  | 37 => ⟨S4x8192x512, .f32⟩
  | 38 => ⟨S128, .i32⟩
  | 39 => ⟨S_, .f32⟩
  | 40 => ⟨S_, .f32⟩
  | 41 => ⟨S_, .f32⟩
  | 42 => ⟨S_, .f32⟩
  | 43 => ⟨S128x1, .i32⟩
  | 44 => ⟨S1x128, .i32⟩
  | 45 => ⟨S128x128, .i32⟩
  | 46 => ⟨S128x128, .i32⟩
  | 47 => ⟨S128x128, .i32⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S128x128, .i32⟩
  | 55 => ⟨S128x128, .i32⟩
  | 56 => ⟨S_, .i32⟩
  | 57 => ⟨S128x128, .i32⟩
  | 58 => ⟨S128x128, .i1⟩
  | 59 => ⟨S_, .i32⟩
  | 60 => ⟨S128x128, .i32⟩
  | 61 => ⟨S128x128, .i1⟩
  | 62 => ⟨S_, .i32⟩
  | 63 => ⟨S_, .i1⟩
  | 64 => ⟨S128x128, .i1⟩
  | 65 => ⟨S128x128, .i1⟩
  | 66 => ⟨S128x128, .i1⟩
  | 67 => ⟨S128x128, .i32⟩
  | 68 => ⟨S128x128, .i32⟩
  | 69 => ⟨S128x128, .i32⟩
  | 70 => ⟨S128x128, .f32⟩
  | 71 => ⟨S128x128, .f32⟩
  | 72 => ⟨S128x128, .f32⟩
  | 73 => ⟨S_, .f32⟩
  | 74 => ⟨S128x128, .f32⟩
  | 75 => ⟨S128x128, .f32⟩
  | 76 => ⟨S128x128, .f32⟩
  | 77 => ⟨S_, .f32⟩
  | 78 => ⟨S_, .f32⟩
  | 79 => ⟨S128x128, .f32⟩
  | 80 => ⟨S128x128, .f32⟩
  | 81 => ⟨S128x128, .f32⟩
  | 82 => ⟨S_, .f32⟩
  | 83 => ⟨S_, .f32⟩
  | 84 => ⟨S128x128, .f32⟩
  | 85 => ⟨S128x128, .f32⟩
  | 86 => ⟨S2x2, .i32⟩
  | 87 => ⟨S2x2, .i32⟩
  | 88 => ⟨S_, .i32⟩
  | 89 => ⟨S2x2, .i32⟩
  | 90 => ⟨S2x2, .i32⟩
  | 91 => ⟨S2x2, .i1⟩
  | 92 => ⟨S2x2, .f32⟩
  | 93 => ⟨S2x1x2x1, .f32⟩
  | 94 => ⟨S1x128x1x128, .f32⟩
  | 95 => ⟨S2x128x2x128, .f32⟩
  | 96 => ⟨S2x128x2x128, .f32⟩
  | 97 => ⟨S2x128x2x128, .f32⟩
  | 98 => ⟨S256x256, .f32⟩
  | 99 => ⟨S2x1x2x1, .f32⟩
  | 100 => ⟨S1x128x1x128, .f32⟩
  | 101 => ⟨S2x128x2x128, .f32⟩
  | 102 => ⟨S2x128x2x128, .f32⟩
  | 103 => ⟨S2x128x2x128, .f32⟩
  | 104 => ⟨S256x256, .f32⟩
  | 105 => ⟨S256x256, .bf16⟩
  | 106 => ⟨S256x256, .bf16⟩
  | 107 => ⟨S32768x512, .f32⟩
  | 108 => ⟨S32768x512, .f32⟩
  | 109 => ⟨S32768x1024, .f32⟩
  | 110 => ⟨S4x8192x1024, .f32⟩
  | 111 => ⟨S65536x1024, .f32⟩
  | 112 => ⟨S65536x1024, .f32⟩
  | 113 => ⟨S65536x512, .f32⟩
  | 114 => ⟨S65536x512, .bf16⟩
  | 115 => ⟨S65536x512, .bf16⟩
  | 116 => ⟨S64, .i32⟩
  | 117 => ⟨S1x64x1, .i32⟩
  | 118 => ⟨S64, .i32⟩
  | 119 => ⟨S1x1x64, .i32⟩
  | 120 => ⟨S64, .i32⟩
  | 121 => ⟨S64x1x1, .i32⟩
  | 122 => ⟨S_, .f32⟩
  | 123 => ⟨S_, .f32⟩
  | 124 => ⟨S_, .f32⟩
  | 125 => ⟨S_, .f32⟩
  | 126 => ⟨S_, .i32⟩
  | 127 => ⟨S1x1x64, .i32⟩
  | _ => ⟨S4x8192x1024, .f32⟩

abbrev hbmTy0_2 (i : Nat) : BufTy := match i % 128 with
  | 0 => ⟨S1x1x64, .i32⟩
  | 1 => ⟨S64x1x64, .i32⟩
  | 2 => ⟨S64x1x64, .i32⟩
  | 3 => ⟨S64x1x64, .i32⟩
  | 4 => ⟨S64x64x64, .i32⟩
  | 5 => ⟨S64x64x64, .i32⟩
  | 6 => ⟨S64x64x64, .i32⟩
  | 7 => ⟨S_, .i32⟩
  | 8 => ⟨S_, .i32⟩
  | 9 => ⟨S_, .i32⟩
  | 10 => ⟨S_, .i1⟩
  | 11 => ⟨S_, .i32⟩
  | 12 => ⟨S_, .i32⟩
  | 13 => ⟨S64x64x64, .i32⟩
  | 14 => ⟨S64x64x64, .i32⟩
  | 15 => ⟨S_, .i32⟩
  | 16 => ⟨S64x64x64, .i32⟩
  | 17 => ⟨S64x64x64, .i1⟩
  | 18 => ⟨S_, .i32⟩
  | 19 => ⟨S64x64x64, .i32⟩
  | 20 => ⟨S64x64x64, .i1⟩
  | 21 => ⟨S_, .i32⟩
  | 22 => ⟨S_, .i1⟩
  | 23 => ⟨S64x64x64, .i1⟩
  | 24 => ⟨S64x64x64, .i1⟩
  | 25 => ⟨S64x64x64, .i1⟩
  | 26 => ⟨S64x64x64, .i32⟩
  | 27 => ⟨S64x64x64, .i32⟩
  | 28 => ⟨S64x64x64, .i32⟩
  | 29 => ⟨S64x64x64, .f32⟩
  | 30 => ⟨S64x64x64, .f32⟩
  | 31 => ⟨S64x64x64, .f32⟩
  | 32 => ⟨S_, .f32⟩
  | 33 => ⟨S64x64x64, .f32⟩
  | 34 => ⟨S64x64x64, .f32⟩
  | 35 => ⟨S64x64x64, .f32⟩
  | 36 => ⟨S64x64x64, .f32⟩
  | 37 => ⟨S64x64x64, .f32⟩
  | 38 => ⟨S64x128x64, .f32⟩
  | 39 => ⟨S_, .f32⟩
  | 40 => ⟨S_, .f32⟩
  | 41 => ⟨S64x128x64, .f32⟩
  | 42 => ⟨S64x128x64, .f32⟩
  | 43 => ⟨S64x128x64, .bf16⟩
  | 44 => ⟨S64, .i32⟩
  | 45 => ⟨S_, .f32⟩
  | 46 => ⟨S_, .f32⟩
  | 47 => ⟨S_, .f32⟩
  | 48 => ⟨S_, .f32⟩
  | 49 => ⟨S64x1, .i32⟩
  | 50 => ⟨S1x64, .i32⟩
  | 51 => ⟨S64x64, .i32⟩
  | 52 => ⟨S64x64, .i32⟩
  | 53 => ⟨S64x64, .i32⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S64x64, .i32⟩
  | 61 => ⟨S64x64, .i32⟩
  | 62 => ⟨S_, .i32⟩
  | 63 => ⟨S64x64, .i32⟩
  | 64 => ⟨S64x64, .i1⟩
  | 65 => ⟨S_, .i32⟩
  | 66 => ⟨S64x64, .i32⟩
  | 67 => ⟨S64x64, .i1⟩
  | 68 => ⟨S_, .i32⟩
  | 69 => ⟨S_, .i1⟩
  | 70 => ⟨S64x64, .i1⟩
  | 71 => ⟨S64x64, .i1⟩
  | 72 => ⟨S64x64, .i1⟩
  | 73 => ⟨S64x64, .i32⟩
  | 74 => ⟨S64x64, .i32⟩
  | 75 => ⟨S64x64, .i32⟩
  | 76 => ⟨S64x64, .f32⟩
  | 77 => ⟨S64x64, .f32⟩
  | 78 => ⟨S64x64, .f32⟩
  | 79 => ⟨S_, .f32⟩
  | 80 => ⟨S64x64, .f32⟩
  | 81 => ⟨S64x64, .f32⟩
  | 82 => ⟨S64x64, .f32⟩
  | 83 => ⟨S_, .f32⟩
  | 84 => ⟨S_, .f32⟩
  | 85 => ⟨S64x64, .f32⟩
  | 86 => ⟨S64x64, .f32⟩
  | 87 => ⟨S64x64, .f32⟩
  | 88 => ⟨S_, .f32⟩
  | 89 => ⟨S_, .f32⟩
  | 90 => ⟨S64x64, .f32⟩
  | 91 => ⟨S64x64, .f32⟩
  | 92 => ⟨S64x64, .f32⟩
  | 93 => ⟨S128x64, .f32⟩
  | 94 => ⟨S128x64, .f32⟩
  | 95 => ⟨S128x64, .bf16⟩
  | 96 => ⟨S128x64, .bf16⟩
  | 97 => ⟨S16x4096x512, .f32⟩
  | 98 => ⟨S16x64x64x512, .f32⟩
  | 99 => ⟨S16x64x128x512, .f32⟩
  | 100 => ⟨S16x64x64x512, .f32⟩
  | 101 => ⟨S16x64x64x512, .f32⟩
  | 102 => ⟨S16x4096x512, .f32⟩
  | 103 => ⟨S16x4096x512, .f32⟩
  | 104 => ⟨S128, .i32⟩
  | 105 => ⟨S_, .f32⟩
  | 106 => ⟨S_, .f32⟩
  | 107 => ⟨S_, .f32⟩
  | 108 => ⟨S_, .f32⟩
  | 109 => ⟨S128x1, .i32⟩
  | 110 => ⟨S1x128, .i32⟩
  | 111 => ⟨S128x128, .i32⟩
  | 112 => ⟨S128x128, .i32⟩
  | 113 => ⟨S128x128, .i32⟩
  | 114 => ⟨S_, .i32⟩
  | 115 => ⟨S_, .i32⟩
  | 116 => ⟨S_, .i32⟩
  | 117 => ⟨S_, .i1⟩
  | 118 => ⟨S_, .i32⟩
  | 119 => ⟨S_, .i32⟩
  | 120 => ⟨S128x128, .i32⟩
  | 121 => ⟨S128x128, .i32⟩
  | 122 => ⟨S_, .i32⟩
  | 123 => ⟨S128x128, .i32⟩
  | 124 => ⟨S128x128, .i1⟩
  | 125 => ⟨S_, .i32⟩
  | 126 => ⟨S128x128, .i32⟩
  | 127 => ⟨S128x128, .i1⟩
  | _ => ⟨S4x8192x1024, .f32⟩

abbrev hbmTy0_3 (i : Nat) : BufTy := match i % 128 with
  | 0 => ⟨S_, .i32⟩
  | 1 => ⟨S_, .i1⟩
  | 2 => ⟨S128x128, .i1⟩
  | 3 => ⟨S128x128, .i1⟩
  | 4 => ⟨S128x128, .i1⟩
  | 5 => ⟨S128x128, .i32⟩
  | 6 => ⟨S128x128, .i32⟩
  | 7 => ⟨S128x128, .i32⟩
  | 8 => ⟨S128x128, .f32⟩
  | 9 => ⟨S128x128, .f32⟩
  | 10 => ⟨S128x128, .f32⟩
  | 11 => ⟨S_, .f32⟩
  | 12 => ⟨S128x128, .f32⟩
  | 13 => ⟨S128x128, .f32⟩
  | 14 => ⟨S128x128, .f32⟩
  | 15 => ⟨S_, .f32⟩
  | 16 => ⟨S_, .f32⟩
  | 17 => ⟨S128x128, .f32⟩
  | 18 => ⟨S128x128, .f32⟩
  | 19 => ⟨S128x128, .f32⟩
  | 20 => ⟨S_, .f32⟩
  | 21 => ⟨S_, .f32⟩
  | 22 => ⟨S128x128, .f32⟩
  | 23 => ⟨S128x128, .f32⟩
  | 24 => ⟨S2x2, .i32⟩
  | 25 => ⟨S2x2, .i32⟩
  | 26 => ⟨S_, .i32⟩
  | 27 => ⟨S2x2, .i32⟩
  | 28 => ⟨S2x2, .i32⟩
  | 29 => ⟨S2x2, .i1⟩
  | 30 => ⟨S2x2, .f32⟩
  | 31 => ⟨S2x1x2x1, .f32⟩
  | 32 => ⟨S1x128x1x128, .f32⟩
  | 33 => ⟨S2x128x2x128, .f32⟩
  | 34 => ⟨S2x128x2x128, .f32⟩
  | 35 => ⟨S2x128x2x128, .f32⟩
  | 36 => ⟨S256x256, .f32⟩
  | 37 => ⟨S2x1x2x1, .f32⟩
  | 38 => ⟨S1x128x1x128, .f32⟩
  | 39 => ⟨S2x128x2x128, .f32⟩
  | 40 => ⟨S2x128x2x128, .f32⟩
  | 41 => ⟨S2x128x2x128, .f32⟩
  | 42 => ⟨S256x256, .f32⟩
  | 43 => ⟨S256x256, .bf16⟩
  | 44 => ⟨S256x256, .bf16⟩
  | 45 => ⟨S65536x512, .f32⟩
  | 46 => ⟨S65536x512, .f32⟩
  | 47 => ⟨S65536x1024, .f32⟩
  | 48 => ⟨S16x4096x1024, .f32⟩
  | _ => ⟨S4x8192x1024, .f32⟩

abbrev hbmTy (i : Nat) : BufTy := match i / 128 with
  | 0 => hbmTy0_0 i
  | 1 => hbmTy0_1 i
  | 2 => hbmTy0_2 i
  | 3 => hbmTy0_3 i
  | _ => ⟨S4x8192x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1024x2048, .bf16⟩
  | .local _ .vmem, ⟨8, _⟩ => ⟨S512x1024, .f32⟩
  | .local _ .vmem, ⟨9, _⟩ => ⟨S512x1024, .f32⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S1x128x8x512, .f32⟩
  | .local _ .vmem, ⟨17, _⟩ => ⟨S1x128x8x512, .f32⟩
  | .local _ .vmem, ⟨18, _⟩ => ⟨S8x256x128, .bf16⟩
  | .local _ .vmem, ⟨19, _⟩ => ⟨S8x256x128, .bf16⟩
  | .local _ .vmem, ⟨20, _⟩ => ⟨S1x8x256x512, .f32⟩
  | .local _ .vmem, ⟨21, _⟩ => ⟨S1x8x256x512, .f32⟩
  | .local _ .vmem, ⟨22, _⟩ => ⟨S1x64x8x512, .f32⟩
  | .local _ .vmem, ⟨23, _⟩ => ⟨S1x64x8x512, .f32⟩
  | .local _ .vmem, ⟨24, _⟩ => ⟨S1x64x8x512, .f32⟩
  | .local _ .vmem, ⟨25, _⟩ => ⟨S1x64x8x512, .f32⟩
  | .local _ .vmem, ⟨26, _⟩ => ⟨S128x64, .bf16⟩
  | .local _ .vmem, ⟨27, _⟩ => ⟨S128x64, .bf16⟩
  | .local _ .vmem, ⟨28, _⟩ => ⟨S1x64x8x512, .f32⟩
  | .local _ .vmem, ⟨29, _⟩ => ⟨S1x64x8x512, .f32⟩
  | .local _ .vmem, ⟨30, _⟩ => ⟨S1x64x8x512, .f32⟩
  | .local _ .vmem, ⟨31, _⟩ => ⟨S1x64x8x512, .f32⟩
  | .local _ .vmem, ⟨32, _⟩ => ⟨S512x1024, .f32⟩
  | .local _ .vmem, ⟨33, _⟩ => ⟨S512x1024, .f32⟩
  | .local _ .vmem, ⟨34, _⟩ => ⟨S512x512, .f32⟩
  | .local _ .vmem, ⟨35, _⟩ => ⟨S512x512, .f32⟩
  | .local _ .vmem, ⟨36, _⟩ => ⟨S512x512, .f32⟩
  | .local _ .vmem, ⟨37, _⟩ => ⟨S512x512, .f32⟩
  | .local _ .vmem, ⟨38, _⟩ => ⟨S512x512, .bf16⟩
  | .local _ .vmem, ⟨39, _⟩ => ⟨S512x512, .bf16⟩
  | .local _ .vmem, ⟨40, _⟩ => ⟨S512x512, .bf16⟩
  | .local _ .vmem, ⟨41, _⟩ => ⟨S512x512, .bf16⟩
  | .local _ .vmem, ⟨42, _⟩ => ⟨S8x512, .bf16⟩
  | .local _ .vmem, ⟨43, _⟩ => ⟨S8x512, .bf16⟩
  | .local _ .vmem, ⟨44, _⟩ => ⟨S8x512, .bf16⟩
  | .local _ .vmem, ⟨45, _⟩ => ⟨S8x512, .bf16⟩
  | .local _ .vmem, ⟨46, _⟩ => ⟨S256x256, .bf16⟩
  | .local _ .vmem, ⟨47, _⟩ => ⟨S256x256, .bf16⟩
  | .local _ .vmem, ⟨48, _⟩ => ⟨S3x512, .f32⟩
  | .local _ .vmem, ⟨49, _⟩ => ⟨S1x512, .f32⟩
  | .local _ .vmem, ⟨50, _⟩ => ⟨S1x512, .f32⟩
  | .local _ .vmem, ⟨51, _⟩ => ⟨S1024x1024, .bf16⟩
  | .local _ .vmem, ⟨52, _⟩ => ⟨S1x1024, .f32⟩
  | .local _ .vmem, ⟨53, _⟩ => ⟨S1024x2816, .bf16⟩
  | .local _ .vmem, ⟨54, _⟩ => ⟨S1024x2816, .bf16⟩
  | .local _ .vmem, ⟨55, _⟩ => ⟨S2816x1024, .bf16⟩
  | .local _ .vmem, ⟨56, _⟩ => ⟨S1x1024, .f32⟩
  | .local _ .vmem, ⟨57, _⟩ => ⟨S512x1024, .f32⟩
  | .local _ .vmem, ⟨58, _⟩ => ⟨S512x1024, .f32⟩
  | .local _ .vmem, ⟨59, _⟩ => ⟨S512x1024, .f32⟩
  | .local _ .vmem, ⟨60, _⟩ => ⟨S512x1024, .f32⟩
  | .local _ .vmem, ⟨61, _⟩ => ⟨S1x1024, .f32⟩
  | .local _ .vmem, ⟨62, _⟩ => ⟨S1024x2816, .bf16⟩
  | .local _ .vmem, ⟨63, _⟩ => ⟨S1024x2816, .bf16⟩
  | .local _ .vmem, ⟨64, _⟩ => ⟨S2816x1024, .bf16⟩
  | .local _ .vmem, ⟨65, _⟩ => ⟨S1x1024, .f32⟩
  | .local _ .vmem, ⟨66, _⟩ => ⟨S1024x2048, .bf16⟩
  | .local _ .vmem, ⟨67, _⟩ => ⟨S512x1024, .f32⟩
  | .local _ .vmem, ⟨68, _⟩ => ⟨S512x1024, .f32⟩
  | .local _ .vmem, ⟨69, _⟩ => ⟨S512x512, .f32⟩
  | .local _ .vmem, ⟨70, _⟩ => ⟨S512x512, .f32⟩
  | .local _ .vmem, ⟨71, _⟩ => ⟨S512x512, .bf16⟩
  | .local _ .vmem, ⟨72, _⟩ => ⟨S512x512, .bf16⟩
  | .local _ .vmem, ⟨73, _⟩ => ⟨S512x512, .bf16⟩
  | .local _ .vmem, ⟨74, _⟩ => ⟨S512x512, .bf16⟩
  | .local _ .vmem, ⟨75, _⟩ => ⟨S1x64x8x512, .f32⟩
  | .local _ .vmem, ⟨76, _⟩ => ⟨S1x64x8x512, .f32⟩
  | .local _ .vmem, ⟨77, _⟩ => ⟨S8x128x64, .bf16⟩
  | .local _ .vmem, ⟨78, _⟩ => ⟨S8x128x64, .bf16⟩
  | .local _ .vmem, ⟨79, _⟩ => ⟨S1x8x128x512, .f32⟩
  | .local _ .vmem, ⟨80, _⟩ => ⟨S1x8x128x512, .f32⟩
  | .local _ .vmem, ⟨81, _⟩ => ⟨S1x64x8x512, .f32⟩
  | .local _ .vmem, ⟨82, _⟩ => ⟨S1x64x8x512, .f32⟩
  | .local _ .vmem, ⟨83, _⟩ => ⟨S1x64x8x512, .f32⟩
  | .local _ .vmem, ⟨84, _⟩ => ⟨S1x64x8x512, .f32⟩
  | .local _ .vmem, ⟨85, _⟩ => ⟨S128x64, .bf16⟩
  | .local _ .vmem, ⟨86, _⟩ => ⟨S128x64, .bf16⟩
  | .local _ .vmem, ⟨87, _⟩ => ⟨S1x64x8x512, .f32⟩
  | .local _ .vmem, ⟨88, _⟩ => ⟨S1x64x8x512, .f32⟩
  | .local _ .vmem, ⟨89, _⟩ => ⟨S1x64x8x512, .f32⟩
  | .local _ .vmem, ⟨90, _⟩ => ⟨S1x64x8x512, .f32⟩
  | .local _ .vmem, ⟨91, _⟩ => ⟨S512x1024, .f32⟩
  | .local _ .vmem, ⟨92, _⟩ => ⟨S512x1024, .f32⟩
  | .local _ .vmem, ⟨93, _⟩ => ⟨S512x512, .f32⟩
  | .local _ .vmem, ⟨94, _⟩ => ⟨S512x512, .f32⟩
  | .local _ .vmem, ⟨95, _⟩ => ⟨S512x512, .f32⟩
  | .local _ .vmem, ⟨96, _⟩ => ⟨S512x512, .f32⟩
  | .local _ .vmem, ⟨97, _⟩ => ⟨S512x512, .bf16⟩
  | .local _ .vmem, ⟨98, _⟩ => ⟨S512x512, .bf16⟩
  | .local _ .vmem, ⟨99, _⟩ => ⟨S512x512, .bf16⟩
  | .local _ .vmem, ⟨100, _⟩ => ⟨S512x512, .bf16⟩
  | .local _ .vmem, ⟨101, _⟩ => ⟨S8x512, .bf16⟩
  | .local _ .vmem, ⟨102, _⟩ => ⟨S8x512, .bf16⟩
  | .local _ .vmem, ⟨103, _⟩ => ⟨S8x512, .bf16⟩
  | .local _ .vmem, ⟨104, _⟩ => ⟨S8x512, .bf16⟩
  | .local _ .vmem, ⟨105, _⟩ => ⟨S256x256, .bf16⟩
  | .local _ .vmem, ⟨106, _⟩ => ⟨S256x256, .bf16⟩
  | .local _ .vmem, ⟨107, _⟩ => ⟨S3x512, .f32⟩
  | .local _ .vmem, ⟨108, _⟩ => ⟨S1x512, .f32⟩
  | .local _ .vmem, ⟨109, _⟩ => ⟨S1x512, .f32⟩
  | .local _ .vmem, ⟨110, _⟩ => ⟨S1024x1024, .bf16⟩
  | .local _ .vmem, ⟨111, _⟩ => ⟨S1x1024, .f32⟩
  | .local _ .vmem, ⟨112, _⟩ => ⟨S1024x2816, .bf16⟩
  | .local _ .vmem, ⟨113, _⟩ => ⟨S1024x2816, .bf16⟩
  | .local _ .vmem, ⟨114, _⟩ => ⟨S2816x1024, .bf16⟩
  | .local _ .vmem, ⟨115, _⟩ => ⟨S1x1024, .f32⟩
  | .local _ .vmem, ⟨116, _⟩ => ⟨S512x1024, .f32⟩
  | .local _ .vmem, ⟨117, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | _, _ => false

abbrev semScoped : Fin 0 → Bool
  | ⟨_, h⟩ => absurd h (Nat.not_lt_zero _)

abbrev dmaSemScoped : Fin 118 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | _ => false

abbrev sig : RefSig :=
  ofTc nBuf bufTy 0 118 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29_0 : Ref sig .tc := ⟨.hbm, 46, rfl⟩
abbrev main_v29_1 : Ref sig .tc := ⟨.hbm, 47, rfl⟩
abbrev main_v29_2 : Ref sig .tc := ⟨.hbm, 48, rfl⟩
abbrev main_v29_3 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst : Ref sig .tc := ⟨.hbm, 56, rfl⟩
abbrev main_v36 : Ref sig .tc := ⟨.hbm, 57, rfl⟩
abbrev main_cst_0 : Ref sig .tc := ⟨.hbm, 58, rfl⟩
abbrev main_v37 : Ref sig .tc := ⟨.hbm, 59, rfl⟩
abbrev main_c : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_1 : Ref sig .tc := ⟨.hbm, 69, rfl⟩
abbrev main_call0_v0 : Ref sig .tc := ⟨.hbm, 70, rfl⟩
abbrev main_call0_c : Ref sig .tc := ⟨.hbm, 71, rfl⟩
abbrev main_call0_v1 : Ref sig .tc := ⟨.hbm, 72, rfl⟩
abbrev main_call0_c_0 : Ref sig .tc := ⟨.hbm, 73, rfl⟩
abbrev main_call0_v2 : Ref sig .tc := ⟨.hbm, 74, rfl⟩
abbrev main_call0_v3 : Ref sig .tc := ⟨.hbm, 75, rfl⟩
abbrev main_call0_v4 : Ref sig .tc := ⟨.hbm, 76, rfl⟩
abbrev main_call0_c_1 : Ref sig .tc := ⟨.hbm, 77, rfl⟩
abbrev main_call0_v5 : Ref sig .tc := ⟨.hbm, 78, rfl⟩
abbrev main_call0_v6 : Ref sig .tc := ⟨.hbm, 79, rfl⟩
abbrev main_call0_c_2 : Ref sig .tc := ⟨.hbm, 80, rfl⟩
abbrev main_call0_v7 : Ref sig .tc := ⟨.hbm, 81, rfl⟩
abbrev main_call0_v8 : Ref sig .tc := ⟨.hbm, 82, rfl⟩
abbrev main_call0_c_3 : Ref sig .tc := ⟨.hbm, 83, rfl⟩
abbrev main_call0_v9 : Ref sig .tc := ⟨.hbm, 84, rfl⟩
abbrev main_call0_v10 : Ref sig .tc := ⟨.hbm, 85, rfl⟩
abbrev main_call0_v11 : Ref sig .tc := ⟨.hbm, 86, rfl⟩
abbrev main_call0_v12 : Ref sig .tc := ⟨.hbm, 87, rfl⟩
abbrev main_call0_v13 : Ref sig .tc := ⟨.hbm, 88, rfl⟩
abbrev main_call0_v14 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_cst_2 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_cst_3 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_cst_4 : Ref sig .tc := ⟨.hbm, 107, rfl⟩
abbrev main_v61 : Ref sig .tc := ⟨.hbm, 108, rfl⟩
abbrev main_cst_5 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_c_6 : Ref sig .tc := ⟨.hbm, 116, rfl⟩
abbrev main_call1_v0 : Ref sig .tc := ⟨.hbm, 117, rfl⟩
abbrev main_call1_c : Ref sig .tc := ⟨.hbm, 118, rfl⟩
abbrev main_call1_v1 : Ref sig .tc := ⟨.hbm, 119, rfl⟩
abbrev main_call1_c_0 : Ref sig .tc := ⟨.hbm, 120, rfl⟩
abbrev main_call1_v2 : Ref sig .tc := ⟨.hbm, 121, rfl⟩
abbrev main_call1_v3 : Ref sig .tc := ⟨.hbm, 122, rfl⟩
abbrev main_call1_v4 : Ref sig .tc := ⟨.hbm, 123, rfl⟩
abbrev main_call1_c_1 : Ref sig .tc := ⟨.hbm, 124, rfl⟩
abbrev main_call1_v5 : Ref sig .tc := ⟨.hbm, 125, rfl⟩
abbrev main_call1_v6 : Ref sig .tc := ⟨.hbm, 126, rfl⟩
abbrev main_call1_c_2 : Ref sig .tc := ⟨.hbm, 127, rfl⟩
abbrev main_call1_v7 : Ref sig .tc := ⟨.hbm, 128, rfl⟩
abbrev main_call1_v8 : Ref sig .tc := ⟨.hbm, 129, rfl⟩
abbrev main_call1_c_3 : Ref sig .tc := ⟨.hbm, 130, rfl⟩
abbrev main_call1_v9 : Ref sig .tc := ⟨.hbm, 131, rfl⟩
abbrev main_call1_v10 : Ref sig .tc := ⟨.hbm, 132, rfl⟩
abbrev main_call1_v11 : Ref sig .tc := ⟨.hbm, 133, rfl⟩
abbrev main_call1_v12 : Ref sig .tc := ⟨.hbm, 134, rfl⟩
abbrev main_call1_v13 : Ref sig .tc := ⟨.hbm, 135, rfl⟩
abbrev main_call1_v14 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_cst_7 : Ref sig .tc := ⟨.hbm, 141, rfl⟩
abbrev main_v72 : Ref sig .tc := ⟨.hbm, 142, rfl⟩
abbrev main_v73 : Ref sig .tc := ⟨.hbm, 143, rfl⟩
abbrev main_v74 : Ref sig .tc := ⟨.hbm, 144, rfl⟩
abbrev main_cst_8 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_cst_9 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_v86 : Ref sig .tc := ⟨.hbm, 158, rfl⟩
abbrev main_v87 : Ref sig .tc := ⟨.hbm, 159, rfl⟩
abbrev main_v88 : Ref sig .tc := ⟨.hbm, 160, rfl⟩
abbrev main_v89 : Ref sig .tc := ⟨.hbm, 161, rfl⟩
abbrev main_v90_0 : Ref sig .tc := ⟨.hbm, 162, rfl⟩
abbrev main_v90_1 : Ref sig .tc := ⟨.hbm, 163, rfl⟩
abbrev main_v91 : Ref sig .tc := ⟨.hbm, 164, rfl⟩
abbrev main_v92 : Ref sig .tc := ⟨.hbm, 165, rfl⟩
abbrev main_v93 : Ref sig .tc := ⟨.hbm, 166, rfl⟩
abbrev main_cst_10 : Ref sig .tc := ⟨.hbm, 167, rfl⟩
abbrev main_v94 : Ref sig .tc := ⟨.hbm, 168, rfl⟩
abbrev main_cst_11 : Ref sig .tc := ⟨.hbm, 169, rfl⟩
abbrev main_v95 : Ref sig .tc := ⟨.hbm, 170, rfl⟩
abbrev main_v96 : Ref sig .tc := ⟨.hbm, 171, rfl⟩
abbrev main_v97 : Ref sig .tc := ⟨.hbm, 172, rfl⟩
abbrev main_v98 : Ref sig .tc := ⟨.hbm, 173, rfl⟩
abbrev main_v99 : Ref sig .tc := ⟨.hbm, 174, rfl⟩
abbrev main_v100 : Ref sig .tc := ⟨.hbm, 175, rfl⟩
abbrev main_c_12 : Ref sig .tc := ⟨.hbm, 176, rfl⟩
abbrev main_call2_v0 : Ref sig .tc := ⟨.hbm, 177, rfl⟩
abbrev main_call2_c : Ref sig .tc := ⟨.hbm, 178, rfl⟩
abbrev main_call2_v1 : Ref sig .tc := ⟨.hbm, 179, rfl⟩
abbrev main_call2_c_0 : Ref sig .tc := ⟨.hbm, 180, rfl⟩
abbrev main_call2_v2 : Ref sig .tc := ⟨.hbm, 181, rfl⟩
abbrev main_call2_v3 : Ref sig .tc := ⟨.hbm, 182, rfl⟩
abbrev main_call2_v4 : Ref sig .tc := ⟨.hbm, 183, rfl⟩
abbrev main_call2_c_1 : Ref sig .tc := ⟨.hbm, 184, rfl⟩
abbrev main_call2_v5 : Ref sig .tc := ⟨.hbm, 185, rfl⟩
abbrev main_call2_v6 : Ref sig .tc := ⟨.hbm, 186, rfl⟩
abbrev main_call2_c_2 : Ref sig .tc := ⟨.hbm, 187, rfl⟩
abbrev main_call2_v7 : Ref sig .tc := ⟨.hbm, 188, rfl⟩
abbrev main_call2_v8 : Ref sig .tc := ⟨.hbm, 189, rfl⟩
abbrev main_call2_c_3 : Ref sig .tc := ⟨.hbm, 190, rfl⟩
abbrev main_call2_v9 : Ref sig .tc := ⟨.hbm, 191, rfl⟩
abbrev main_call2_v10 : Ref sig .tc := ⟨.hbm, 192, rfl⟩
abbrev main_call2_v11 : Ref sig .tc := ⟨.hbm, 193, rfl⟩
abbrev main_call2_v12 : Ref sig .tc := ⟨.hbm, 194, rfl⟩
abbrev main_call2_v13 : Ref sig .tc := ⟨.hbm, 195, rfl⟩
abbrev main_call2_v14 : Ref sig .tc := ⟨.hbm, 196, rfl⟩
abbrev main_v101 : Ref sig .tc := ⟨.hbm, 197, rfl⟩
abbrev main_v102 : Ref sig .tc := ⟨.hbm, 198, rfl⟩
abbrev main_v103 : Ref sig .tc := ⟨.hbm, 199, rfl⟩
abbrev main_v104 : Ref sig .tc := ⟨.hbm, 200, rfl⟩
abbrev main_cst_13 : Ref sig .tc := ⟨.hbm, 201, rfl⟩
abbrev main_v105 : Ref sig .tc := ⟨.hbm, 202, rfl⟩
abbrev main_v106 : Ref sig .tc := ⟨.hbm, 203, rfl⟩
abbrev main_v107 : Ref sig .tc := ⟨.hbm, 204, rfl⟩
abbrev main_cst_14 : Ref sig .tc := ⟨.hbm, 205, rfl⟩
abbrev main_v108 : Ref sig .tc := ⟨.hbm, 206, rfl⟩
abbrev main_v109 : Ref sig .tc := ⟨.hbm, 207, rfl⟩
abbrev main_v110 : Ref sig .tc := ⟨.hbm, 208, rfl⟩
abbrev main_v111 : Ref sig .tc := ⟨.hbm, 209, rfl⟩
abbrev main_cst_15 : Ref sig .tc := ⟨.hbm, 210, rfl⟩
abbrev main_v112 : Ref sig .tc := ⟨.hbm, 211, rfl⟩
abbrev main_v113 : Ref sig .tc := ⟨.hbm, 212, rfl⟩
abbrev main_v114 : Ref sig .tc := ⟨.hbm, 213, rfl⟩
abbrev main_v115 : Ref sig .tc := ⟨.hbm, 214, rfl⟩
abbrev main_v116 : Ref sig .tc := ⟨.hbm, 215, rfl⟩
abbrev main_c_16 : Ref sig .tc := ⟨.hbm, 216, rfl⟩
abbrev main_v117 : Ref sig .tc := ⟨.hbm, 217, rfl⟩
abbrev main_v118 : Ref sig .tc := ⟨.hbm, 218, rfl⟩
abbrev main_v119 : Ref sig .tc := ⟨.hbm, 219, rfl⟩
abbrev main_v120 : Ref sig .tc := ⟨.hbm, 220, rfl⟩
abbrev main_call3_v0 : Ref sig .tc := ⟨.hbm, 221, rfl⟩
abbrev main_call3_v1 : Ref sig .tc := ⟨.hbm, 222, rfl⟩
abbrev main_call3_v2 : Ref sig .tc := ⟨.hbm, 223, rfl⟩
abbrev main_call3_v3 : Ref sig .tc := ⟨.hbm, 224, rfl⟩
abbrev main_call3_v4 : Ref sig .tc := ⟨.hbm, 225, rfl⟩
abbrev main_v121 : Ref sig .tc := ⟨.hbm, 226, rfl⟩
abbrev main_call4_v0 : Ref sig .tc := ⟨.hbm, 227, rfl⟩
abbrev main_call4_v1 : Ref sig .tc := ⟨.hbm, 228, rfl⟩
abbrev main_call4_v2 : Ref sig .tc := ⟨.hbm, 229, rfl⟩
abbrev main_call4_v3 : Ref sig .tc := ⟨.hbm, 230, rfl⟩
abbrev main_call4_v4 : Ref sig .tc := ⟨.hbm, 231, rfl⟩
abbrev main_v122 : Ref sig .tc := ⟨.hbm, 232, rfl⟩
abbrev main_v123 : Ref sig .tc := ⟨.hbm, 233, rfl⟩
abbrev main_v124 : Ref sig .tc := ⟨.hbm, 234, rfl⟩
abbrev main_v125 : Ref sig .tc := ⟨.hbm, 235, rfl⟩
abbrev main_v126 : Ref sig .tc := ⟨.hbm, 236, rfl⟩
abbrev main_v127 : Ref sig .tc := ⟨.hbm, 237, rfl⟩
abbrev main_v128 : Ref sig .tc := ⟨.hbm, 238, rfl⟩
abbrev main_v129 : Ref sig .tc := ⟨.hbm, 239, rfl⟩
abbrev main_v130_0 : Ref sig .tc := ⟨.hbm, 240, rfl⟩
abbrev main_v130_1 : Ref sig .tc := ⟨.hbm, 241, rfl⟩
abbrev main_v130_2 : Ref sig .tc := ⟨.hbm, 242, rfl⟩
abbrev main_v130_3 : Ref sig .tc := ⟨.hbm, 243, rfl⟩
abbrev main_v131 : Ref sig .tc := ⟨.hbm, 244, rfl⟩
abbrev main_v132 : Ref sig .tc := ⟨.hbm, 245, rfl⟩
abbrev main_v133 : Ref sig .tc := ⟨.hbm, 246, rfl⟩
abbrev main_v134 : Ref sig .tc := ⟨.hbm, 247, rfl⟩
abbrev main_v135 : Ref sig .tc := ⟨.hbm, 248, rfl⟩
abbrev main_v136 : Ref sig .tc := ⟨.hbm, 249, rfl⟩
abbrev main_cst_17 : Ref sig .tc := ⟨.hbm, 250, rfl⟩
abbrev main_v137 : Ref sig .tc := ⟨.hbm, 251, rfl⟩
abbrev main_cst_18 : Ref sig .tc := ⟨.hbm, 252, rfl⟩
abbrev main_v138 : Ref sig .tc := ⟨.hbm, 253, rfl⟩
abbrev main_c_19 : Ref sig .tc := ⟨.hbm, 254, rfl⟩
abbrev main_v139 : Ref sig .tc := ⟨.hbm, 255, rfl⟩
abbrev main_v140 : Ref sig .tc := ⟨.hbm, 256, rfl⟩
abbrev main_v141 : Ref sig .tc := ⟨.hbm, 257, rfl⟩
abbrev main_v142 : Ref sig .tc := ⟨.hbm, 258, rfl⟩
abbrev main_v143 : Ref sig .tc := ⟨.hbm, 259, rfl⟩
abbrev main_v144 : Ref sig .tc := ⟨.hbm, 260, rfl⟩
abbrev main_v145 : Ref sig .tc := ⟨.hbm, 261, rfl⟩
abbrev main_v146 : Ref sig .tc := ⟨.hbm, 262, rfl⟩
abbrev main_c_20 : Ref sig .tc := ⟨.hbm, 263, rfl⟩
abbrev main_call5_v0 : Ref sig .tc := ⟨.hbm, 264, rfl⟩
abbrev main_call5_c : Ref sig .tc := ⟨.hbm, 265, rfl⟩
abbrev main_call5_v1 : Ref sig .tc := ⟨.hbm, 266, rfl⟩
abbrev main_call5_c_0 : Ref sig .tc := ⟨.hbm, 267, rfl⟩
abbrev main_call5_v2 : Ref sig .tc := ⟨.hbm, 268, rfl⟩
abbrev main_call5_v3 : Ref sig .tc := ⟨.hbm, 269, rfl⟩
abbrev main_call5_v4 : Ref sig .tc := ⟨.hbm, 270, rfl⟩
abbrev main_call5_c_1 : Ref sig .tc := ⟨.hbm, 271, rfl⟩
abbrev main_call5_v5 : Ref sig .tc := ⟨.hbm, 272, rfl⟩
abbrev main_call5_v6 : Ref sig .tc := ⟨.hbm, 273, rfl⟩
abbrev main_call5_c_2 : Ref sig .tc := ⟨.hbm, 274, rfl⟩
abbrev main_call5_v7 : Ref sig .tc := ⟨.hbm, 275, rfl⟩
abbrev main_call5_v8 : Ref sig .tc := ⟨.hbm, 276, rfl⟩
abbrev main_call5_c_3 : Ref sig .tc := ⟨.hbm, 277, rfl⟩
abbrev main_call5_v9 : Ref sig .tc := ⟨.hbm, 278, rfl⟩
abbrev main_call5_v10 : Ref sig .tc := ⟨.hbm, 279, rfl⟩
abbrev main_call5_v11 : Ref sig .tc := ⟨.hbm, 280, rfl⟩
abbrev main_call5_v12 : Ref sig .tc := ⟨.hbm, 281, rfl⟩
abbrev main_call5_v13 : Ref sig .tc := ⟨.hbm, 282, rfl⟩
abbrev main_call5_v14 : Ref sig .tc := ⟨.hbm, 283, rfl⟩
abbrev main_v147 : Ref sig .tc := ⟨.hbm, 284, rfl⟩
abbrev main_v148 : Ref sig .tc := ⟨.hbm, 285, rfl⟩
abbrev main_v149 : Ref sig .tc := ⟨.hbm, 286, rfl⟩
abbrev main_v150 : Ref sig .tc := ⟨.hbm, 287, rfl⟩
abbrev main_cst_21 : Ref sig .tc := ⟨.hbm, 288, rfl⟩
abbrev main_v151 : Ref sig .tc := ⟨.hbm, 289, rfl⟩
abbrev main_v152 : Ref sig .tc := ⟨.hbm, 290, rfl⟩
abbrev main_v153 : Ref sig .tc := ⟨.hbm, 291, rfl⟩
abbrev main_v154 : Ref sig .tc := ⟨.hbm, 292, rfl⟩
abbrev main_v155 : Ref sig .tc := ⟨.hbm, 293, rfl⟩
abbrev main_v156 : Ref sig .tc := ⟨.hbm, 294, rfl⟩
abbrev main_cst_22 : Ref sig .tc := ⟨.hbm, 295, rfl⟩
abbrev main_v157 : Ref sig .tc := ⟨.hbm, 296, rfl⟩
abbrev main_v158 : Ref sig .tc := ⟨.hbm, 297, rfl⟩
abbrev main_v159 : Ref sig .tc := ⟨.hbm, 298, rfl⟩
abbrev main_v160 : Ref sig .tc := ⟨.hbm, 299, rfl⟩
abbrev main_v161 : Ref sig .tc := ⟨.hbm, 300, rfl⟩
abbrev main_cst_23 : Ref sig .tc := ⟨.hbm, 301, rfl⟩
abbrev main_v162 : Ref sig .tc := ⟨.hbm, 302, rfl⟩
abbrev main_cst_24 : Ref sig .tc := ⟨.hbm, 303, rfl⟩
abbrev main_v163 : Ref sig .tc := ⟨.hbm, 304, rfl⟩
abbrev main_v164 : Ref sig .tc := ⟨.hbm, 305, rfl⟩
abbrev main_v165 : Ref sig .tc := ⟨.hbm, 306, rfl⟩
abbrev main_v166 : Ref sig .tc := ⟨.hbm, 307, rfl⟩
abbrev main_v167 : Ref sig .tc := ⟨.hbm, 308, rfl⟩
abbrev main_v168 : Ref sig .tc := ⟨.hbm, 309, rfl⟩
abbrev main_c_25 : Ref sig .tc := ⟨.hbm, 310, rfl⟩
abbrev main_call6_v0 : Ref sig .tc := ⟨.hbm, 311, rfl⟩
abbrev main_call6_c : Ref sig .tc := ⟨.hbm, 312, rfl⟩
abbrev main_call6_v1 : Ref sig .tc := ⟨.hbm, 313, rfl⟩
abbrev main_call6_c_0 : Ref sig .tc := ⟨.hbm, 314, rfl⟩
abbrev main_call6_v2 : Ref sig .tc := ⟨.hbm, 315, rfl⟩
abbrev main_call6_v3 : Ref sig .tc := ⟨.hbm, 316, rfl⟩
abbrev main_call6_v4 : Ref sig .tc := ⟨.hbm, 317, rfl⟩
abbrev main_call6_c_1 : Ref sig .tc := ⟨.hbm, 318, rfl⟩
abbrev main_call6_v5 : Ref sig .tc := ⟨.hbm, 319, rfl⟩
abbrev main_call6_v6 : Ref sig .tc := ⟨.hbm, 320, rfl⟩
abbrev main_call6_c_2 : Ref sig .tc := ⟨.hbm, 321, rfl⟩
abbrev main_call6_v7 : Ref sig .tc := ⟨.hbm, 322, rfl⟩
abbrev main_call6_v8 : Ref sig .tc := ⟨.hbm, 323, rfl⟩
abbrev main_call6_c_3 : Ref sig .tc := ⟨.hbm, 324, rfl⟩
abbrev main_call6_v9 : Ref sig .tc := ⟨.hbm, 325, rfl⟩
abbrev main_call6_v10 : Ref sig .tc := ⟨.hbm, 326, rfl⟩
abbrev main_call6_v11 : Ref sig .tc := ⟨.hbm, 327, rfl⟩
abbrev main_call6_v12 : Ref sig .tc := ⟨.hbm, 328, rfl⟩
abbrev main_call6_v13 : Ref sig .tc := ⟨.hbm, 329, rfl⟩
abbrev main_call6_v14 : Ref sig .tc := ⟨.hbm, 330, rfl⟩
abbrev main_v169 : Ref sig .tc := ⟨.hbm, 331, rfl⟩
abbrev main_v170 : Ref sig .tc := ⟨.hbm, 332, rfl⟩
abbrev main_v171 : Ref sig .tc := ⟨.hbm, 333, rfl⟩
abbrev main_v172 : Ref sig .tc := ⟨.hbm, 334, rfl⟩
abbrev main_cst_26 : Ref sig .tc := ⟨.hbm, 335, rfl⟩
abbrev main_v173 : Ref sig .tc := ⟨.hbm, 336, rfl⟩
abbrev main_v174 : Ref sig .tc := ⟨.hbm, 337, rfl⟩
abbrev main_v175 : Ref sig .tc := ⟨.hbm, 338, rfl⟩
abbrev main_cst_27 : Ref sig .tc := ⟨.hbm, 339, rfl⟩
abbrev main_v176 : Ref sig .tc := ⟨.hbm, 340, rfl⟩
abbrev main_v177 : Ref sig .tc := ⟨.hbm, 341, rfl⟩
abbrev main_v178 : Ref sig .tc := ⟨.hbm, 342, rfl⟩
abbrev main_v179 : Ref sig .tc := ⟨.hbm, 343, rfl⟩
abbrev main_cst_28 : Ref sig .tc := ⟨.hbm, 344, rfl⟩
abbrev main_v180 : Ref sig .tc := ⟨.hbm, 345, rfl⟩
abbrev main_v181 : Ref sig .tc := ⟨.hbm, 346, rfl⟩
abbrev main_v182 : Ref sig .tc := ⟨.hbm, 347, rfl⟩
abbrev main_v183 : Ref sig .tc := ⟨.hbm, 348, rfl⟩
abbrev main_v184 : Ref sig .tc := ⟨.hbm, 349, rfl⟩
abbrev main_v185 : Ref sig .tc := ⟨.hbm, 350, rfl⟩
abbrev main_v186 : Ref sig .tc := ⟨.hbm, 351, rfl⟩
abbrev main_v187 : Ref sig .tc := ⟨.hbm, 352, rfl⟩
abbrev main_v188 : Ref sig .tc := ⟨.hbm, 353, rfl⟩
abbrev main_v189 : Ref sig .tc := ⟨.hbm, 354, rfl⟩
abbrev main_v190 : Ref sig .tc := ⟨.hbm, 355, rfl⟩
abbrev main_v191_0 : Ref sig .tc := ⟨.hbm, 356, rfl⟩
abbrev main_v191_1 : Ref sig .tc := ⟨.hbm, 357, rfl⟩
abbrev main_v192 : Ref sig .tc := ⟨.hbm, 358, rfl⟩
abbrev main_v193 : Ref sig .tc := ⟨.hbm, 359, rfl⟩
abbrev main_v194 : Ref sig .tc := ⟨.hbm, 360, rfl⟩
abbrev main_cst_29 : Ref sig .tc := ⟨.hbm, 361, rfl⟩
abbrev main_v195 : Ref sig .tc := ⟨.hbm, 362, rfl⟩
abbrev main_cst_30 : Ref sig .tc := ⟨.hbm, 363, rfl⟩
abbrev main_v196 : Ref sig .tc := ⟨.hbm, 364, rfl⟩
abbrev main_v197 : Ref sig .tc := ⟨.hbm, 365, rfl⟩
abbrev main_v198 : Ref sig .tc := ⟨.hbm, 366, rfl⟩
abbrev main_v199 : Ref sig .tc := ⟨.hbm, 367, rfl⟩
abbrev main_v200 : Ref sig .tc := ⟨.hbm, 368, rfl⟩
abbrev main_v201 : Ref sig .tc := ⟨.hbm, 369, rfl⟩
abbrev main_c_31 : Ref sig .tc := ⟨.hbm, 370, rfl⟩
abbrev main_call7_v0 : Ref sig .tc := ⟨.hbm, 371, rfl⟩
abbrev main_call7_c : Ref sig .tc := ⟨.hbm, 372, rfl⟩
abbrev main_call7_v1 : Ref sig .tc := ⟨.hbm, 373, rfl⟩
abbrev main_call7_c_0 : Ref sig .tc := ⟨.hbm, 374, rfl⟩
abbrev main_call7_v2 : Ref sig .tc := ⟨.hbm, 375, rfl⟩
abbrev main_call7_v3 : Ref sig .tc := ⟨.hbm, 376, rfl⟩
abbrev main_call7_v4 : Ref sig .tc := ⟨.hbm, 377, rfl⟩
abbrev main_call7_c_1 : Ref sig .tc := ⟨.hbm, 378, rfl⟩
abbrev main_call7_v5 : Ref sig .tc := ⟨.hbm, 379, rfl⟩
abbrev main_call7_v6 : Ref sig .tc := ⟨.hbm, 380, rfl⟩
abbrev main_call7_c_2 : Ref sig .tc := ⟨.hbm, 381, rfl⟩
abbrev main_call7_v7 : Ref sig .tc := ⟨.hbm, 382, rfl⟩
abbrev main_call7_v8 : Ref sig .tc := ⟨.hbm, 383, rfl⟩
abbrev main_call7_c_3 : Ref sig .tc := ⟨.hbm, 384, rfl⟩
abbrev main_call7_v9 : Ref sig .tc := ⟨.hbm, 385, rfl⟩
abbrev main_call7_v10 : Ref sig .tc := ⟨.hbm, 386, rfl⟩
abbrev main_call7_v11 : Ref sig .tc := ⟨.hbm, 387, rfl⟩
abbrev main_call7_v12 : Ref sig .tc := ⟨.hbm, 388, rfl⟩
abbrev main_call7_v13 : Ref sig .tc := ⟨.hbm, 389, rfl⟩
abbrev main_call7_v14 : Ref sig .tc := ⟨.hbm, 390, rfl⟩
abbrev main_v202 : Ref sig .tc := ⟨.hbm, 391, rfl⟩
abbrev main_v203 : Ref sig .tc := ⟨.hbm, 392, rfl⟩
abbrev main_v204 : Ref sig .tc := ⟨.hbm, 393, rfl⟩
abbrev main_v205 : Ref sig .tc := ⟨.hbm, 394, rfl⟩
abbrev main_cst_32 : Ref sig .tc := ⟨.hbm, 395, rfl⟩
abbrev main_v206 : Ref sig .tc := ⟨.hbm, 396, rfl⟩
abbrev main_v207 : Ref sig .tc := ⟨.hbm, 397, rfl⟩
abbrev main_v208 : Ref sig .tc := ⟨.hbm, 398, rfl⟩
abbrev main_cst_33 : Ref sig .tc := ⟨.hbm, 399, rfl⟩
abbrev main_v209 : Ref sig .tc := ⟨.hbm, 400, rfl⟩
abbrev main_v210 : Ref sig .tc := ⟨.hbm, 401, rfl⟩
abbrev main_v211 : Ref sig .tc := ⟨.hbm, 402, rfl⟩
abbrev main_v212 : Ref sig .tc := ⟨.hbm, 403, rfl⟩
abbrev main_cst_34 : Ref sig .tc := ⟨.hbm, 404, rfl⟩
abbrev main_v213 : Ref sig .tc := ⟨.hbm, 405, rfl⟩
abbrev main_v214 : Ref sig .tc := ⟨.hbm, 406, rfl⟩
abbrev main_v215 : Ref sig .tc := ⟨.hbm, 407, rfl⟩
abbrev main_v216 : Ref sig .tc := ⟨.hbm, 408, rfl⟩
abbrev main_v217 : Ref sig .tc := ⟨.hbm, 409, rfl⟩
abbrev main_c_35 : Ref sig .tc := ⟨.hbm, 410, rfl⟩
abbrev main_v218 : Ref sig .tc := ⟨.hbm, 411, rfl⟩
abbrev main_v219 : Ref sig .tc := ⟨.hbm, 412, rfl⟩
abbrev main_v220 : Ref sig .tc := ⟨.hbm, 413, rfl⟩
abbrev main_v221 : Ref sig .tc := ⟨.hbm, 414, rfl⟩
abbrev main_call8_v0 : Ref sig .tc := ⟨.hbm, 415, rfl⟩
abbrev main_call8_v1 : Ref sig .tc := ⟨.hbm, 416, rfl⟩
abbrev main_call8_v2 : Ref sig .tc := ⟨.hbm, 417, rfl⟩
abbrev main_call8_v3 : Ref sig .tc := ⟨.hbm, 418, rfl⟩
abbrev main_call8_v4 : Ref sig .tc := ⟨.hbm, 419, rfl⟩
abbrev main_v222 : Ref sig .tc := ⟨.hbm, 420, rfl⟩
abbrev main_call9_v0 : Ref sig .tc := ⟨.hbm, 421, rfl⟩
abbrev main_call9_v1 : Ref sig .tc := ⟨.hbm, 422, rfl⟩
abbrev main_call9_v2 : Ref sig .tc := ⟨.hbm, 423, rfl⟩
abbrev main_call9_v3 : Ref sig .tc := ⟨.hbm, 424, rfl⟩
abbrev main_call9_v4 : Ref sig .tc := ⟨.hbm, 425, rfl⟩
abbrev main_v223 : Ref sig .tc := ⟨.hbm, 426, rfl⟩
abbrev main_v224 : Ref sig .tc := ⟨.hbm, 427, rfl⟩
abbrev main_v225 : Ref sig .tc := ⟨.hbm, 428, rfl⟩
abbrev main_v226 : Ref sig .tc := ⟨.hbm, 429, rfl⟩
abbrev main_v227 : Ref sig .tc := ⟨.hbm, 430, rfl⟩
abbrev main_v228 : Ref sig .tc := ⟨.hbm, 431, rfl⟩
abbrev main_v229 : Ref sig .tc := ⟨.hbm, 432, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg5_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg2_1 : Ref sig .tc := ⟨.vmem, 37, rfl⟩
abbrev cc3_stg3_0 : Ref sig .tc := ⟨.vmem, 38, rfl⟩
abbrev cc3_stg3_1 : Ref sig .tc := ⟨.vmem, 39, rfl⟩
abbrev cc3_stg4_0 : Ref sig .tc := ⟨.vmem, 40, rfl⟩
abbrev cc3_stg4_1 : Ref sig .tc := ⟨.vmem, 41, rfl⟩
abbrev cc3_stg5_0 : Ref sig .tc := ⟨.vmem, 42, rfl⟩
abbrev cc3_stg5_1 : Ref sig .tc := ⟨.vmem, 43, rfl⟩
abbrev cc3_stg6_0 : Ref sig .tc := ⟨.vmem, 44, rfl⟩
abbrev cc3_stg6_1 : Ref sig .tc := ⟨.vmem, 45, rfl⟩
abbrev cc3_stg7_0 : Ref sig .tc := ⟨.vmem, 46, rfl⟩
abbrev cc3_stg8_0 : Ref sig .tc := ⟨.vmem, 47, rfl⟩
abbrev cc3_stg9_0 : Ref sig .tc := ⟨.vmem, 48, rfl⟩
abbrev cc3_stg10_0 : Ref sig .tc := ⟨.vmem, 49, rfl⟩
abbrev cc3_stg11_0 : Ref sig .tc := ⟨.vmem, 50, rfl⟩
abbrev cc3_stg12_0 : Ref sig .tc := ⟨.vmem, 51, rfl⟩
abbrev cc3_stg13_0 : Ref sig .tc := ⟨.vmem, 52, rfl⟩
abbrev cc3_stg14_0 : Ref sig .tc := ⟨.vmem, 53, rfl⟩
abbrev cc3_stg15_0 : Ref sig .tc := ⟨.vmem, 54, rfl⟩
abbrev cc3_stg16_0 : Ref sig .tc := ⟨.vmem, 55, rfl⟩
abbrev cc3_stg17_0 : Ref sig .tc := ⟨.vmem, 56, rfl⟩
abbrev cc3_stg18_0 : Ref sig .tc := ⟨.vmem, 57, rfl⟩
abbrev cc3_stg18_1 : Ref sig .tc := ⟨.vmem, 58, rfl⟩
abbrev cc4_stg0_0 : Ref sig .tc := ⟨.vmem, 59, rfl⟩
abbrev cc4_stg0_1 : Ref sig .tc := ⟨.vmem, 60, rfl⟩
abbrev cc4_stg1_0 : Ref sig .tc := ⟨.vmem, 61, rfl⟩
abbrev cc4_stg2_0 : Ref sig .tc := ⟨.vmem, 62, rfl⟩
abbrev cc4_stg3_0 : Ref sig .tc := ⟨.vmem, 63, rfl⟩
abbrev cc4_stg4_0 : Ref sig .tc := ⟨.vmem, 64, rfl⟩
abbrev cc4_stg5_0 : Ref sig .tc := ⟨.vmem, 65, rfl⟩
abbrev cc4_stg6_0 : Ref sig .tc := ⟨.vmem, 66, rfl⟩
abbrev cc4_stg7_0 : Ref sig .tc := ⟨.vmem, 67, rfl⟩
abbrev cc4_stg7_1 : Ref sig .tc := ⟨.vmem, 68, rfl⟩
abbrev cc4_stg8_0 : Ref sig .tc := ⟨.vmem, 69, rfl⟩
abbrev cc4_stg8_1 : Ref sig .tc := ⟨.vmem, 70, rfl⟩
abbrev cc4_stg9_0 : Ref sig .tc := ⟨.vmem, 71, rfl⟩
abbrev cc4_stg9_1 : Ref sig .tc := ⟨.vmem, 72, rfl⟩
abbrev cc4_stg10_0 : Ref sig .tc := ⟨.vmem, 73, rfl⟩
abbrev cc4_stg10_1 : Ref sig .tc := ⟨.vmem, 74, rfl⟩
abbrev cc5_stg0_0 : Ref sig .tc := ⟨.vmem, 75, rfl⟩
abbrev cc5_stg0_1 : Ref sig .tc := ⟨.vmem, 76, rfl⟩
abbrev cc5_stg1_0 : Ref sig .tc := ⟨.vmem, 77, rfl⟩
abbrev cc5_stg1_1 : Ref sig .tc := ⟨.vmem, 78, rfl⟩
abbrev cc5_stg2_0 : Ref sig .tc := ⟨.vmem, 79, rfl⟩
abbrev cc5_stg2_1 : Ref sig .tc := ⟨.vmem, 80, rfl⟩
abbrev cc6_stg0_0 : Ref sig .tc := ⟨.vmem, 81, rfl⟩
abbrev cc6_stg0_1 : Ref sig .tc := ⟨.vmem, 82, rfl⟩
abbrev cc6_stg1_0 : Ref sig .tc := ⟨.vmem, 83, rfl⟩
abbrev cc6_stg1_1 : Ref sig .tc := ⟨.vmem, 84, rfl⟩
abbrev cc6_stg2_0 : Ref sig .tc := ⟨.vmem, 85, rfl⟩
abbrev cc6_stg3_0 : Ref sig .tc := ⟨.vmem, 86, rfl⟩
abbrev cc6_stg4_0 : Ref sig .tc := ⟨.vmem, 87, rfl⟩
abbrev cc6_stg4_1 : Ref sig .tc := ⟨.vmem, 88, rfl⟩
abbrev cc6_stg5_0 : Ref sig .tc := ⟨.vmem, 89, rfl⟩
abbrev cc6_stg5_1 : Ref sig .tc := ⟨.vmem, 90, rfl⟩
abbrev cc7_stg0_0 : Ref sig .tc := ⟨.vmem, 91, rfl⟩
abbrev cc7_stg0_1 : Ref sig .tc := ⟨.vmem, 92, rfl⟩
abbrev cc7_stg1_0 : Ref sig .tc := ⟨.vmem, 93, rfl⟩
abbrev cc7_stg1_1 : Ref sig .tc := ⟨.vmem, 94, rfl⟩
abbrev cc7_stg2_0 : Ref sig .tc := ⟨.vmem, 95, rfl⟩
abbrev cc7_stg2_1 : Ref sig .tc := ⟨.vmem, 96, rfl⟩
abbrev cc7_stg3_0 : Ref sig .tc := ⟨.vmem, 97, rfl⟩
abbrev cc7_stg3_1 : Ref sig .tc := ⟨.vmem, 98, rfl⟩
abbrev cc7_stg4_0 : Ref sig .tc := ⟨.vmem, 99, rfl⟩
abbrev cc7_stg4_1 : Ref sig .tc := ⟨.vmem, 100, rfl⟩
abbrev cc7_stg5_0 : Ref sig .tc := ⟨.vmem, 101, rfl⟩
abbrev cc7_stg5_1 : Ref sig .tc := ⟨.vmem, 102, rfl⟩
abbrev cc7_stg6_0 : Ref sig .tc := ⟨.vmem, 103, rfl⟩
abbrev cc7_stg6_1 : Ref sig .tc := ⟨.vmem, 104, rfl⟩
abbrev cc7_stg7_0 : Ref sig .tc := ⟨.vmem, 105, rfl⟩
abbrev cc7_stg8_0 : Ref sig .tc := ⟨.vmem, 106, rfl⟩
abbrev cc7_stg9_0 : Ref sig .tc := ⟨.vmem, 107, rfl⟩
abbrev cc7_stg10_0 : Ref sig .tc := ⟨.vmem, 108, rfl⟩
abbrev cc7_stg11_0 : Ref sig .tc := ⟨.vmem, 109, rfl⟩
abbrev cc7_stg12_0 : Ref sig .tc := ⟨.vmem, 110, rfl⟩
abbrev cc7_stg13_0 : Ref sig .tc := ⟨.vmem, 111, rfl⟩
abbrev cc7_stg14_0 : Ref sig .tc := ⟨.vmem, 112, rfl⟩
abbrev cc7_stg15_0 : Ref sig .tc := ⟨.vmem, 113, rfl⟩
abbrev cc7_stg16_0 : Ref sig .tc := ⟨.vmem, 114, rfl⟩
abbrev cc7_stg17_0 : Ref sig .tc := ⟨.vmem, 115, rfl⟩
abbrev cc7_stg18_0 : Ref sig .tc := ⟨.vmem, 116, rfl⟩
abbrev cc7_stg18_1 : Ref sig .tc := ⟨.vmem, 117, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem4_1 : DmaSem sig := 29
abbrev cc2_sem5_0 : DmaSem sig := 30
abbrev cc2_sem5_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem2_1 : DmaSem sig := 37
abbrev cc3_sem3_0 : DmaSem sig := 38
abbrev cc3_sem3_1 : DmaSem sig := 39
abbrev cc3_sem4_0 : DmaSem sig := 40
abbrev cc3_sem4_1 : DmaSem sig := 41
abbrev cc3_sem5_0 : DmaSem sig := 42
abbrev cc3_sem5_1 : DmaSem sig := 43
abbrev cc3_sem6_0 : DmaSem sig := 44
abbrev cc3_sem6_1 : DmaSem sig := 45
abbrev cc3_sem7_0 : DmaSem sig := 46
abbrev cc3_sem8_0 : DmaSem sig := 47
abbrev cc3_sem9_0 : DmaSem sig := 48
abbrev cc3_sem10_0 : DmaSem sig := 49
abbrev cc3_sem11_0 : DmaSem sig := 50
abbrev cc3_sem12_0 : DmaSem sig := 51
abbrev cc3_sem13_0 : DmaSem sig := 52
abbrev cc3_sem14_0 : DmaSem sig := 53
abbrev cc3_sem15_0 : DmaSem sig := 54
abbrev cc3_sem16_0 : DmaSem sig := 55
abbrev cc3_sem17_0 : DmaSem sig := 56
abbrev cc3_sem18_0 : DmaSem sig := 57
abbrev cc3_sem18_1 : DmaSem sig := 58
abbrev cc4_sem0_0 : DmaSem sig := 59
abbrev cc4_sem0_1 : DmaSem sig := 60
abbrev cc4_sem1_0 : DmaSem sig := 61
abbrev cc4_sem2_0 : DmaSem sig := 62
abbrev cc4_sem3_0 : DmaSem sig := 63
abbrev cc4_sem4_0 : DmaSem sig := 64
abbrev cc4_sem5_0 : DmaSem sig := 65
abbrev cc4_sem6_0 : DmaSem sig := 66
abbrev cc4_sem7_0 : DmaSem sig := 67
abbrev cc4_sem7_1 : DmaSem sig := 68
abbrev cc4_sem8_0 : DmaSem sig := 69
abbrev cc4_sem8_1 : DmaSem sig := 70
abbrev cc4_sem9_0 : DmaSem sig := 71
abbrev cc4_sem9_1 : DmaSem sig := 72
abbrev cc4_sem10_0 : DmaSem sig := 73
abbrev cc4_sem10_1 : DmaSem sig := 74
abbrev cc5_sem0_0 : DmaSem sig := 75
abbrev cc5_sem0_1 : DmaSem sig := 76
abbrev cc5_sem1_0 : DmaSem sig := 77
abbrev cc5_sem1_1 : DmaSem sig := 78
abbrev cc5_sem2_0 : DmaSem sig := 79
abbrev cc5_sem2_1 : DmaSem sig := 80
abbrev cc6_sem0_0 : DmaSem sig := 81
abbrev cc6_sem0_1 : DmaSem sig := 82
abbrev cc6_sem1_0 : DmaSem sig := 83
abbrev cc6_sem1_1 : DmaSem sig := 84
abbrev cc6_sem2_0 : DmaSem sig := 85
abbrev cc6_sem3_0 : DmaSem sig := 86
abbrev cc6_sem4_0 : DmaSem sig := 87
abbrev cc6_sem4_1 : DmaSem sig := 88
abbrev cc6_sem5_0 : DmaSem sig := 89
abbrev cc6_sem5_1 : DmaSem sig := 90
abbrev cc7_sem0_0 : DmaSem sig := 91
abbrev cc7_sem0_1 : DmaSem sig := 92
abbrev cc7_sem1_0 : DmaSem sig := 93
abbrev cc7_sem1_1 : DmaSem sig := 94
abbrev cc7_sem2_0 : DmaSem sig := 95
abbrev cc7_sem2_1 : DmaSem sig := 96
abbrev cc7_sem3_0 : DmaSem sig := 97
abbrev cc7_sem3_1 : DmaSem sig := 98
abbrev cc7_sem4_0 : DmaSem sig := 99
abbrev cc7_sem4_1 : DmaSem sig := 100
abbrev cc7_sem5_0 : DmaSem sig := 101
abbrev cc7_sem5_1 : DmaSem sig := 102
abbrev cc7_sem6_0 : DmaSem sig := 103
abbrev cc7_sem6_1 : DmaSem sig := 104
abbrev cc7_sem7_0 : DmaSem sig := 105
abbrev cc7_sem8_0 : DmaSem sig := 106
abbrev cc7_sem9_0 : DmaSem sig := 107
abbrev cc7_sem10_0 : DmaSem sig := 108
abbrev cc7_sem11_0 : DmaSem sig := 109
abbrev cc7_sem12_0 : DmaSem sig := 110
abbrev cc7_sem13_0 : DmaSem sig := 111
abbrev cc7_sem14_0 : DmaSem sig := 112
abbrev cc7_sem15_0 : DmaSem sig := 113
abbrev cc7_sem16_0 : DmaSem sig := 114
abbrev cc7_sem17_0 : DmaSem sig := 115
abbrev cc7_sem18_0 : DmaSem sig := 116
abbrev cc7_sem18_1 : DmaSem sig := 117

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨2, ![8, 4], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage1_0 : Fin 2 → Memref sig .tc .vmem S1x128x8x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x256x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x8x256x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![16, 4], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc2_transform_1 (i : grid2.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![arg1.toNat, c0_i32.toNat, v0.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc2_transform_5 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

abbrev stage2_0 : Fin 2 → Memref sig .tc .vmem S1x64x8x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x64x8x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S128x64 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S128x64 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x64x8x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x64x8x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc3_transform_6 (i : grid3.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c4095_i32 : BitVec 32 := 4095#32
  let v2 : BitVec 32 := Scalar.minsi v1 c4095_i32
  let c0_i32 : BitVec 32 := 0#32
  let c0_i32_0 : BitVec 32 := 0#32
  ![v2.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_15 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_16 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_17 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_18 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S512x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S512x512 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S512x512 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S8x512 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S8x512 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 1 → Memref sig .tc .vmem S256x256 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S256x256 .bf16 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S3x512 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x512 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x512 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1024x1024 .bf16 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S1x1024 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 1 → Memref sig .tc .vmem S1024x2816 .bf16 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![false]

abbrev stage3_15 : Fin 1 → Memref sig .tc .vmem S1024x2816 .bf16 := fun | 0 => Memref.whole cc3_stg15_0 | ⟨_ + 1, h⟩ => absurd h (Nat.not_lt.2 (Nat.le_add_left _ _))
abbrev sem3_15 : Fin 1 → DmaSem sig := fun | 0 => cc3_sem15_0 | ⟨_ + 1, h⟩ => absurd h (Nat.not_lt.2 (Nat.le_add_left _ _))
abbrev reads3_15 : Fin grid3.rank → Bool := ![false]

abbrev stage3_16 : Fin 1 → Memref sig .tc .vmem S2816x1024 .bf16 := fun | 0 => Memref.whole cc3_stg16_0 | ⟨_ + 1, h⟩ => absurd h (Nat.not_lt.2 (Nat.le_add_left _ _))
abbrev sem3_16 : Fin 1 → DmaSem sig := fun | 0 => cc3_sem16_0 | ⟨_ + 1, h⟩ => absurd h (Nat.not_lt.2 (Nat.le_add_left _ _))
abbrev reads3_16 : Fin grid3.rank → Bool := ![false]

abbrev stage3_17 : Fin 1 → Memref sig .tc .vmem S1x1024 .f32 := fun | 0 => Memref.whole cc3_stg17_0 | ⟨_ + 1, h⟩ => absurd h (Nat.not_lt.2 (Nat.le_add_left _ _))
abbrev sem3_17 : Fin 1 → DmaSem sig := fun | 0 => cc3_sem17_0 | ⟨_ + 1, h⟩ => absurd h (Nat.not_lt.2 (Nat.le_add_left _ _))
abbrev reads3_17 : Fin grid3.rank → Bool := ![false]

abbrev stage3_18 : Fin 2 → Memref sig .tc .vmem S512x1024 .f32 := fun | 0 => Memref.whole cc3_stg18_0 | 1 => Memref.whole cc3_stg18_1 | ⟨_ + 2, h⟩ => absurd h (Nat.not_lt.2 (Nat.le_add_left _ _))
abbrev sem3_18 : Fin 2 → DmaSem sig := fun | 0 => cc3_sem18_0 | 1 => cc3_sem18_1 | ⟨_ + 2, h⟩ => absurd h (Nat.not_lt.2 (Nat.le_add_left _ _))
abbrev reads3_18 : Fin grid3.rank → Bool := ![true]

abbrev grid4 : Pipeline.Grid := ⟨1, ![128], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_10 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1024x2816 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1024x2816 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S2816x1024 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x1024 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1024x2048 .bf16 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S512x1024 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S512x512 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev stage4_9 : Fin 2 → Memref sig .tc .vmem S512x512 .bf16 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev stage4_10 : Fin 2 → Memref sig .tc .vmem S512x512 .bf16 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

abbrev grid5 : Pipeline.Grid := ⟨2, ![8, 16], ![false, false]⟩

def cc5_transform_0 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage5_0 : Fin 2 → Memref sig .tc .vmem S1x64x8x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S8x128x64 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S1x8x128x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![8, 16], ![false, false]⟩

def cc6_transform_0 (i : grid6.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc6_transform_1 (i : grid6.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![arg1.toNat, c0_i32.toNat, v0.toNat, c0_i32_0.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc6_transform_5 (i : grid6.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

abbrev stage6_0 : Fin 2 → Memref sig .tc .vmem S1x64x8x512 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S1x64x8x512 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, true]

abbrev stage6_2 : Fin 1 → Memref sig .tc .vmem S128x64 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false, false]

abbrev stage6_3 : Fin 1 → Memref sig .tc .vmem S128x64 .bf16 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false, false]

abbrev stage6_4 : Fin 2 → Memref sig .tc .vmem S1x64x8x512 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, true]

abbrev stage6_5 : Fin 2 → Memref sig .tc .vmem S1x64x8x512 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true, true]

abbrev grid7 : Pipeline.Grid := ⟨1, ![128], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc7_transform_6 (i : grid7.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c8191_i32 : BitVec 32 := 8191#32
  let v2 : BitVec 32 := Scalar.minsi v1 c8191_i32
  let c0_i32 : BitVec 32 := 0#32
  let c0_i32_0 : BitVec 32 := 0#32
  ![v2.toNat, c0_i32.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_10 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_11 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_12 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_13 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_14 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_15 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_16 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_17 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_18 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S512x1024 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S512x512 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S512x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S512x512 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S512x512 .bf16 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S8x512 .bf16 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S8x512 .bf16 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev stage7_7 : Fin 1 → Memref sig .tc .vmem S256x256 .bf16 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S256x256 .bf16 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 1 → Memref sig .tc .vmem S3x512 .f32 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false]

abbrev stage7_10 : Fin 1 → Memref sig .tc .vmem S1x512 .f32 := fun | 0 => Memref.whole cc7_stg10_0 | ⟨_ + 1, h⟩ => absurd h (Nat.not_lt.2 (Nat.le_add_left _ _))
abbrev sem7_10 : Fin 1 → DmaSem sig := fun | 0 => cc7_sem10_0 | ⟨_ + 1, h⟩ => absurd h (Nat.not_lt.2 (Nat.le_add_left _ _))
abbrev reads7_10 : Fin grid7.rank → Bool := ![false]

abbrev stage7_11 : Fin 1 → Memref sig .tc .vmem S1x512 .f32 := fun | 0 => Memref.whole cc7_stg11_0 | ⟨_ + 1, h⟩ => absurd h (Nat.not_lt.2 (Nat.le_add_left _ _))
abbrev sem7_11 : Fin 1 → DmaSem sig := fun | 0 => cc7_sem11_0 | ⟨_ + 1, h⟩ => absurd h (Nat.not_lt.2 (Nat.le_add_left _ _))
abbrev reads7_11 : Fin grid7.rank → Bool := ![false]

abbrev stage7_12 : Fin 1 → Memref sig .tc .vmem S1024x1024 .bf16 := fun | 0 => Memref.whole cc7_stg12_0 | ⟨_ + 1, h⟩ => absurd h (Nat.not_lt.2 (Nat.le_add_left _ _))
abbrev sem7_12 : Fin 1 → DmaSem sig := fun | 0 => cc7_sem12_0 | ⟨_ + 1, h⟩ => absurd h (Nat.not_lt.2 (Nat.le_add_left _ _))
abbrev reads7_12 : Fin grid7.rank → Bool := ![false]

abbrev stage7_13 : Fin 1 → Memref sig .tc .vmem S1x1024 .f32 := fun | 0 => Memref.whole cc7_stg13_0 | ⟨_ + 1, h⟩ => absurd h (Nat.not_lt.2 (Nat.le_add_left _ _))
abbrev sem7_13 : Fin 1 → DmaSem sig := fun | 0 => cc7_sem13_0 | ⟨_ + 1, h⟩ => absurd h (Nat.not_lt.2 (Nat.le_add_left _ _))
abbrev reads7_13 : Fin grid7.rank → Bool := ![false]

abbrev stage7_14 : Fin 1 → Memref sig .tc .vmem S1024x2816 .bf16 := fun | 0 => Memref.whole cc7_stg14_0 | ⟨_ + 1, h⟩ => absurd h (Nat.not_lt.2 (Nat.le_add_left _ _))
abbrev sem7_14 : Fin 1 → DmaSem sig := fun | 0 => cc7_sem14_0 | ⟨_ + 1, h⟩ => absurd h (Nat.not_lt.2 (Nat.le_add_left _ _))
abbrev reads7_14 : Fin grid7.rank → Bool := ![false]

abbrev stage7_15 : Fin 1 → Memref sig .tc .vmem S1024x2816 .bf16 := fun | 0 => Memref.whole cc7_stg15_0 | ⟨_ + 1, h⟩ => absurd h (Nat.not_lt.2 (Nat.le_add_left _ _))
abbrev sem7_15 : Fin 1 → DmaSem sig := fun | 0 => cc7_sem15_0 | ⟨_ + 1, h⟩ => absurd h (Nat.not_lt.2 (Nat.le_add_left _ _))
abbrev reads7_15 : Fin grid7.rank → Bool := ![false]

abbrev stage7_16 : Fin 1 → Memref sig .tc .vmem S2816x1024 .bf16 := fun | 0 => Memref.whole cc7_stg16_0 | ⟨_ + 1, h⟩ => absurd h (Nat.not_lt.2 (Nat.le_add_left _ _))
abbrev sem7_16 : Fin 1 → DmaSem sig := fun | 0 => cc7_sem16_0 | ⟨_ + 1, h⟩ => absurd h (Nat.not_lt.2 (Nat.le_add_left _ _))
abbrev reads7_16 : Fin grid7.rank → Bool := ![false]

abbrev stage7_17 : Fin 1 → Memref sig .tc .vmem S1x1024 .f32 := fun | 0 => Memref.whole cc7_stg17_0 | ⟨_ + 1, h⟩ => absurd h (Nat.not_lt.2 (Nat.le_add_left _ _))
abbrev sem7_17 : Fin 1 → DmaSem sig := fun | 0 => cc7_sem17_0 | ⟨_ + 1, h⟩ => absurd h (Nat.not_lt.2 (Nat.le_add_left _ _))
abbrev reads7_17 : Fin grid7.rank → Bool := ![false]

abbrev stage7_18 : Fin 2 → Memref sig .tc .vmem S512x1024 .f32 := fun | 0 => Memref.whole cc7_stg18_0 | 1 => Memref.whole cc7_stg18_1 | ⟨_ + 2, h⟩ => absurd h (Nat.not_lt.2 (Nat.le_add_left _ _))
abbrev sem7_18 : Fin 2 → DmaSem sig := fun | 0 => cc7_sem18_0 | 1 => cc7_sem18_1 | ⟨_ + 2, h⟩ => absurd h (Nat.not_lt.2 (Nat.le_add_left _ _))
abbrev reads7_18 : Fin grid7.rank → Bool := ![true]
-- ==== ReferenceIdeal.lean ====
abbrev S4x8192x1024 : Shape := ⟨3, ![4, 8192, 1024]⟩
abbrev S16x4096x1024 : Shape := ⟨3, ![16, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x1024x2048 : Shape := ⟨3, ![1, 1024, 2048]⟩
abbrev S1x3x512 : Shape := ⟨3, ![1, 3, 512]⟩
abbrev S1x512 : Shape := ⟨2, ![1, 512]⟩
abbrev S1x1024x1024 : Shape := ⟨3, ![1, 1024, 1024]⟩
abbrev S1024 : Shape := ⟨1, ![1024]⟩
abbrev S1024x2816 : Shape := ⟨2, ![1024, 2816]⟩
abbrev S2816x1024 : Shape := ⟨2, ![2816, 1024]⟩
abbrev S1024x2048 : Shape := ⟨2, ![1024, 2048]⟩
abbrev S3x512 : Shape := ⟨2, ![3, 512]⟩
abbrev S512 : Shape := ⟨1, ![512]⟩
abbrev S1024x1024 : Shape := ⟨2, ![1024, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x2816 : Shape := ⟨3, ![4, 8192, 2816]⟩
abbrev S4x8192x2048 : Shape := ⟨3, ![4, 8192, 2048]⟩
abbrev S4x8192x512 : Shape := ⟨3, ![4, 8192, 512]⟩
abbrev S4x8192x1536 : Shape := ⟨3, ![4, 8192, 1536]⟩
abbrev S4x8192x4x128 : Shape := ⟨4, ![4, 8192, 4, 128]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x4x128x8192 : Shape := ⟨4, ![4, 4, 128, 8192]⟩
abbrev S1x1x512 : Shape := ⟨3, ![1, 1, 512]⟩
abbrev S4x8194x512 : Shape := ⟨3, ![4, 8194, 512]⟩
abbrev S16x4096 : Shape := ⟨2, ![16, 4096]⟩
abbrev S16x4096x1 : Shape := ⟨3, ![16, 4096, 1]⟩
abbrev S16x4096x2816 : Shape := ⟨3, ![16, 4096, 2816]⟩
abbrev S16x4096x2048 : Shape := ⟨3, ![16, 4096, 2048]⟩
abbrev S16x4096x512 : Shape := ⟨3, ![16, 4096, 512]⟩
abbrev S16x4096x1536 : Shape := ⟨3, ![16, 4096, 1536]⟩
abbrev S16x4096x4x128 : Shape := ⟨4, ![16, 4096, 4, 128]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S16x4x128x4096 : Shape := ⟨4, ![16, 4, 128, 4096]⟩
abbrev S16x4098x512 : Shape := ⟨3, ![16, 4098, 512]⟩

abbrev nBuf : Space → Nat
  | .hbm => 509
  | .vmem => 0
  | .smem => 0
  | _ => 0

abbrev hbmTy0_0 (i : Nat) : BufTy := match i % 128 with
  | 0 => ⟨S4x8192x1024, .f32⟩
  | 1 => ⟨S16x4096x1024, .f32⟩
  | 2 => ⟨S1x1024, .f32⟩
  | 3 => ⟨S1x1024x2816, .f32⟩
  | 4 => ⟨S1x1024x2816, .f32⟩
  | 5 => ⟨S1x2816x1024, .f32⟩
  | 6 => ⟨S1x1024, .f32⟩
  | 7 => ⟨S1x1024x2048, .f32⟩
  | 8 => ⟨S1x3x512, .f32⟩
  | 9 => ⟨S1x512, .f32⟩
  | 10 => ⟨S1x512, .f32⟩
  | 11 => ⟨S1x1024x1024, .f32⟩
  | 12 => ⟨S1x1024, .f32⟩
  | 13 => ⟨S1x1024x2816, .f32⟩
  | 14 => ⟨S1x1024x2816, .f32⟩
  | 15 => ⟨S1x2816x1024, .f32⟩
  | 16 => ⟨S1024, .f32⟩
  | 17 => ⟨S1024, .f32⟩
  | 18 => ⟨S1024x2816, .f32⟩
  | 19 => ⟨S1024x2816, .f32⟩
  | 20 => ⟨S2816x1024, .f32⟩
  | 21 => ⟨S1024, .f32⟩
  | 22 => ⟨S1024x2048, .f32⟩
  | 23 => ⟨S3x512, .f32⟩
  | 24 => ⟨S512, .f32⟩
  | 25 => ⟨S512, .f32⟩
  | 26 => ⟨S1024x1024, .f32⟩
  | 27 => ⟨S1024, .f32⟩
  | 28 => ⟨S1024x2816, .f32⟩
  | 29 => ⟨S1024x2816, .f32⟩
  | 30 => ⟨S2816x1024, .f32⟩
  | 31 => ⟨S4x8192x1024, .f32⟩
  | 32 => ⟨S_, .f32⟩
  | 33 => ⟨S4x8192, .f32⟩
  | 34 => ⟨S4x8192x1, .f32⟩
  | 35 => ⟨S_, .f32⟩
  | 36 => ⟨S4x8192x1, .f32⟩
  | 37 => ⟨S4x8192x1, .f32⟩
  | 38 => ⟨S_, .f32⟩
  | 39 => ⟨S4x8192x1, .f32⟩
  | 40 => ⟨S4x8192x1, .f32⟩
  | 41 => ⟨S4x8192x1, .f32⟩
  | 42 => ⟨S4x8192x1024, .f32⟩
  | 43 => ⟨S4x8192x1024, .f32⟩
  | 44 => ⟨S1x1x1024, .f32⟩
  | 45 => ⟨S4x8192x1024, .f32⟩
  | 46 => ⟨S4x8192x1024, .f32⟩
  | 47 => ⟨S4x8192x2816, .f32⟩
  | 48 => ⟨S4x8192x2816, .f32⟩
  | 49 => ⟨S4x8192x2816, .f32⟩
  | 50 => ⟨S_, .f32⟩
  | 51 => ⟨S4x8192x2816, .f32⟩
  | 52 => ⟨S4x8192x2816, .f32⟩
  | 53 => ⟨S_, .f32⟩
  | 54 => ⟨S4x8192x2816, .f32⟩
  | 55 => ⟨S4x8192x2816, .f32⟩
  | 56 => ⟨S4x8192x2816, .f32⟩
  | 57 => ⟨S4x8192x2816, .f32⟩
  | 58 => ⟨S4x8192x2816, .f32⟩
  | 59 => ⟨S4x8192x1024, .f32⟩
  | 60 => ⟨S_, .f32⟩
  | 61 => ⟨S4x8192x1024, .f32⟩
  | 62 => ⟨S4x8192x1024, .f32⟩
  | 63 => ⟨S4x8192x1024, .f32⟩
  | 64 => ⟨S4x8192x1024, .f32⟩
  | 65 => ⟨S_, .f32⟩
  | 66 => ⟨S4x8192, .f32⟩
  | 67 => ⟨S4x8192x1, .f32⟩
  | 68 => ⟨S_, .f32⟩
  | 69 => ⟨S4x8192x1, .f32⟩
  | 70 => ⟨S4x8192x1, .f32⟩
  | 71 => ⟨S_, .f32⟩
  | 72 => ⟨S4x8192x1, .f32⟩
  | 73 => ⟨S4x8192x1, .f32⟩
  | 74 => ⟨S4x8192x1, .f32⟩
  | 75 => ⟨S4x8192x1024, .f32⟩
  | 76 => ⟨S4x8192x1024, .f32⟩
  | 77 => ⟨S1x1x1024, .f32⟩
  | 78 => ⟨S4x8192x1024, .f32⟩
  | 79 => ⟨S4x8192x1024, .f32⟩
  | 80 => ⟨S4x8192x2048, .f32⟩
  | 81 => ⟨S4x8192x512, .f32⟩
  | 82 => ⟨S4x8192x1536, .f32⟩
  | 83 => ⟨S4x8192x512, .f32⟩
  | 84 => ⟨S4x8192x512, .f32⟩
  | 85 => ⟨S4x8192x512, .f32⟩
  | 86 => ⟨S4x8192x4x128, .f32⟩
  | 87 => ⟨S8192, .i32⟩
  | 88 => ⟨S8192x1, .i32⟩
  | 89 => ⟨S1x8192, .i32⟩
  | 90 => ⟨S8192x8192, .i32⟩
  | 91 => ⟨S8192x8192, .i32⟩
  | 92 => ⟨S8192x8192, .i32⟩
  | 93 => ⟨S_, .f32⟩
  | 94 => ⟨S_, .f32⟩
  | 95 => ⟨S_, .f32⟩
  | 96 => ⟨S_, .f32⟩
  | 97 => ⟨S_, .i32⟩
  | 98 => ⟨S8192x8192, .i32⟩
  | 99 => ⟨S8192x8192, .i32⟩
  | 100 => ⟨S8192x8192, .f32⟩
  | 101 => ⟨S8192x8192, .f32⟩
  | 102 => ⟨S8192x8192, .f32⟩
  | 103 => ⟨S_, .f32⟩
  | 104 => ⟨S8192x8192, .f32⟩
  | 105 => ⟨S8192x8192, .f32⟩
  | 106 => ⟨S8192x8192, .f32⟩
  | 107 => ⟨S_, .f32⟩
  | 108 => ⟨S_, .f32⟩
  | 109 => ⟨S8192x8192, .f32⟩
  | 110 => ⟨S8192x8192, .f32⟩
  | 111 => ⟨S8192x8192, .f32⟩
  | 112 => ⟨S_, .f32⟩
  | 113 => ⟨S_, .f32⟩
  | 114 => ⟨S8192x8192, .f32⟩
  | 115 => ⟨S8192x8192, .f32⟩
  | 116 => ⟨S128, .i32⟩
  | 117 => ⟨S128x1, .i32⟩
  | 118 => ⟨S1x128, .i32⟩
  | 119 => ⟨S128x128, .i32⟩
  | 120 => ⟨S128x128, .i32⟩
  | 121 => ⟨S128x128, .i32⟩
  | 122 => ⟨S_, .f32⟩
  | 123 => ⟨S_, .f32⟩
  | 124 => ⟨S_, .f32⟩
  | 125 => ⟨S_, .f32⟩
  | 126 => ⟨S_, .i32⟩
  | 127 => ⟨S128x128, .i32⟩
  | _ => ⟨S4x8192x1024, .f32⟩

abbrev hbmTy0_1 (i : Nat) : BufTy := match i % 128 with
  | 0 => ⟨S128x128, .i32⟩
  | 1 => ⟨S128x128, .f32⟩
  | 2 => ⟨S128x128, .f32⟩
  | 3 => ⟨S128x128, .f32⟩
  | 4 => ⟨S_, .f32⟩
  | 5 => ⟨S128x128, .f32⟩
  | 6 => ⟨S128x128, .f32⟩
  | 7 => ⟨S128x128, .f32⟩
  | 8 => ⟨S_, .f32⟩
  | 9 => ⟨S_, .f32⟩
  | 10 => ⟨S128x128, .f32⟩
  | 11 => ⟨S128x128, .f32⟩
  | 12 => ⟨S128x128, .f32⟩
  | 13 => ⟨S_, .f32⟩
  | 14 => ⟨S_, .f32⟩
  | 15 => ⟨S128x128, .f32⟩
  | 16 => ⟨S128x128, .f32⟩
  | 17 => ⟨S4x4x128x8192, .f32⟩
  | 18 => ⟨S4x8192x4x128, .f32⟩
  | 19 => ⟨S4x4x128x8192, .f32⟩
  | 20 => ⟨S4x8192x4x128, .f32⟩
  | 21 => ⟨S4x8192x4x128, .f32⟩
  | 22 => ⟨S4x8192x4x128, .f32⟩
  | 23 => ⟨S4x8192x4x128, .f32⟩
  | 24 => ⟨S4x8192x4x128, .f32⟩
  | 25 => ⟨S4x8192x512, .f32⟩
  | 26 => ⟨S4x8192x512, .f32⟩
  | 27 => ⟨S_, .f32⟩
  | 28 => ⟨S4x8192, .f32⟩
  | 29 => ⟨S4x8192x1, .f32⟩
  | 30 => ⟨S_, .f32⟩
  | 31 => ⟨S4x8192x1, .f32⟩
  | 32 => ⟨S4x8192x1, .f32⟩
  | 33 => ⟨S_, .f32⟩
  | 34 => ⟨S4x8192x1, .f32⟩
  | 35 => ⟨S4x8192x1, .f32⟩
  | 36 => ⟨S4x8192x1, .f32⟩
  | 37 => ⟨S4x8192x512, .f32⟩
  | 38 => ⟨S4x8192x512, .f32⟩
  | 39 => ⟨S1x1x512, .f32⟩
  | 40 => ⟨S4x8192x512, .f32⟩
  | 41 => ⟨S4x8192x512, .f32⟩
  | 42 => ⟨S4x8192x512, .f32⟩
  | 43 => ⟨S_, .i32⟩
  | 44 => ⟨S_, .f32⟩
  | 45 => ⟨S4x8194x512, .f32⟩
  | 46 => ⟨S4x8192x512, .f32⟩
  | 47 => ⟨S1x512, .f32⟩
  | 48 => ⟨S512, .f32⟩
  | 49 => ⟨S1x1x512, .f32⟩
  | 50 => ⟨S4x8192x512, .f32⟩
  | 51 => ⟨S4x8192x512, .f32⟩
  | 52 => ⟨S4x8192x512, .f32⟩
  | 53 => ⟨S1x512, .f32⟩
  | 54 => ⟨S512, .f32⟩
  | 55 => ⟨S1x1x512, .f32⟩
  | 56 => ⟨S4x8192x512, .f32⟩
  | 57 => ⟨S4x8192x512, .f32⟩
  | 58 => ⟨S4x8192x512, .f32⟩
  | 59 => ⟨S4x8192x512, .f32⟩
  | 60 => ⟨S1x512, .f32⟩
  | 61 => ⟨S512, .f32⟩
  | 62 => ⟨S1x1x512, .f32⟩
  | 63 => ⟨S4x8192x512, .f32⟩
  | 64 => ⟨S4x8192x512, .f32⟩
  | 65 => ⟨S4x8192x512, .f32⟩
  | 66 => ⟨S4x8192x512, .f32⟩
  | 67 => ⟨S4x8192x512, .f32⟩
  | 68 => ⟨S_, .f32⟩
  | 69 => ⟨S4x8192, .f32⟩
  | 70 => ⟨S4x8192x1, .f32⟩
  | 71 => ⟨S_, .f32⟩
  | 72 => ⟨S4x8192x1, .f32⟩
  | 73 => ⟨S4x8192x1, .f32⟩
  | 74 => ⟨S_, .f32⟩
  | 75 => ⟨S4x8192x1, .f32⟩
  | 76 => ⟨S4x8192x1, .f32⟩
  | 77 => ⟨S4x8192x1, .f32⟩
  | 78 => ⟨S4x8192x512, .f32⟩
  | 79 => ⟨S4x8192x512, .f32⟩
  | 80 => ⟨S1x1x512, .f32⟩
  | 81 => ⟨S4x8192x512, .f32⟩
  | 82 => ⟨S4x8192x512, .f32⟩
  | 83 => ⟨S4x8192x1024, .f32⟩
  | 84 => ⟨S4x8192x1024, .f32⟩
  | 85 => ⟨S4x8192x1024, .f32⟩
  | 86 => ⟨S4x8192x1024, .f32⟩
  | 87 => ⟨S_, .f32⟩
  | 88 => ⟨S4x8192, .f32⟩
  | 89 => ⟨S4x8192x1, .f32⟩
  | 90 => ⟨S_, .f32⟩
  | 91 => ⟨S4x8192x1, .f32⟩
  | 92 => ⟨S4x8192x1, .f32⟩
  | 93 => ⟨S_, .f32⟩
  | 94 => ⟨S4x8192x1, .f32⟩
  | 95 => ⟨S4x8192x1, .f32⟩
  | 96 => ⟨S4x8192x1, .f32⟩
  | 97 => ⟨S4x8192x1024, .f32⟩
  | 98 => ⟨S4x8192x1024, .f32⟩
  | 99 => ⟨S1x1x1024, .f32⟩
  | 100 => ⟨S4x8192x1024, .f32⟩
  | 101 => ⟨S4x8192x1024, .f32⟩
  | 102 => ⟨S4x8192x2816, .f32⟩
  | 103 => ⟨S4x8192x2816, .f32⟩
  | 104 => ⟨S4x8192x2816, .f32⟩
  | 105 => ⟨S_, .f32⟩
  | 106 => ⟨S4x8192x2816, .f32⟩
  | 107 => ⟨S4x8192x2816, .f32⟩
  | 108 => ⟨S_, .f32⟩
  | 109 => ⟨S4x8192x2816, .f32⟩
  | 110 => ⟨S4x8192x2816, .f32⟩
  | 111 => ⟨S4x8192x2816, .f32⟩
  | 112 => ⟨S4x8192x2816, .f32⟩
  | 113 => ⟨S4x8192x2816, .f32⟩
  | 114 => ⟨S4x8192x1024, .f32⟩
  | 115 => ⟨S_, .f32⟩
  | 116 => ⟨S4x8192x1024, .f32⟩
  | 117 => ⟨S4x8192x1024, .f32⟩
  | 118 => ⟨S4x8192x1024, .f32⟩
  | 119 => ⟨S4x8192x1024, .f32⟩
  | 120 => ⟨S_, .f32⟩
  | 121 => ⟨S4x8192, .f32⟩
  | 122 => ⟨S4x8192x1, .f32⟩
  | 123 => ⟨S_, .f32⟩
  | 124 => ⟨S4x8192x1, .f32⟩
  | 125 => ⟨S4x8192x1, .f32⟩
  | 126 => ⟨S_, .f32⟩
  | 127 => ⟨S4x8192x1, .f32⟩
  | _ => ⟨S4x8192x1024, .f32⟩

abbrev hbmTy0_2 (i : Nat) : BufTy := match i % 128 with
  | 0 => ⟨S4x8192x1, .f32⟩
  | 1 => ⟨S4x8192x1, .f32⟩
  | 2 => ⟨S4x8192x1024, .f32⟩
  | 3 => ⟨S4x8192x1024, .f32⟩
  | 4 => ⟨S1x1x1024, .f32⟩
  | 5 => ⟨S4x8192x1024, .f32⟩
  | 6 => ⟨S4x8192x1024, .f32⟩
  | 7 => ⟨S1024, .f32⟩
  | 8 => ⟨S1024x2816, .f32⟩
  | 9 => ⟨S1024x2816, .f32⟩
  | 10 => ⟨S2816x1024, .f32⟩
  | 11 => ⟨S1024, .f32⟩
  | 12 => ⟨S1024x2048, .f32⟩
  | 13 => ⟨S3x512, .f32⟩
  | 14 => ⟨S512, .f32⟩
  | 15 => ⟨S512, .f32⟩
  | 16 => ⟨S1024x1024, .f32⟩
  | 17 => ⟨S1024, .f32⟩
  | 18 => ⟨S1024x2816, .f32⟩
  | 19 => ⟨S1024x2816, .f32⟩
  | 20 => ⟨S2816x1024, .f32⟩
  | 21 => ⟨S16x4096x1024, .f32⟩
  | 22 => ⟨S_, .f32⟩
  | 23 => ⟨S16x4096, .f32⟩
  | 24 => ⟨S16x4096x1, .f32⟩
  | 25 => ⟨S_, .f32⟩
  | 26 => ⟨S16x4096x1, .f32⟩
  | 27 => ⟨S16x4096x1, .f32⟩
  | 28 => ⟨S_, .f32⟩
  | 29 => ⟨S16x4096x1, .f32⟩
  | 30 => ⟨S16x4096x1, .f32⟩
  | 31 => ⟨S16x4096x1, .f32⟩
  | 32 => ⟨S16x4096x1024, .f32⟩
  | 33 => ⟨S16x4096x1024, .f32⟩
  | 34 => ⟨S1x1x1024, .f32⟩
  | 35 => ⟨S16x4096x1024, .f32⟩
  | 36 => ⟨S16x4096x1024, .f32⟩
  | 37 => ⟨S16x4096x2816, .f32⟩
  | 38 => ⟨S16x4096x2816, .f32⟩
  | 39 => ⟨S16x4096x2816, .f32⟩
  | 40 => ⟨S_, .f32⟩
  | 41 => ⟨S16x4096x2816, .f32⟩
  | 42 => ⟨S16x4096x2816, .f32⟩
  | 43 => ⟨S_, .f32⟩
  | 44 => ⟨S16x4096x2816, .f32⟩
  | 45 => ⟨S16x4096x2816, .f32⟩
  | 46 => ⟨S16x4096x2816, .f32⟩
  | 47 => ⟨S16x4096x2816, .f32⟩
  | 48 => ⟨S16x4096x2816, .f32⟩
  | 49 => ⟨S16x4096x1024, .f32⟩
  | 50 => ⟨S_, .f32⟩
  | 51 => ⟨S16x4096x1024, .f32⟩
  | 52 => ⟨S16x4096x1024, .f32⟩
  | 53 => ⟨S16x4096x1024, .f32⟩
  | 54 => ⟨S16x4096x1024, .f32⟩
  | 55 => ⟨S_, .f32⟩
  | 56 => ⟨S16x4096, .f32⟩
  | 57 => ⟨S16x4096x1, .f32⟩
  | 58 => ⟨S_, .f32⟩
  | 59 => ⟨S16x4096x1, .f32⟩
  | 60 => ⟨S16x4096x1, .f32⟩
  | 61 => ⟨S_, .f32⟩
  | 62 => ⟨S16x4096x1, .f32⟩
  | 63 => ⟨S16x4096x1, .f32⟩
  | 64 => ⟨S16x4096x1, .f32⟩
  | 65 => ⟨S16x4096x1024, .f32⟩
  | 66 => ⟨S16x4096x1024, .f32⟩
  | 67 => ⟨S1x1x1024, .f32⟩
  | 68 => ⟨S16x4096x1024, .f32⟩
  | 69 => ⟨S16x4096x1024, .f32⟩
  | 70 => ⟨S16x4096x2048, .f32⟩
  | 71 => ⟨S16x4096x512, .f32⟩
  | 72 => ⟨S16x4096x1536, .f32⟩
  | 73 => ⟨S16x4096x512, .f32⟩
  | 74 => ⟨S16x4096x512, .f32⟩
  | 75 => ⟨S16x4096x512, .f32⟩
  | 76 => ⟨S16x4096x4x128, .f32⟩
  | 77 => ⟨S4096, .i32⟩
  | 78 => ⟨S4096x1, .i32⟩
  | 79 => ⟨S1x4096, .i32⟩
  | 80 => ⟨S4096x4096, .i32⟩
  | 81 => ⟨S4096x4096, .i32⟩
  | 82 => ⟨S4096x4096, .i32⟩
  | 83 => ⟨S_, .f32⟩
  | 84 => ⟨S_, .f32⟩
  | 85 => ⟨S_, .f32⟩
  | 86 => ⟨S_, .f32⟩
  | 87 => ⟨S_, .i32⟩
  | 88 => ⟨S4096x4096, .i32⟩
  | 89 => ⟨S4096x4096, .i32⟩
  | 90 => ⟨S4096x4096, .f32⟩
  | 91 => ⟨S4096x4096, .f32⟩
  | 92 => ⟨S4096x4096, .f32⟩
  | 93 => ⟨S_, .f32⟩
  | 94 => ⟨S4096x4096, .f32⟩
  | 95 => ⟨S4096x4096, .f32⟩
  | 96 => ⟨S4096x4096, .f32⟩
  | 97 => ⟨S_, .f32⟩
  | 98 => ⟨S_, .f32⟩
  | 99 => ⟨S4096x4096, .f32⟩
  | 100 => ⟨S4096x4096, .f32⟩
  | 101 => ⟨S4096x4096, .f32⟩
  | 102 => ⟨S_, .f32⟩
  | 103 => ⟨S_, .f32⟩
  | 104 => ⟨S4096x4096, .f32⟩
  | 105 => ⟨S4096x4096, .f32⟩
  | 106 => ⟨S128, .i32⟩
  | 107 => ⟨S128x1, .i32⟩
  | 108 => ⟨S1x128, .i32⟩
  | 109 => ⟨S128x128, .i32⟩
  | 110 => ⟨S128x128, .i32⟩
  | 111 => ⟨S128x128, .i32⟩
  | 112 => ⟨S_, .f32⟩
  | 113 => ⟨S_, .f32⟩
  | 114 => ⟨S_, .f32⟩
  | 115 => ⟨S_, .f32⟩
  | 116 => ⟨S_, .i32⟩
  | 117 => ⟨S128x128, .i32⟩
  | 118 => ⟨S128x128, .i32⟩
  | 119 => ⟨S128x128, .f32⟩
  | 120 => ⟨S128x128, .f32⟩
  | 121 => ⟨S128x128, .f32⟩
  | 122 => ⟨S_, .f32⟩
  | 123 => ⟨S128x128, .f32⟩
  | 124 => ⟨S128x128, .f32⟩
  | 125 => ⟨S128x128, .f32⟩
  | 126 => ⟨S_, .f32⟩
  | 127 => ⟨S_, .f32⟩
  | _ => ⟨S4x8192x1024, .f32⟩

abbrev hbmTy0_3 (i : Nat) : BufTy := match i % 128 with
  | 0 => ⟨S128x128, .f32⟩
  | 1 => ⟨S128x128, .f32⟩
  | 2 => ⟨S128x128, .f32⟩
  | 3 => ⟨S_, .f32⟩
  | 4 => ⟨S_, .f32⟩
  | 5 => ⟨S128x128, .f32⟩
  | 6 => ⟨S128x128, .f32⟩
  | 7 => ⟨S16x4x128x4096, .f32⟩
  | 8 => ⟨S16x4096x4x128, .f32⟩
  | 9 => ⟨S16x4x128x4096, .f32⟩
  | 10 => ⟨S16x4096x4x128, .f32⟩
  | 11 => ⟨S16x4096x4x128, .f32⟩
  | 12 => ⟨S16x4096x4x128, .f32⟩
  | 13 => ⟨S16x4096x4x128, .f32⟩
  | 14 => ⟨S16x4096x4x128, .f32⟩
  | 15 => ⟨S16x4096x512, .f32⟩
  | 16 => ⟨S16x4096x512, .f32⟩
  | 17 => ⟨S_, .f32⟩
  | 18 => ⟨S16x4096, .f32⟩
  | 19 => ⟨S16x4096x1, .f32⟩
  | 20 => ⟨S_, .f32⟩
  | 21 => ⟨S16x4096x1, .f32⟩
  | 22 => ⟨S16x4096x1, .f32⟩
  | 23 => ⟨S_, .f32⟩
  | 24 => ⟨S16x4096x1, .f32⟩
  | 25 => ⟨S16x4096x1, .f32⟩
  | 26 => ⟨S16x4096x1, .f32⟩
  | 27 => ⟨S16x4096x512, .f32⟩
  | 28 => ⟨S16x4096x512, .f32⟩
  | 29 => ⟨S1x1x512, .f32⟩
  | 30 => ⟨S16x4096x512, .f32⟩
  | 31 => ⟨S16x4096x512, .f32⟩
  | 32 => ⟨S16x4096x512, .f32⟩
  | 33 => ⟨S_, .i32⟩
  | 34 => ⟨S_, .f32⟩
  | 35 => ⟨S16x4098x512, .f32⟩
  | 36 => ⟨S16x4096x512, .f32⟩
  | 37 => ⟨S1x512, .f32⟩
  | 38 => ⟨S512, .f32⟩
  | 39 => ⟨S1x1x512, .f32⟩
  | 40 => ⟨S16x4096x512, .f32⟩
  | 41 => ⟨S16x4096x512, .f32⟩
  | 42 => ⟨S16x4096x512, .f32⟩
  | 43 => ⟨S1x512, .f32⟩
  | 44 => ⟨S512, .f32⟩
  | 45 => ⟨S1x1x512, .f32⟩
  | 46 => ⟨S16x4096x512, .f32⟩
  | 47 => ⟨S16x4096x512, .f32⟩
  | 48 => ⟨S16x4096x512, .f32⟩
  | 49 => ⟨S16x4096x512, .f32⟩
  | 50 => ⟨S1x512, .f32⟩
  | 51 => ⟨S512, .f32⟩
  | 52 => ⟨S1x1x512, .f32⟩
  | 53 => ⟨S16x4096x512, .f32⟩
  | 54 => ⟨S16x4096x512, .f32⟩
  | 55 => ⟨S16x4096x512, .f32⟩
  | 56 => ⟨S16x4096x512, .f32⟩
  | 57 => ⟨S16x4096x512, .f32⟩
  | 58 => ⟨S_, .f32⟩
  | 59 => ⟨S16x4096, .f32⟩
  | 60 => ⟨S16x4096x1, .f32⟩
  | 61 => ⟨S_, .f32⟩
  | 62 => ⟨S16x4096x1, .f32⟩
  | 63 => ⟨S16x4096x1, .f32⟩
  | 64 => ⟨S_, .f32⟩
  | 65 => ⟨S16x4096x1, .f32⟩
  | 66 => ⟨S16x4096x1, .f32⟩
  | 67 => ⟨S16x4096x1, .f32⟩
  | 68 => ⟨S16x4096x512, .f32⟩
  | 69 => ⟨S16x4096x512, .f32⟩
  | 70 => ⟨S1x1x512, .f32⟩
  | 71 => ⟨S16x4096x512, .f32⟩
  | 72 => ⟨S16x4096x512, .f32⟩
  | 73 => ⟨S16x4096x1024, .f32⟩
  | 74 => ⟨S16x4096x1024, .f32⟩
  | 75 => ⟨S16x4096x1024, .f32⟩
  | 76 => ⟨S16x4096x1024, .f32⟩
  | 77 => ⟨S_, .f32⟩
  | 78 => ⟨S16x4096, .f32⟩
  | 79 => ⟨S16x4096x1, .f32⟩
  | 80 => ⟨S_, .f32⟩
  | 81 => ⟨S16x4096x1, .f32⟩
  | 82 => ⟨S16x4096x1, .f32⟩
  | 83 => ⟨S_, .f32⟩
  | 84 => ⟨S16x4096x1, .f32⟩
  | 85 => ⟨S16x4096x1, .f32⟩
  | 86 => ⟨S16x4096x1, .f32⟩
  | 87 => ⟨S16x4096x1024, .f32⟩
  | 88 => ⟨S16x4096x1024, .f32⟩
  | 89 => ⟨S1x1x1024, .f32⟩
  | 90 => ⟨S16x4096x1024, .f32⟩
  | 91 => ⟨S16x4096x1024, .f32⟩
  | 92 => ⟨S16x4096x2816, .f32⟩
  | 93 => ⟨S16x4096x2816, .f32⟩
  | 94 => ⟨S16x4096x2816, .f32⟩
  | 95 => ⟨S_, .f32⟩
  | 96 => ⟨S16x4096x2816, .f32⟩
  | 97 => ⟨S16x4096x2816, .f32⟩
  | 98 => ⟨S_, .f32⟩
  | 99 => ⟨S16x4096x2816, .f32⟩
  | 100 => ⟨S16x4096x2816, .f32⟩
  | 101 => ⟨S16x4096x2816, .f32⟩
  | 102 => ⟨S16x4096x2816, .f32⟩
  | 103 => ⟨S16x4096x2816, .f32⟩
  | 104 => ⟨S16x4096x1024, .f32⟩
  | 105 => ⟨S_, .f32⟩
  | 106 => ⟨S16x4096x1024, .f32⟩
  | 107 => ⟨S16x4096x1024, .f32⟩
  | 108 => ⟨S16x4096x1024, .f32⟩
  | 109 => ⟨S16x4096x1024, .f32⟩
  | 110 => ⟨S_, .f32⟩
  | 111 => ⟨S16x4096, .f32⟩
  | 112 => ⟨S16x4096x1, .f32⟩
  | 113 => ⟨S_, .f32⟩
  | 114 => ⟨S16x4096x1, .f32⟩
  | 115 => ⟨S16x4096x1, .f32⟩
  | 116 => ⟨S_, .f32⟩
  | 117 => ⟨S16x4096x1, .f32⟩
  | 118 => ⟨S16x4096x1, .f32⟩
  | 119 => ⟨S16x4096x1, .f32⟩
  | 120 => ⟨S16x4096x1024, .f32⟩
  | 121 => ⟨S16x4096x1024, .f32⟩
  | 122 => ⟨S1x1x1024, .f32⟩
  | 123 => ⟨S16x4096x1024, .f32⟩
  | 124 => ⟨S16x4096x1024, .f32⟩
  | _ => ⟨S4x8192x1024, .f32⟩

abbrev hbmTy (i : Nat) : BufTy := match i / 128 with
  | 0 => hbmTy0_0 i
  | 1 => hbmTy0_1 i
  | 2 => hbmTy0_2 i
  | 3 => hbmTy0_3 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst : Ref sig .tc := ⟨.hbm, 32, rfl⟩
abbrev main_v15 : Ref sig .tc := ⟨.hbm, 33, rfl⟩
abbrev main_v16 : Ref sig .tc := ⟨.hbm, 34, rfl⟩
abbrev main_cst_0 : Ref sig .tc := ⟨.hbm, 35, rfl⟩
abbrev main_v17 : Ref sig .tc := ⟨.hbm, 36, rfl⟩
abbrev main_v18 : Ref sig .tc := ⟨.hbm, 37, rfl⟩
abbrev main_cst_1 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_2 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_3 : Ref sig .tc := ⟨.hbm, 65, rfl⟩
abbrev main_v36 : Ref sig .tc := ⟨.hbm, 66, rfl⟩
abbrev main_v37 : Ref sig .tc := ⟨.hbm, 67, rfl⟩
abbrev main_cst_4 : Ref sig .tc := ⟨.hbm, 68, rfl⟩
abbrev main_v38 : Ref sig .tc := ⟨.hbm, 69, rfl⟩
abbrev main_v39 : Ref sig .tc := ⟨.hbm, 70, rfl⟩
abbrev main_cst_5 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_6 : Ref sig .tc := ⟨.hbm, 93, rfl⟩
abbrev main_v61 : Ref sig .tc := ⟨.hbm, 94, rfl⟩
abbrev main_cst_7 : Ref sig .tc := ⟨.hbm, 95, rfl⟩
abbrev main_v62 : Ref sig .tc := ⟨.hbm, 96, rfl⟩
abbrev main_c : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_8 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_9 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_10 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_cst_11 : Ref sig .tc := ⟨.hbm, 122, rfl⟩
abbrev main_v84 : Ref sig .tc := ⟨.hbm, 123, rfl⟩
abbrev main_cst_12 : Ref sig .tc := ⟨.hbm, 124, rfl⟩
abbrev main_v85 : Ref sig .tc := ⟨.hbm, 125, rfl⟩
abbrev main_c_13 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst_14 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_cst_15 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_cst_16 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_cst_17 : Ref sig .tc := ⟨.hbm, 155, rfl⟩
abbrev main_v111 : Ref sig .tc := ⟨.hbm, 156, rfl⟩
abbrev main_v112 : Ref sig .tc := ⟨.hbm, 157, rfl⟩
abbrev main_cst_18 : Ref sig .tc := ⟨.hbm, 158, rfl⟩
abbrev main_v113 : Ref sig .tc := ⟨.hbm, 159, rfl⟩
abbrev main_v114 : Ref sig .tc := ⟨.hbm, 160, rfl⟩
abbrev main_cst_19 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_c_20 : Ref sig .tc := ⟨.hbm, 171, rfl⟩
abbrev main_call1_v0 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_cst_21 : Ref sig .tc := ⟨.hbm, 196, rfl⟩
abbrev main_v147 : Ref sig .tc := ⟨.hbm, 197, rfl⟩
abbrev main_v148 : Ref sig .tc := ⟨.hbm, 198, rfl⟩
abbrev main_cst_22 : Ref sig .tc := ⟨.hbm, 199, rfl⟩
abbrev main_v149 : Ref sig .tc := ⟨.hbm, 200, rfl⟩
abbrev main_v150 : Ref sig .tc := ⟨.hbm, 201, rfl⟩
abbrev main_cst_23 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_cst_24 : Ref sig .tc := ⟨.hbm, 215, rfl⟩
abbrev main_v163 : Ref sig .tc := ⟨.hbm, 216, rfl⟩
abbrev main_v164 : Ref sig .tc := ⟨.hbm, 217, rfl⟩
abbrev main_cst_25 : Ref sig .tc := ⟨.hbm, 218, rfl⟩
abbrev main_v165 : Ref sig .tc := ⟨.hbm, 219, rfl⟩
abbrev main_v166 : Ref sig .tc := ⟨.hbm, 220, rfl⟩
abbrev main_cst_26 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_call2_v0 : Ref sig .tc := ⟨.hbm, 231, rfl⟩
abbrev main_call2_v1 : Ref sig .tc := ⟨.hbm, 232, rfl⟩
abbrev main_call2_cst : Ref sig .tc := ⟨.hbm, 233, rfl⟩
abbrev main_call2_v2 : Ref sig .tc := ⟨.hbm, 234, rfl⟩
abbrev main_call2_v3 : Ref sig .tc := ⟨.hbm, 235, rfl⟩
abbrev main_call2_cst_0 : Ref sig .tc := ⟨.hbm, 236, rfl⟩
abbrev main_call2_v4 : Ref sig .tc := ⟨.hbm, 237, rfl⟩
abbrev main_call2_v5 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_cst_27 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩
abbrev main_cst_28 : Ref sig .tc := ⟨.hbm, 248, rfl⟩
abbrev main_v184 : Ref sig .tc := ⟨.hbm, 249, rfl⟩
abbrev main_v185 : Ref sig .tc := ⟨.hbm, 250, rfl⟩
abbrev main_cst_29 : Ref sig .tc := ⟨.hbm, 251, rfl⟩
abbrev main_v186 : Ref sig .tc := ⟨.hbm, 252, rfl⟩
abbrev main_v187 : Ref sig .tc := ⟨.hbm, 253, rfl⟩
abbrev main_cst_30 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_v196 : Ref sig .tc := ⟨.hbm, 263, rfl⟩
abbrev main_v197 : Ref sig .tc := ⟨.hbm, 264, rfl⟩
abbrev main_v198 : Ref sig .tc := ⟨.hbm, 265, rfl⟩
abbrev main_v199 : Ref sig .tc := ⟨.hbm, 266, rfl⟩
abbrev main_v200 : Ref sig .tc := ⟨.hbm, 267, rfl⟩
abbrev main_v201 : Ref sig .tc := ⟨.hbm, 268, rfl⟩
abbrev main_v202 : Ref sig .tc := ⟨.hbm, 269, rfl⟩
abbrev main_v203 : Ref sig .tc := ⟨.hbm, 270, rfl⟩
abbrev main_v204 : Ref sig .tc := ⟨.hbm, 271, rfl⟩
abbrev main_v205 : Ref sig .tc := ⟨.hbm, 272, rfl⟩
abbrev main_v206 : Ref sig .tc := ⟨.hbm, 273, rfl⟩
abbrev main_v207 : Ref sig .tc := ⟨.hbm, 274, rfl⟩
abbrev main_v208 : Ref sig .tc := ⟨.hbm, 275, rfl⟩
abbrev main_v209 : Ref sig .tc := ⟨.hbm, 276, rfl⟩
abbrev main_v210 : Ref sig .tc := ⟨.hbm, 277, rfl⟩
abbrev main_cst_31 : Ref sig .tc := ⟨.hbm, 278, rfl⟩
abbrev main_v211 : Ref sig .tc := ⟨.hbm, 279, rfl⟩
abbrev main_v212 : Ref sig .tc := ⟨.hbm, 280, rfl⟩
abbrev main_cst_32 : Ref sig .tc := ⟨.hbm, 281, rfl⟩
abbrev main_v213 : Ref sig .tc := ⟨.hbm, 282, rfl⟩
abbrev main_v214 : Ref sig .tc := ⟨.hbm, 283, rfl⟩
abbrev main_cst_33 : Ref sig .tc := ⟨.hbm, 284, rfl⟩
abbrev main_v215 : Ref sig .tc := ⟨.hbm, 285, rfl⟩
abbrev main_v216 : Ref sig .tc := ⟨.hbm, 286, rfl⟩
abbrev main_v217 : Ref sig .tc := ⟨.hbm, 287, rfl⟩
abbrev main_v218 : Ref sig .tc := ⟨.hbm, 288, rfl⟩
abbrev main_v219 : Ref sig .tc := ⟨.hbm, 289, rfl⟩
abbrev main_v220 : Ref sig .tc := ⟨.hbm, 290, rfl⟩
abbrev main_v221 : Ref sig .tc := ⟨.hbm, 291, rfl⟩
abbrev main_v222 : Ref sig .tc := ⟨.hbm, 292, rfl⟩
abbrev main_v223 : Ref sig .tc := ⟨.hbm, 293, rfl⟩
abbrev main_call3_v0 : Ref sig .tc := ⟨.hbm, 294, rfl⟩
abbrev main_call3_v1 : Ref sig .tc := ⟨.hbm, 295, rfl⟩
abbrev main_call3_cst : Ref sig .tc := ⟨.hbm, 296, rfl⟩
abbrev main_call3_v2 : Ref sig .tc := ⟨.hbm, 297, rfl⟩
abbrev main_call3_v3 : Ref sig .tc := ⟨.hbm, 298, rfl⟩
abbrev main_call3_cst_0 : Ref sig .tc := ⟨.hbm, 299, rfl⟩
abbrev main_call3_v4 : Ref sig .tc := ⟨.hbm, 300, rfl⟩
abbrev main_call3_v5 : Ref sig .tc := ⟨.hbm, 301, rfl⟩
abbrev main_v224 : Ref sig .tc := ⟨.hbm, 302, rfl⟩
abbrev main_v225 : Ref sig .tc := ⟨.hbm, 303, rfl⟩
abbrev main_v226 : Ref sig .tc := ⟨.hbm, 304, rfl⟩
abbrev main_v227 : Ref sig .tc := ⟨.hbm, 305, rfl⟩
abbrev main_cst_34 : Ref sig .tc := ⟨.hbm, 306, rfl⟩
abbrev main_v228 : Ref sig .tc := ⟨.hbm, 307, rfl⟩
abbrev main_v229 : Ref sig .tc := ⟨.hbm, 308, rfl⟩
abbrev main_v230 : Ref sig .tc := ⟨.hbm, 309, rfl⟩
abbrev main_v231 : Ref sig .tc := ⟨.hbm, 310, rfl⟩
abbrev main_cst_35 : Ref sig .tc := ⟨.hbm, 311, rfl⟩
abbrev main_v232 : Ref sig .tc := ⟨.hbm, 312, rfl⟩
abbrev main_v233 : Ref sig .tc := ⟨.hbm, 313, rfl⟩
abbrev main_cst_36 : Ref sig .tc := ⟨.hbm, 314, rfl⟩
abbrev main_v234 : Ref sig .tc := ⟨.hbm, 315, rfl⟩
abbrev main_v235 : Ref sig .tc := ⟨.hbm, 316, rfl⟩
abbrev main_cst_37 : Ref sig .tc := ⟨.hbm, 317, rfl⟩
abbrev main_v236 : Ref sig .tc := ⟨.hbm, 318, rfl⟩
abbrev main_v237 : Ref sig .tc := ⟨.hbm, 319, rfl⟩
abbrev main_v238 : Ref sig .tc := ⟨.hbm, 320, rfl⟩
abbrev main_v239 : Ref sig .tc := ⟨.hbm, 321, rfl⟩
abbrev main_v240 : Ref sig .tc := ⟨.hbm, 322, rfl⟩
abbrev main_v241 : Ref sig .tc := ⟨.hbm, 323, rfl⟩
abbrev main_v242 : Ref sig .tc := ⟨.hbm, 324, rfl⟩
abbrev main_v243 : Ref sig .tc := ⟨.hbm, 325, rfl⟩
abbrev main_v244 : Ref sig .tc := ⟨.hbm, 326, rfl⟩
abbrev main_v245 : Ref sig .tc := ⟨.hbm, 327, rfl⟩
abbrev main_v246 : Ref sig .tc := ⟨.hbm, 328, rfl⟩
abbrev main_v247 : Ref sig .tc := ⟨.hbm, 329, rfl⟩
abbrev main_v248 : Ref sig .tc := ⟨.hbm, 330, rfl⟩
abbrev main_v249 : Ref sig .tc := ⟨.hbm, 331, rfl⟩
abbrev main_v250 : Ref sig .tc := ⟨.hbm, 332, rfl⟩
abbrev main_v251 : Ref sig .tc := ⟨.hbm, 333, rfl⟩
abbrev main_v252 : Ref sig .tc := ⟨.hbm, 334, rfl⟩
abbrev main_v253 : Ref sig .tc := ⟨.hbm, 335, rfl⟩
abbrev main_v254 : Ref sig .tc := ⟨.hbm, 336, rfl⟩
abbrev main_v255 : Ref sig .tc := ⟨.hbm, 337, rfl⟩
abbrev main_v256 : Ref sig .tc := ⟨.hbm, 338, rfl⟩
abbrev main_cst_38 : Ref sig .tc := ⟨.hbm, 339, rfl⟩
abbrev main_v257 : Ref sig .tc := ⟨.hbm, 340, rfl⟩
abbrev main_cst_39 : Ref sig .tc := ⟨.hbm, 341, rfl⟩
abbrev main_v258 : Ref sig .tc := ⟨.hbm, 342, rfl⟩
abbrev main_c_40 : Ref sig .tc := ⟨.hbm, 343, rfl⟩
abbrev main_v259 : Ref sig .tc := ⟨.hbm, 344, rfl⟩
abbrev main_v260 : Ref sig .tc := ⟨.hbm, 345, rfl⟩
abbrev main_v261 : Ref sig .tc := ⟨.hbm, 346, rfl⟩
abbrev main_v262 : Ref sig .tc := ⟨.hbm, 347, rfl⟩
abbrev main_v263 : Ref sig .tc := ⟨.hbm, 348, rfl⟩
abbrev main_cst_41 : Ref sig .tc := ⟨.hbm, 349, rfl⟩
abbrev main_v264 : Ref sig .tc := ⟨.hbm, 350, rfl⟩
abbrev main_v265 : Ref sig .tc := ⟨.hbm, 351, rfl⟩
abbrev main_v266 : Ref sig .tc := ⟨.hbm, 352, rfl⟩
abbrev main_cst_42 : Ref sig .tc := ⟨.hbm, 353, rfl⟩
abbrev main_v267 : Ref sig .tc := ⟨.hbm, 354, rfl⟩
abbrev main_v268 : Ref sig .tc := ⟨.hbm, 355, rfl⟩
abbrev main_v269 : Ref sig .tc := ⟨.hbm, 356, rfl⟩
abbrev main_v270 : Ref sig .tc := ⟨.hbm, 357, rfl⟩
abbrev main_cst_43 : Ref sig .tc := ⟨.hbm, 358, rfl⟩
abbrev main_v271 : Ref sig .tc := ⟨.hbm, 359, rfl⟩
abbrev main_v272 : Ref sig .tc := ⟨.hbm, 360, rfl⟩
abbrev main_v273 : Ref sig .tc := ⟨.hbm, 361, rfl⟩
abbrev main_v274 : Ref sig .tc := ⟨.hbm, 362, rfl⟩
abbrev main_v275 : Ref sig .tc := ⟨.hbm, 363, rfl⟩
abbrev main_v276 : Ref sig .tc := ⟨.hbm, 364, rfl⟩
abbrev main_v277 : Ref sig .tc := ⟨.hbm, 365, rfl⟩
abbrev main_v278 : Ref sig .tc := ⟨.hbm, 366, rfl⟩
abbrev main_v279 : Ref sig .tc := ⟨.hbm, 367, rfl⟩
abbrev main_cst_44 : Ref sig .tc := ⟨.hbm, 368, rfl⟩
abbrev main_v280 : Ref sig .tc := ⟨.hbm, 369, rfl⟩
abbrev main_cst_45 : Ref sig .tc := ⟨.hbm, 370, rfl⟩
abbrev main_v281 : Ref sig .tc := ⟨.hbm, 371, rfl⟩
abbrev main_c_46 : Ref sig .tc := ⟨.hbm, 372, rfl⟩
abbrev main_v282 : Ref sig .tc := ⟨.hbm, 373, rfl⟩
abbrev main_v283 : Ref sig .tc := ⟨.hbm, 374, rfl⟩
abbrev main_v284 : Ref sig .tc := ⟨.hbm, 375, rfl⟩
abbrev main_v285 : Ref sig .tc := ⟨.hbm, 376, rfl⟩
abbrev main_v286 : Ref sig .tc := ⟨.hbm, 377, rfl⟩
abbrev main_cst_47 : Ref sig .tc := ⟨.hbm, 378, rfl⟩
abbrev main_v287 : Ref sig .tc := ⟨.hbm, 379, rfl⟩
abbrev main_v288 : Ref sig .tc := ⟨.hbm, 380, rfl⟩
abbrev main_v289 : Ref sig .tc := ⟨.hbm, 381, rfl⟩
abbrev main_cst_48 : Ref sig .tc := ⟨.hbm, 382, rfl⟩
abbrev main_v290 : Ref sig .tc := ⟨.hbm, 383, rfl⟩
abbrev main_v291 : Ref sig .tc := ⟨.hbm, 384, rfl⟩
abbrev main_v292 : Ref sig .tc := ⟨.hbm, 385, rfl⟩
abbrev main_v293 : Ref sig .tc := ⟨.hbm, 386, rfl⟩
abbrev main_cst_49 : Ref sig .tc := ⟨.hbm, 387, rfl⟩
abbrev main_v294 : Ref sig .tc := ⟨.hbm, 388, rfl⟩
abbrev main_v295 : Ref sig .tc := ⟨.hbm, 389, rfl⟩
abbrev main_v296 : Ref sig .tc := ⟨.hbm, 390, rfl⟩
abbrev main_v297 : Ref sig .tc := ⟨.hbm, 391, rfl⟩
abbrev main_v298 : Ref sig .tc := ⟨.hbm, 392, rfl⟩
abbrev main_v299 : Ref sig .tc := ⟨.hbm, 393, rfl⟩
abbrev main_v300 : Ref sig .tc := ⟨.hbm, 394, rfl⟩
abbrev main_v301 : Ref sig .tc := ⟨.hbm, 395, rfl⟩
abbrev main_v302 : Ref sig .tc := ⟨.hbm, 396, rfl⟩
abbrev main_v303 : Ref sig .tc := ⟨.hbm, 397, rfl⟩
abbrev main_v304 : Ref sig .tc := ⟨.hbm, 398, rfl⟩
abbrev main_v305 : Ref sig .tc := ⟨.hbm, 399, rfl⟩
abbrev main_v306 : Ref sig .tc := ⟨.hbm, 400, rfl⟩
abbrev main_cst_50 : Ref sig .tc := ⟨.hbm, 401, rfl⟩
abbrev main_v307 : Ref sig .tc := ⟨.hbm, 402, rfl⟩
abbrev main_v308 : Ref sig .tc := ⟨.hbm, 403, rfl⟩
abbrev main_cst_51 : Ref sig .tc := ⟨.hbm, 404, rfl⟩
abbrev main_v309 : Ref sig .tc := ⟨.hbm, 405, rfl⟩
abbrev main_v310 : Ref sig .tc := ⟨.hbm, 406, rfl⟩
abbrev main_cst_52 : Ref sig .tc := ⟨.hbm, 407, rfl⟩
abbrev main_v311 : Ref sig .tc := ⟨.hbm, 408, rfl⟩
abbrev main_v312 : Ref sig .tc := ⟨.hbm, 409, rfl⟩
abbrev main_v313 : Ref sig .tc := ⟨.hbm, 410, rfl⟩
abbrev main_v314 : Ref sig .tc := ⟨.hbm, 411, rfl⟩
abbrev main_v315 : Ref sig .tc := ⟨.hbm, 412, rfl⟩
abbrev main_v316 : Ref sig .tc := ⟨.hbm, 413, rfl⟩
abbrev main_v317 : Ref sig .tc := ⟨.hbm, 414, rfl⟩
abbrev main_v318 : Ref sig .tc := ⟨.hbm, 415, rfl⟩
abbrev main_v319 : Ref sig .tc := ⟨.hbm, 416, rfl⟩
abbrev main_c_53 : Ref sig .tc := ⟨.hbm, 417, rfl⟩
abbrev main_call4_v0 : Ref sig .tc := ⟨.hbm, 418, rfl⟩
abbrev main_v320 : Ref sig .tc := ⟨.hbm, 419, rfl⟩
abbrev main_v321 : Ref sig .tc := ⟨.hbm, 420, rfl⟩
abbrev main_v322 : Ref sig .tc := ⟨.hbm, 421, rfl⟩
abbrev main_v323 : Ref sig .tc := ⟨.hbm, 422, rfl⟩
abbrev main_v324 : Ref sig .tc := ⟨.hbm, 423, rfl⟩
abbrev main_v325 : Ref sig .tc := ⟨.hbm, 424, rfl⟩
abbrev main_v326 : Ref sig .tc := ⟨.hbm, 425, rfl⟩
abbrev main_v327 : Ref sig .tc := ⟨.hbm, 426, rfl⟩
abbrev main_v328 : Ref sig .tc := ⟨.hbm, 427, rfl⟩
abbrev main_v329 : Ref sig .tc := ⟨.hbm, 428, rfl⟩
abbrev main_v330 : Ref sig .tc := ⟨.hbm, 429, rfl⟩
abbrev main_v331 : Ref sig .tc := ⟨.hbm, 430, rfl⟩
abbrev main_v332 : Ref sig .tc := ⟨.hbm, 431, rfl⟩
abbrev main_v333 : Ref sig .tc := ⟨.hbm, 432, rfl⟩
abbrev main_v334 : Ref sig .tc := ⟨.hbm, 433, rfl⟩
abbrev main_v335 : Ref sig .tc := ⟨.hbm, 434, rfl⟩
abbrev main_v336 : Ref sig .tc := ⟨.hbm, 435, rfl⟩
abbrev main_v337 : Ref sig .tc := ⟨.hbm, 436, rfl⟩
abbrev main_v338 : Ref sig .tc := ⟨.hbm, 437, rfl⟩
abbrev main_v339 : Ref sig .tc := ⟨.hbm, 438, rfl⟩
abbrev main_v340 : Ref sig .tc := ⟨.hbm, 439, rfl⟩
abbrev main_v341 : Ref sig .tc := ⟨.hbm, 440, rfl⟩
abbrev main_v342 : Ref sig .tc := ⟨.hbm, 441, rfl⟩
abbrev main_cst_54 : Ref sig .tc := ⟨.hbm, 442, rfl⟩
abbrev main_v343 : Ref sig .tc := ⟨.hbm, 443, rfl⟩
abbrev main_v344 : Ref sig .tc := ⟨.hbm, 444, rfl⟩
abbrev main_cst_55 : Ref sig .tc := ⟨.hbm, 445, rfl⟩
abbrev main_v345 : Ref sig .tc := ⟨.hbm, 446, rfl⟩
abbrev main_v346 : Ref sig .tc := ⟨.hbm, 447, rfl⟩
abbrev main_cst_56 : Ref sig .tc := ⟨.hbm, 448, rfl⟩
abbrev main_v347 : Ref sig .tc := ⟨.hbm, 449, rfl⟩
abbrev main_v348 : Ref sig .tc := ⟨.hbm, 450, rfl⟩
abbrev main_v349 : Ref sig .tc := ⟨.hbm, 451, rfl⟩
abbrev main_v350 : Ref sig .tc := ⟨.hbm, 452, rfl⟩
abbrev main_v351 : Ref sig .tc := ⟨.hbm, 453, rfl⟩
abbrev main_v352 : Ref sig .tc := ⟨.hbm, 454, rfl⟩
abbrev main_v353 : Ref sig .tc := ⟨.hbm, 455, rfl⟩
abbrev main_v354 : Ref sig .tc := ⟨.hbm, 456, rfl⟩
abbrev main_v355 : Ref sig .tc := ⟨.hbm, 457, rfl⟩
abbrev main_v356 : Ref sig .tc := ⟨.hbm, 458, rfl⟩
abbrev main_v357 : Ref sig .tc := ⟨.hbm, 459, rfl⟩
abbrev main_v358 : Ref sig .tc := ⟨.hbm, 460, rfl⟩
abbrev main_cst_57 : Ref sig .tc := ⟨.hbm, 461, rfl⟩
abbrev main_v359 : Ref sig .tc := ⟨.hbm, 462, rfl⟩
abbrev main_v360 : Ref sig .tc := ⟨.hbm, 463, rfl⟩
abbrev main_cst_58 : Ref sig .tc := ⟨.hbm, 464, rfl⟩
abbrev main_v361 : Ref sig .tc := ⟨.hbm, 465, rfl⟩
abbrev main_v362 : Ref sig .tc := ⟨.hbm, 466, rfl⟩
abbrev main_cst_59 : Ref sig .tc := ⟨.hbm, 467, rfl⟩
abbrev main_v363 : Ref sig .tc := ⟨.hbm, 468, rfl⟩
abbrev main_v364 : Ref sig .tc := ⟨.hbm, 469, rfl⟩
abbrev main_v365 : Ref sig .tc := ⟨.hbm, 470, rfl⟩
abbrev main_v366 : Ref sig .tc := ⟨.hbm, 471, rfl⟩
abbrev main_v367 : Ref sig .tc := ⟨.hbm, 472, rfl⟩
abbrev main_v368 : Ref sig .tc := ⟨.hbm, 473, rfl⟩
abbrev main_v369 : Ref sig .tc := ⟨.hbm, 474, rfl⟩
abbrev main_v370 : Ref sig .tc := ⟨.hbm, 475, rfl⟩
abbrev main_v371 : Ref sig .tc := ⟨.hbm, 476, rfl⟩
abbrev main_call5_v0 : Ref sig .tc := ⟨.hbm, 477, rfl⟩
abbrev main_call5_v1 : Ref sig .tc := ⟨.hbm, 478, rfl⟩
abbrev main_call5_cst : Ref sig .tc := ⟨.hbm, 479, rfl⟩
abbrev main_call5_v2 : Ref sig .tc := ⟨.hbm, 480, rfl⟩
abbrev main_call5_v3 : Ref sig .tc := ⟨.hbm, 481, rfl⟩
abbrev main_call5_cst_0 : Ref sig .tc := ⟨.hbm, 482, rfl⟩
abbrev main_call5_v4 : Ref sig .tc := ⟨.hbm, 483, rfl⟩
abbrev main_call5_v5 : Ref sig .tc := ⟨.hbm, 484, rfl⟩
abbrev main_v372 : Ref sig .tc := ⟨.hbm, 485, rfl⟩
abbrev main_v373 : Ref sig .tc := ⟨.hbm, 486, rfl⟩
abbrev main_v374 : Ref sig .tc := ⟨.hbm, 487, rfl⟩
abbrev main_v375 : Ref sig .tc := ⟨.hbm, 488, rfl⟩
abbrev main_cst_60 : Ref sig .tc := ⟨.hbm, 489, rfl⟩
abbrev main_v376 : Ref sig .tc := ⟨.hbm, 490, rfl⟩
abbrev main_v377 : Ref sig .tc := ⟨.hbm, 491, rfl⟩
abbrev main_v378 : Ref sig .tc := ⟨.hbm, 492, rfl⟩
abbrev main_v379 : Ref sig .tc := ⟨.hbm, 493, rfl⟩
abbrev main_cst_61 : Ref sig .tc := ⟨.hbm, 494, rfl⟩
abbrev main_v380 : Ref sig .tc := ⟨.hbm, 495, rfl⟩
abbrev main_v381 : Ref sig .tc := ⟨.hbm, 496, rfl⟩
abbrev main_cst_62 : Ref sig .tc := ⟨.hbm, 497, rfl⟩
abbrev main_v382 : Ref sig .tc := ⟨.hbm, 498, rfl⟩
abbrev main_v383 : Ref sig .tc := ⟨.hbm, 499, rfl⟩
abbrev main_cst_63 : Ref sig .tc := ⟨.hbm, 500, rfl⟩
abbrev main_v384 : Ref sig .tc := ⟨.hbm, 501, rfl⟩
abbrev main_v385 : Ref sig .tc := ⟨.hbm, 502, rfl⟩
abbrev main_v386 : Ref sig .tc := ⟨.hbm, 503, rfl⟩
abbrev main_v387 : Ref sig .tc := ⟨.hbm, 504, rfl⟩
abbrev main_v388 : Ref sig .tc := ⟨.hbm, 505, rfl⟩
abbrev main_v389 : Ref sig .tc := ⟨.hbm, 506, rfl⟩
abbrev main_v390 : Ref sig .tc := ⟨.hbm, 507, rfl⟩
abbrev main_v391 : Ref sig .tc := ⟨.hbm, 508, rfl⟩

abbrev nD : Nat := 1
abbrev τ : Topo := Topo.v7x

variable {F : FTy → Type} [FloatOps F]
-- ==== Proof.Run.lean ====
/- The kernel's run at the idealized program, ending with every buffer as the last boundary has it. -/
module

public import proofs.«01_k».proof.Proof.Gen.KernelIdeal.Frame
public import Idealize.ShloMosaic.Lib.Pointwise

@[expose] public section

set_option maxRecDepth 16384

noncomputable section

namespace Cert.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every execution ends, and every buffer that outlives the calls then holds what the last boundary's contents say. -/
theorem run_ends : θ_run (defs (F := Ideal)) (onTc (τ := τ) (main (F := Ideal))) ⟨m, fun _ => 0, ρ⟩
    (fun r => ∀ c : Dev nD, ∀ b ∈ Pipeline.ucRefs τ sig, r.2.mem (((c : Thread nD τ)).1, b) = W33 m ρ c b) :=
  (θ_run defs _ _).mono (fun _ h => h.1) <|
  Pipeline.θ_run_regions_kit_sems (pcfgs (F := Ideal)) adm (pdats m ρ) () cellOf_inj emb₁ defs₀ 𝒱₀ L lv m ρ main (segs m ρ)
    (QY := fun c s => ∀ b ∈ Pipeline.ucRefs τ sig, s.mem (((c : Thread nD τ)).1, b) = W33 m ρ c b)
    (Q := fun r => (∀ c : Dev nD, ∀ b ∈ Pipeline.ucRefs τ sig, r.2.mem (((c : Thread nD τ)).1, b) = W33 m ρ c b) ∧ True)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (hfin := fun c s' => by
      iintro ⟨⟨Hh, -⟩, HSI⟩
      unfold StableHlo.held
      imodintro
      iapply (pointsTo_read_all (Pipeline.ucRefs τ sig) (fun b => (((c : Thread nD τ)).1, b)) (W33 m ρ c) s')
      isplitl [Hh] <;> iassumption)
    (hQ := fun s h _ => ⟨h, trivial⟩)

end Cert.Layer

end
-- ==== Proof.Spec.lean ====
/- The layer's mathematics, one row (the channels of one position) at a time, over the extended reals. -/
module

public import Idealize.ShloMosaic.Lib.Pointwise

@[expose] public section

noncomputable section

namespace Cert.Layer

open Idealize.ShloMosaic

/-- The constant the norms add to the mean square. -/
def eps : EReal := Ideal.ofBits .f32 0x358637BD#32
/-- The weight of a feed-forward half-step. -/
def half : EReal := Ideal.ofBits .f32 0x3F000000#32
/-- The width of the model. -/
def c1024 : EReal := Ideal.ofBits .f32 0x44800000#32
/-- The width of a head group. -/
def c512 : EReal := Ideal.ofBits .f32 0x44000000#32

/-- The RMS norm of a row `x` of width `N`, with gain `g`. -/
def rms {n : ℕ} (N : EReal) (x g : Fin n → EReal) (j : Fin n) : EReal :=
  x j * Ideal.rsqrt (Ideal.div (∑ k, x k * x k) N + eps) * g j

/-- A row times a matrix. -/
def dot {n p : ℕ} (x : Fin n → EReal) (w : Fin n → Fin p → EReal) (j : Fin p) : EReal := ∑ k, x k * w k j

/-- The gated hidden row of a feed-forward step. -/
def act {n p : ℕ} (h : Fin n → EReal) (wg wu : Fin n → Fin p → EReal) (f : Fin p) : EReal :=
  dot h wg f * Ideal.logistic (dot h wg f) * dot h wu f

/-- A feed-forward half-step of a row `x`, its residual included. -/
def ffn (x g : Fin 1024 → EReal) (wg wu : Fin 1024 → Fin 2816 → EReal) (wd : Fin 2816 → Fin 1024 → EReal)
    (d : Fin 1024) : EReal :=
  x d + half * ∑ f, act (rms c1024 x g) wg wu f * wd f d

/-- The in-projection of a row. -/
def proj (x g : Fin 1024 → EReal) (w : Fin 1024 → Fin 2048 → EReal) (j : Fin 2048) : EReal :=
  ∑ k, rms c1024 x g k * w k j

/-- The centred convolution of a channel: the rows before, at and after the position, weighted. -/
def conv (a b c : Fin 512 → EReal) (w : Fin 3 → Fin 512 → EReal) (j : Fin 512) : EReal :=
  a j * w 0 j + b j * w 1 j + c j * w 2 j

/-- The two head groups' rows, normed, through the out-projection, and the residual. -/
def mixed (x : Fin 1024 → EReal) (yf yc gf gc : Fin 512 → EReal) (wo : Fin 1024 → Fin 1024 → EReal) (d : Fin 1024) : EReal :=
  x d + ((∑ k : Fin 512, rms c512 yf gf k * wo ⟨k, by omega⟩ d) + ∑ k : Fin 512, rms c512 yc gc k * wo ⟨512 + k, by omega⟩ d)

/-- The channel transform of a row: the real parts and minus the imaginary parts of its head, against the
    128-point tables. -/
def chan (cd sd : Fin 128 → Fin 128 → EReal) (re im : Fin 512 → EReal) (j : Fin 512) : EReal :=
  (∑ k : Fin 128, re ⟨j / 128 * 128 + k, by omega⟩ * cd k ⟨j % 128, by omega⟩)
    + ∑ k : Fin 128, im ⟨j / 128 * 128 + k, by omega⟩ * sd k ⟨j % 128, by omega⟩

/-- All that follows the transform, of one position: the gated convolution, the two norms, the out-projection, the second
    feed-forward half-step and the last norm. -/
def tail (x : Fin 1024 → EReal) (yf gb a b c : Fin 512 → EReal) (cw : Fin 3 → Fin 512 → EReal) (gf gc : Fin 512 → EReal)
    (wo : Fin 1024 → Fin 1024 → EReal) (g2 : Fin 1024 → EReal) (wg wu : Fin 1024 → Fin 2816 → EReal)
    (wd : Fin 2816 → Fin 1024 → EReal) (gfin : Fin 1024 → EReal) : Fin 1024 → EReal :=
  rms c1024 (ffn (mixed x yf (fun j => gb j * conv a b c cw j) gf gc wo) g2 wg wu wd) gfin

end Cert.Layer

end
-- ==== Proof.Block0.lean ====
/- What the first call's body leaves in its output blocks, row by row. -/
module

public import proofs.«01_k».proof.Proof.Gen.KernelIdeal.Frame.Region0
public import proofs.«01_k».proof.Proof.Gen.KernelIdeal.Frame.Region4
public import proofs.«01_k».proof.Proof.Spec
public import Idealize.ShloMosaic.Lib.Pipeline.ValueKit
public import Idealize.ShloMosaic.Lib.Pointwise

@[expose] public section

set_option maxRecDepth 16384

noncomputable section

namespace Cert.Layer

open Idealize.ShloMosaic Idealize.ShloMosaic.TcCoe Idealize.SL.Sem
open Cert.KernelIdeal Cert.KernelIdeal.Gen

/-- The normed row. -/
theorem k0_pay2_at (x0 : FVec Ideal S512x1024 .f32) (x1 : FVec Ideal S1x1024 .f32) (r : Fin 512) (k : Fin 1024) :
    k0_pay2 (F := Ideal) x0 x1 (ix2 r k) = rms c1024 (fun k => x0 (ix2 r k)) (fun k => x1 (ix2 0 k)) k := by
  pointwise [k0_pay2, k0_pay1]
  rfl

/-- The gated hidden row's sum over all channels is the sum over the first half and the sum over the second. -/
theorem sum_halves (f : Fin 2816 → EReal) :
    ∑ k, f k = (∑ k : Fin 1408, f ⟨k, by omega⟩) + ∑ k : Fin 1408, f ⟨1408 + k, by omega⟩ :=
  Fin.sum_univ_two_halves 1408 1408 rfl f

section
variable {n : ℕ} (x0 : FVec Ideal ⟨2, ![n, 1024]⟩ .f32) (x1 : FVec Ideal S1x1024 .f32) (x2 x3 : FVec Ideal S1024x2816 .bf16)
    (x4 : FVec Ideal S2816x1024 .bf16) (x5 : FVec Ideal S1x1024 .f32) (x6 : FVec Ideal S1024x2048 .bf16) (r : Fin n)

/-- The row after the first feed-forward half-step. -/
def x1row : Fin 1024 → EReal :=
  ffn (fun k => x0 (ix2 r k)) (fun k => x1 (ix2 0 k)) (fun k f => x2 (ix2 k f)) (fun k f => x3 (ix2 k f)) (fun f d => x4 (ix2 f d))

/-- The in-projection's row. -/
def urow : Fin 2048 → EReal := proj (x1row x0 x1 x2 x3 x4 r) (fun k => x5 (ix2 0 k)) (fun k j => x6 (ix2 k j))

/-- The arrays the first call fills. -/
def x1Arr : FVec Ideal ⟨2, ![n, 1024]⟩ .f32 := fun i => x1row x0 x1 x2 x3 x4 (i 0) (i 1)
def ufArr : FVec Ideal ⟨2, ![n, 512]⟩ .f32 := fun i => urow x0 x1 x2 x3 x4 x5 x6 (i 0) ⟨i 1, by have h : (i 1).val < 512 := (i 1).isLt; omega⟩
def gbArr : FVec Ideal ⟨2, ![n, 512]⟩ .f32 := fun i => urow x0 x1 x2 x3 x4 x5 x6 (i 0) ⟨512 + i 1, by have h : (i 1).val < 512 := (i 1).isLt; omega⟩
def cvArr : FVec Ideal ⟨2, ![n, 512]⟩ .f32 := fun i =>
  urow x0 x1 x2 x3 x4 x5 x6 (i 0) ⟨1024 + i 1, by have h : (i 1).val < 512 := (i 1).isLt; omega⟩ * urow x0 x1 x2 x3 x4 x5 x6 (i 0) ⟨1536 + i 1, by have h : (i 1).val < 512 := (i 1).isLt; omega⟩

/-- The row depends on its own position alone. -/
theorem x1row_congr {n' : ℕ} {x0' : FVec Ideal ⟨2, ![n', 1024]⟩ .f32} {x1' : FVec Ideal S1x1024 .f32} {x2' x3' : FVec Ideal S1024x2816 .bf16}
    {x4' : FVec Ideal S2816x1024 .bf16} {r' : Fin n'} (h0 : ∀ k, x0 (ix2 r k) = x0' (ix2 r' k)) (h1 : x1 = x1') (h2 : x2 = x2') (h3 : x3 = x3') (h4 : x4 = x4') :
    x1row x0 x1 x2 x3 x4 r = x1row x0' x1' x2' x3' x4' r' := by
  subst h1 h2 h3 h4
  unfold x1row
  rw [funext h0]

theorem urow_congr {n' : ℕ} {x0' : FVec Ideal ⟨2, ![n', 1024]⟩ .f32} {x1' : FVec Ideal S1x1024 .f32} {x2' x3' : FVec Ideal S1024x2816 .bf16}
    {x4' : FVec Ideal S2816x1024 .bf16} {x5' : FVec Ideal S1x1024 .f32} {x6' : FVec Ideal S1024x2048 .bf16} {r' : Fin n'}
    (h0 : ∀ k, x0 (ix2 r k) = x0' (ix2 r' k)) (h1 : x1 = x1') (h2 : x2 = x2') (h3 : x3 = x3') (h4 : x4 = x4') (h5 : x5 = x5') (h6 : x6 = x6') :
    urow x0 x1 x2 x3 x4 x5 x6 r = urow x0' x1' x2' x3' x4' x5' x6' r' := by
  subst h5 h6
  unfold urow
  rw [x1row_congr x0 x1 x2 x3 x4 r h0 h1 h2 h3 h4]
end

section
variable (x0 : FVec Ideal S512x1024 .f32) (x1 : FVec Ideal S1x1024 .f32) (x2 x3 : FVec Ideal S1024x2816 .bf16)
    (x4 : FVec Ideal S2816x1024 .bf16) (x5 : FVec Ideal S1x1024 .f32) (x6 : FVec Ideal S1024x2048 .bf16) (r : Fin 512)

/-- What the body keeps of the first feed-forward half-step. -/
theorem k0_pay7_at (d : Fin 1024) :
    k0_pay7 (F := Ideal) (k0_pay12 x0 x1 x2 x3 x4 x5 x6) (k0_pay13 x0 x1 x2 x3 x4 x5 x6) (k0_pay14 x0 x1 x2 x3 x4 x5 x6)
      (k0_pay15 x0 x1 x2 x3 x4 x5 x6) (k0_pay16 x0 x1 x2 x3 x4 x5 x6) (View.ld x4 r0_5) (ix2 r d) = x1row x0 x1 x2 x3 x4 r d := by
  unfold k0_pay12 k0_pay13 k0_pay14 k0_pay15 k0_pay16
  pointwise [k0_pay7, k0_pay1, k0_pay3, k0_pay4, k0_pay5, k0_pay6, k0_pay2_at, x1row, ffn, act, dot, sum_halves]
  rfl

/-- The first output block. -/
theorem out0_7_at (d : Fin 1024) : out0_7 (F := Ideal) x0 x1 x2 x3 x4 x5 x6 (ix2 r d) = x1row x0 x1 x2 x3 x4 r d := by
  frame_out
  exact k0_pay7_at x0 x1 x2 x3 x4 x5 x6 r d

/-- The in-projection. -/
theorem k0_pay8_at (j : Fin 2048) :
    k0_pay8 (F := Ideal) (k0_pay12 x0 x1 x2 x3 x4 x5 x6) (k0_pay13 x0 x1 x2 x3 x4 x5 x6) (k0_pay14 x0 x1 x2 x3 x4 x5 x6)
      (k0_pay15 x0 x1 x2 x3 x4 x5 x6) (k0_pay16 x0 x1 x2 x3 x4 x5 x6) (View.ld x4 r0_5) x5 x6 (ix2 r j)
      = urow x0 x1 x2 x3 x4 x5 x6 r j := by
  pointwise [k0_pay8, k0_pay7_at, urow, proj]
  rfl

/-- The second output block: the channels the transform takes. -/
theorem out0_8_at (j : Fin 512) :
    out0_8 (F := Ideal) x0 x1 x2 x3 x4 x5 x6 (ix2 r j) = urow x0 x1 x2 x3 x4 x5 x6 r ⟨j, by omega⟩ := by
  frame_out
  pointwise [k0_pay9, k0_pay8_at]

/-- The third output block: the gate. -/
theorem out0_9_at (j : Fin 512) :
    out0_9 (F := Ideal) x0 x1 x2 x3 x4 x5 x6 (ix2 r j) = urow x0 x1 x2 x3 x4 x5 x6 r ⟨512 + j, by omega⟩ := by
  frame_out
  pointwise [k0_pay10, k0_pay8_at]

/-- The fourth output block: what the convolution takes. -/
theorem out0_10_at (j : Fin 512) :
    out0_10 (F := Ideal) x0 x1 x2 x3 x4 x5 x6 (ix2 r j)
      = urow x0 x1 x2 x3 x4 x5 x6 r ⟨1024 + j, by omega⟩ * urow x0 x1 x2 x3 x4 x5 x6 r ⟨1536 + j, by omega⟩ := by
  frame_out
  pointwise [k0_pay11, k0_pay8_at]

end

variable (V : (c : Dev nD) → (b : Ref sig .tc) → Buf (Elt Ideal) ((c : Thread nD τ).loc b)) (c : Dev nD)

/-- Where the blocks of this call lie. -/
theorem idx0 : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] ∧ win0_10.index t = ![t.val, 0] :=
  (by decide +kernel : ∀ t : Fin grid0.N, _)

theorem lt0 (t : Fin cfg0.N) : t.val < 64 := t.isLt

theorem iblk0_0 (t : Fin cfg0.N) (r : Fin 512) (k : Fin 1024) (h) :
    (iblk0 V c 0 t : FVec Ideal S512x1024 .f32) (ix2 r k) = (V c main_v28 : FVec Ideal S32768x1024 .f32) (ix2 ⟨t.val * 512 + r, h⟩ k) := by
  blk_ext [iblk0, idx0 t]
theorem iblk0_1 (t : Fin cfg0.N) : iblk0 V c 1 t = V c main_v1 := by blk_ext! [iblk0, idx0 t]
theorem iblk0_2 (t : Fin cfg0.N) : iblk0 V c 2 t = V c main_v3 := by blk_ext! [iblk0, idx0 t]
theorem iblk0_3 (t : Fin cfg0.N) : iblk0 V c 3 t = V c main_v5 := by blk_ext! [iblk0, idx0 t]
theorem iblk0_4 (t : Fin cfg0.N) : iblk0 V c 4 t = V c main_v7 := by blk_ext! [iblk0, idx0 t]
theorem iblk0_5 (t : Fin cfg0.N) : iblk0 V c 5 t = V c main_v9 := by blk_ext! [iblk0, idx0 t]
theorem iblk0_6 (t : Fin cfg0.N) : iblk0 V c 6 t = V c main_v11 := by blk_ext! [iblk0, idx0 t]
theorem emb0_7 (t : Fin cfg0.N) (y : S512x1024.Idx) : ((win0_7.blk t).view.emb y : S32768x1024.Idx)
    = (ix2 ⟨t.val * 512 + y 0, by have := lt0 t; have : (y 0).val < 512 := (y 0).isLt; omega⟩ (y 1) : S32768x1024.Idx) := by
  blk_ext [idx0 t]
theorem emb0_8 (t : Fin cfg0.N) (y : S512x512.Idx) : ((win0_8.blk t).view.emb y : S32768x512.Idx)
    = (ix2 ⟨t.val * 512 + y 0, by have := lt0 t; have : (y 0).val < 512 := (y 0).isLt; omega⟩ (y 1) : S32768x512.Idx) := by
  blk_ext [idx0 t]
theorem emb0_9 (t : Fin cfg0.N) (y : S512x512.Idx) : ((win0_9.blk t).view.emb y : S32768x512.Idx)
    = (ix2 ⟨t.val * 512 + y 0, by have := lt0 t; have : (y 0).val < 512 := (y 0).isLt; omega⟩ (y 1) : S32768x512.Idx) := by
  blk_ext [idx0 t]
theorem emb0_10 (t : Fin cfg0.N) (y : S512x512.Idx) : ((win0_10.blk t).view.emb y : S32768x512.Idx)
    = (ix2 ⟨t.val * 512 + y 0, by have := lt0 t; have : (y 0).val < 512 := (y 0).isLt; omega⟩ (y 1) : S32768x512.Idx) := by
  blk_ext [idx0 t]
theorem x1row0_blk (t : Fin cfg0.N) (r : Fin 512) (h) :
    x1row (iblk0 V c 0 t : FVec Ideal S512x1024 .f32) (V c main_v1) (V c main_v3) (V c main_v5) (V c main_v7) r = x1row (V c main_v28 : FVec Ideal S32768x1024 .f32) (V c main_v1) (V c main_v3) (V c main_v5) (V c main_v7) ⟨t.val * 512 + r, h⟩ :=
  x1row_congr _ _ _ _ _ _ (fun k => iblk0_0 V c t r k h) rfl rfl rfl rfl
theorem urow0_blk (t : Fin cfg0.N) (r : Fin 512) (h) :
    urow (iblk0 V c 0 t : FVec Ideal S512x1024 .f32) (V c main_v1) (V c main_v3) (V c main_v5) (V c main_v7) (V c main_v9) (V c main_v11) r = urow (V c main_v28 : FVec Ideal S32768x1024 .f32) (V c main_v1) (V c main_v3) (V c main_v5) (V c main_v7) (V c main_v9) (V c main_v11) ⟨t.val * 512 + r, h⟩ :=
  urow_congr _ _ _ _ _ _ _ _ (fun k => iblk0_0 V c t r k h) rfl rfl rfl rfl rfl rfl

/-- A result of the first call (prompt batch): every row after the first feed-forward half-step. -/
theorem final0_7 : (dat0 V c).arrAt 7 cfg0.N = x1Arr (V c main_v28 : FVec Ideal S32768x1024 .f32) (V c main_v1) (V c main_v3) (V c main_v5) (V c main_v7) := by
  refine (dat0 V c).arrAt_eq_of_covers 7 _ (by decide +kernel) fun t _ y => ?_
  blk_simp [idx0 t]
  rw [after0_7]
  idx_vars y
  rw [out0_7_at, emb0_7 t (ix2 y0 y1), iblk0_1, iblk0_2, iblk0_3, iblk0_4]
  exact congrFun (x1row0_blk V c t _ _) _

/-- A result of the first call (prompt batch): the in-projection's channels the transform takes. -/
theorem final0_8 : (dat0 V c).arrAt 8 cfg0.N = ufArr (V c main_v28 : FVec Ideal S32768x1024 .f32) (V c main_v1) (V c main_v3) (V c main_v5) (V c main_v7) (V c main_v9) (V c main_v11) := by
  refine (dat0 V c).arrAt_eq_of_covers 8 _ (by decide +kernel) fun t _ y => ?_
  blk_simp [idx0 t]
  rw [after0_8]
  idx_vars y
  rw [out0_8_at, emb0_8 t (ix2 y0 y1), iblk0_1, iblk0_2, iblk0_3, iblk0_4, iblk0_5, iblk0_6]
  exact congrFun (urow0_blk V c t _ _) _

/-- A result of the first call (prompt batch): the gate. -/
theorem final0_9 : (dat0 V c).arrAt 9 cfg0.N = gbArr (V c main_v28 : FVec Ideal S32768x1024 .f32) (V c main_v1) (V c main_v3) (V c main_v5) (V c main_v7) (V c main_v9) (V c main_v11) := by
  refine (dat0 V c).arrAt_eq_of_covers 9 _ (by decide +kernel) fun t _ y => ?_
  blk_simp [idx0 t]
  rw [after0_9]
  idx_vars y
  rw [out0_9_at, emb0_9 t (ix2 y0 y1), iblk0_1, iblk0_2, iblk0_3, iblk0_4, iblk0_5, iblk0_6]
  exact congrFun (urow0_blk V c t _ _) _

/-- A result of the first call (prompt batch): what the convolution takes. -/
theorem final0_10 : (dat0 V c).arrAt 10 cfg0.N = cvArr (V c main_v28 : FVec Ideal S32768x1024 .f32) (V c main_v1) (V c main_v3) (V c main_v5) (V c main_v7) (V c main_v9) (V c main_v11) := by
  refine (dat0 V c).arrAt_eq_of_covers 10 _ (by decide +kernel) fun t _ y => ?_
  blk_simp [idx0 t]
  rw [after0_10]
  idx_vars y
  rw [out0_10_at, emb0_10 t (ix2 y0 y1), iblk0_1, iblk0_2, iblk0_3, iblk0_4, iblk0_5, iblk0_6]
  exact congrArg₂ (fun a b : EReal => a * b) (congrFun (urow0_blk V c t _ _) _) (congrFun (urow0_blk V c t _ _) _)

/-- Where the blocks of this call lie. -/
theorem idx4 : ∀ t : Fin cfg4.N, win4_0.index t = ![t.val, 0] ∧ win4_1.index t = ![0, 0] ∧ win4_2.index t = ![0, 0]
    ∧ win4_3.index t = ![0, 0] ∧ win4_4.index t = ![0, 0] ∧ win4_5.index t = ![0, 0] ∧ win4_6.index t = ![0, 0]
    ∧ win4_7.index t = ![t.val, 0] ∧ win4_8.index t = ![t.val, 0] ∧ win4_9.index t = ![t.val, 0] ∧ win4_10.index t = ![t.val, 0] :=
  (by decide +kernel : ∀ t : Fin grid4.N, _)

theorem lt4 (t : Fin cfg4.N) : t.val < 128 := t.isLt

theorem iblk4_0 (t : Fin cfg4.N) (r : Fin 512) (k : Fin 1024) (h) :
    (iblk4 V c 0 t : FVec Ideal S512x1024 .f32) (ix2 r k) = (V c main_v129 : FVec Ideal S65536x1024 .f32) (ix2 ⟨t.val * 512 + r, h⟩ k) := by
  blk_ext [iblk4, idx4 t]
theorem iblk4_1 (t : Fin cfg4.N) : iblk4 V c 1 t = V c main_v1 := by blk_ext! [iblk4, idx4 t]
theorem iblk4_2 (t : Fin cfg4.N) : iblk4 V c 2 t = V c main_v3 := by blk_ext! [iblk4, idx4 t]
theorem iblk4_3 (t : Fin cfg4.N) : iblk4 V c 3 t = V c main_v5 := by blk_ext! [iblk4, idx4 t]
theorem iblk4_4 (t : Fin cfg4.N) : iblk4 V c 4 t = V c main_v7 := by blk_ext! [iblk4, idx4 t]
theorem iblk4_5 (t : Fin cfg4.N) : iblk4 V c 5 t = V c main_v9 := by blk_ext! [iblk4, idx4 t]
theorem iblk4_6 (t : Fin cfg4.N) : iblk4 V c 6 t = V c main_v11 := by blk_ext! [iblk4, idx4 t]
theorem emb4_7 (t : Fin cfg4.N) (y : S512x1024.Idx) : ((win4_7.blk t).view.emb y : S65536x1024.Idx)
    = (ix2 ⟨t.val * 512 + y 0, by have := lt4 t; have : (y 0).val < 512 := (y 0).isLt; omega⟩ (y 1) : S65536x1024.Idx) := by
  blk_ext [idx4 t]
theorem emb4_8 (t : Fin cfg4.N) (y : S512x512.Idx) : ((win4_8.blk t).view.emb y : S65536x512.Idx)
    = (ix2 ⟨t.val * 512 + y 0, by have := lt4 t; have : (y 0).val < 512 := (y 0).isLt; omega⟩ (y 1) : S65536x512.Idx) := by
  blk_ext [idx4 t]
theorem emb4_9 (t : Fin cfg4.N) (y : S512x512.Idx) : ((win4_9.blk t).view.emb y : S65536x512.Idx)
    = (ix2 ⟨t.val * 512 + y 0, by have := lt4 t; have : (y 0).val < 512 := (y 0).isLt; omega⟩ (y 1) : S65536x512.Idx) := by
  blk_ext [idx4 t]
theorem emb4_10 (t : Fin cfg4.N) (y : S512x512.Idx) : ((win4_10.blk t).view.emb y : S65536x512.Idx)
    = (ix2 ⟨t.val * 512 + y 0, by have := lt4 t; have : (y 0).val < 512 := (y 0).isLt; omega⟩ (y 1) : S65536x512.Idx) := by
  blk_ext [idx4 t]
theorem x1row4_blk (t : Fin cfg4.N) (r : Fin 512) (h) :
    x1row (iblk4 V c 0 t : FVec Ideal S512x1024 .f32) (V c main_v1) (V c main_v3) (V c main_v5) (V c main_v7) r = x1row (V c main_v129 : FVec Ideal S65536x1024 .f32) (V c main_v1) (V c main_v3) (V c main_v5) (V c main_v7) ⟨t.val * 512 + r, h⟩ :=
  x1row_congr _ _ _ _ _ _ (fun k => iblk4_0 V c t r k h) rfl rfl rfl rfl
theorem urow4_blk (t : Fin cfg4.N) (r : Fin 512) (h) :
    urow (iblk4 V c 0 t : FVec Ideal S512x1024 .f32) (V c main_v1) (V c main_v3) (V c main_v5) (V c main_v7) (V c main_v9) (V c main_v11) r = urow (V c main_v129 : FVec Ideal S65536x1024 .f32) (V c main_v1) (V c main_v3) (V c main_v5) (V c main_v7) (V c main_v9) (V c main_v11) ⟨t.val * 512 + r, h⟩ :=
  urow_congr _ _ _ _ _ _ _ _ (fun k => iblk4_0 V c t r k h) rfl rfl rfl rfl rfl rfl

/-- A result of the first call (sample batch): every row after the first feed-forward half-step. -/
theorem final4_7 : (dat4 V c).arrAt 7 cfg4.N = x1Arr (V c main_v129 : FVec Ideal S65536x1024 .f32) (V c main_v1) (V c main_v3) (V c main_v5) (V c main_v7) := by
  refine (dat4 V c).arrAt_eq_of_covers 7 _ (by decide +kernel) fun t _ y => ?_
  blk_simp [idx4 t]
  rw [after4_7, show @out4_7 Ideal _ = out0_7 from rfl]
  idx_vars y
  rw [out0_7_at, emb4_7 t (ix2 y0 y1), iblk4_1, iblk4_2, iblk4_3, iblk4_4]
  exact congrFun (x1row4_blk V c t _ _) _

/-- A result of the first call (sample batch): the in-projection's channels the transform takes. -/
theorem final4_8 : (dat4 V c).arrAt 8 cfg4.N = ufArr (V c main_v129 : FVec Ideal S65536x1024 .f32) (V c main_v1) (V c main_v3) (V c main_v5) (V c main_v7) (V c main_v9) (V c main_v11) := by
  refine (dat4 V c).arrAt_eq_of_covers 8 _ (by decide +kernel) fun t _ y => ?_
  blk_simp [idx4 t]
  rw [after4_8, show @out4_8 Ideal _ = out0_8 from rfl]
  idx_vars y
  rw [out0_8_at, emb4_8 t (ix2 y0 y1), iblk4_1, iblk4_2, iblk4_3, iblk4_4, iblk4_5, iblk4_6]
  exact congrFun (urow4_blk V c t _ _) _

/-- A result of the first call (sample batch): the gate. -/
theorem final4_9 : (dat4 V c).arrAt 9 cfg4.N = gbArr (V c main_v129 : FVec Ideal S65536x1024 .f32) (V c main_v1) (V c main_v3) (V c main_v5) (V c main_v7) (V c main_v9) (V c main_v11) := by
  refine (dat4 V c).arrAt_eq_of_covers 9 _ (by decide +kernel) fun t _ y => ?_
  blk_simp [idx4 t]
  rw [after4_9, show @out4_9 Ideal _ = out0_9 from rfl]
  idx_vars y
  rw [out0_9_at, emb4_9 t (ix2 y0 y1), iblk4_1, iblk4_2, iblk4_3, iblk4_4, iblk4_5, iblk4_6]
  exact congrFun (urow4_blk V c t _ _) _

/-- A result of the first call (sample batch): what the convolution takes. -/
theorem final4_10 : (dat4 V c).arrAt 10 cfg4.N = cvArr (V c main_v129 : FVec Ideal S65536x1024 .f32) (V c main_v1) (V c main_v3) (V c main_v5) (V c main_v7) (V c main_v9) (V c main_v11) := by
  refine (dat4 V c).arrAt_eq_of_covers 10 _ (by decide +kernel) fun t _ y => ?_
  blk_simp [idx4 t]
  rw [after4_10, show @out4_10 Ideal _ = out0_10 from rfl]
  idx_vars y
  rw [out0_10_at, emb4_10 t (ix2 y0 y1), iblk4_1, iblk4_2, iblk4_3, iblk4_4, iblk4_5, iblk4_6]
  exact congrArg₂ (fun a b : EReal => a * b) (congrFun (urow4_blk V c t _ _) _) (congrFun (urow4_blk V c t _ _) _)

end Cert.Layer

end
-- ==== Proof.Block1.lean ====
/- What the first transform call leaves in its output: one sum over the outer row index per position. -/
module

public import proofs.«01_k».proof.Proof.Gen.KernelIdeal.Frame.Region1
public import proofs.«01_k».proof.Proof.Gen.KernelIdeal.Frame.Region5
public import proofs.«01_k».proof.Proof.Spec
public import Idealize.ShloMosaic.Lib.Pipeline.ValueKit
public import Idealize.ShloMosaic.Lib.Pointwise

@[expose] public section

set_option maxRecDepth 16384

noncomputable section

namespace Cert.Layer

open Idealize.ShloMosaic Idealize.ShloMosaic.TcCoe Idealize.SL.Sem
open Cert.KernelIdeal Cert.KernelIdeal.Gen

/-- The first stage of the transform: for each inner index the table's matrix times the rows. -/
def stageA {B n m R : ℕ} (t : FVec Ideal ⟨3, ![m, R, n]⟩ .bf16) (u : FVec Ideal ⟨4, ![B, n, m, 512]⟩ .f32) : FVec Ideal ⟨4, ![B, m, R, 512]⟩ .f32 :=
  fun i => ∑ k : Fin n, t (ix3 (i 1) (i 2) k) * u (ix4 (i 0) k (i 1) (i 3))

variable (V : (c : Dev nD) → (b : Ref sig .tc) → Buf (Elt Ideal) ((c : Thread nD τ).loc b)) (c : Dev nD)

/-- One output block of the first transform call (prompt batch): for each inner index the table's matrix times the rows. -/
theorem out1_2_at (x0 : FVec Ideal S1x128x8x512 .f32) (x1 : FVec Ideal S8x256x128 .bf16) (y : S1x8x256x512.Idx) :
    out1_2 (F := Ideal) x0 x1 y = ∑ i : Fin 128, x1 (ix3 (y 1) (y 2) i) * x0 (ix4 (y 0) i (y 1) (y 3)) := by
  unfold out1_2
  canon_tiles x h
  all_goals (open_payloads; pointwise; blk_point [])

/-- Where the blocks of this call lie. -/
theorem idx1 : ∀ t : Fin cfg1.N, win1_0.index t = ![t.val % 4, 0, t.val / 4, 0] ∧ win1_1.index t = ![t.val / 4, 0, 0]
    ∧ win1_2.index t = ![t.val % 4, t.val / 4, 0, 0] :=
  (by decide +kernel : ∀ t : Fin grid1.N, _)

theorem lt1 (t : Fin cfg1.N) : t.val < 32 := t.isLt

theorem iblk1_0 (t : Fin cfg1.N) (a : Fin 1) (k : Fin 128) (j : Fin 8) (q : Fin 512) :
    (iblk1 V c 0 t : FVec Ideal S1x128x8x512 .f32) (ix4 a k j q) = (V c main_v88 : FVec Ideal S4x128x64x512 .f32)
      (ix4 ⟨t.val % 4, Nat.mod_lt _ (by omega)⟩ k ⟨t.val / 4 * 8 + j, by have := lt1 t; omega⟩ q) := by
  blk_ext [iblk1, idx1 t]

theorem iblk1_1 (t : Fin cfg1.N) (j : Fin 8) (r : Fin 256) (k : Fin 128) :
    (iblk1 V c 1 t : FVec Ideal S8x256x128 .bf16) (ix3 j r k) = (V c main_v59 : FVec Ideal S64x256x128 .bf16)
      (ix3 ⟨t.val / 4 * 8 + j, by have := lt1 t; omega⟩ r k) := by
  blk_ext [iblk1, idx1 t]

theorem emb1 (t : Fin cfg1.N) (y : S1x8x256x512.Idx) : ((win1_2.blk t).view.emb y : S4x64x256x512.Idx)
    = ix4 ⟨t.val % 4, Nat.mod_lt _ (by omega)⟩ ⟨t.val / 4 * 8 + y 1, by have := lt1 t; have : (y 1).val < 8 := (y 1).isLt; omega⟩ (y 2) (y 3) := by
  blk_ext [idx1 t]

/-- The whole result of the first transform call (prompt batch). -/
theorem final1_2 : (dat1 V c).arrAt 2 cfg1.N = stageA (V c main_v59 : FVec Ideal S64x256x128 .bf16) (V c main_v88 : FVec Ideal S4x128x64x512 .f32) := by
  refine (dat1 V c).arrAt_eq_of_covers 2 _ (by decide +kernel) fun t _ y => ?_
  blk_simp [idx1 t]
  rw [after1_2]
  rw [out1_2_at, emb1 t y]
  show (_ : EReal) = _
  exact Fin.sum_fin_congr fun k => congrArg₂ (fun a b : EReal => a * b) (iblk1_1 V c t _ _ _) (iblk1_0 V c t _ _ _ _)

/-- One output block of the first transform call (sample batch): for each inner index the table's matrix times the rows. -/
theorem out5_2_at (x0 : FVec Ideal S1x64x8x512 .f32) (x1 : FVec Ideal S8x128x64 .bf16) (y : S1x8x128x512.Idx) :
    out5_2 (F := Ideal) x0 x1 y = ∑ i : Fin 64, x1 (ix3 (y 1) (y 2) i) * x0 (ix4 (y 0) i (y 1) (y 3)) := by
  unfold out5_2
  canon_tiles x h
  all_goals (open_payloads; pointwise; blk_point [])

/-- Where the blocks of this call lie. -/
theorem idx5 : ∀ t : Fin cfg5.N, win5_0.index t = ![t.val % 16, 0, t.val / 16, 0] ∧ win5_1.index t = ![t.val / 16, 0, 0]
    ∧ win5_2.index t = ![t.val % 16, t.val / 16, 0, 0] :=
  (by decide +kernel : ∀ t : Fin grid5.N, _)

theorem lt5 (t : Fin cfg5.N) : t.val < 128 := t.isLt

theorem iblk5_0 (t : Fin cfg5.N) (a : Fin 1) (k : Fin 64) (j : Fin 8) (q : Fin 512) :
    (iblk5 V c 0 t : FVec Ideal S1x64x8x512 .f32) (ix4 a k j q) = (V c main_v189 : FVec Ideal S16x64x64x512 .f32)
      (ix4 ⟨t.val % 16, Nat.mod_lt _ (by omega)⟩ k ⟨t.val / 16 * 8 + j, by have := lt5 t; omega⟩ q) := by
  blk_ext [iblk5, idx5 t]

theorem iblk5_1 (t : Fin cfg5.N) (j : Fin 8) (r : Fin 128) (k : Fin 64) :
    (iblk5 V c 1 t : FVec Ideal S8x128x64 .bf16) (ix3 j r k) = (V c main_v160 : FVec Ideal S64x128x64 .bf16)
      (ix3 ⟨t.val / 16 * 8 + j, by have := lt5 t; omega⟩ r k) := by
  blk_ext [iblk5, idx5 t]

theorem emb5 (t : Fin cfg5.N) (y : S1x8x128x512.Idx) : ((win5_2.blk t).view.emb y : S16x64x128x512.Idx)
    = ix4 ⟨t.val % 16, Nat.mod_lt _ (by omega)⟩ ⟨t.val / 16 * 8 + y 1, by have := lt5 t; have : (y 1).val < 8 := (y 1).isLt; omega⟩ (y 2) (y 3) := by
  blk_ext [idx5 t]

/-- The whole result of the first transform call (sample batch). -/
theorem final5_2 : (dat5 V c).arrAt 2 cfg5.N = stageA (V c main_v160 : FVec Ideal S64x128x64 .bf16) (V c main_v189 : FVec Ideal S16x64x64x512 .f32) := by
  refine (dat5 V c).arrAt_eq_of_covers 2 _ (by decide +kernel) fun t _ y => ?_
  blk_simp [idx5 t]
  rw [after5_2]
  rw [out5_2_at, emb5 t y]
  show (_ : EReal) = _
  exact Fin.sum_fin_congr fun k => congrArg₂ (fun a b : EReal => a * b) (iblk5_1 V c t _ _ _) (iblk5_0 V c t _ _ _ _)

end Cert.Layer

end
-- ==== Proof.Block2.lean ====
/- What the second transform call leaves in its two outputs. -/
module

public import proofs.«01_k».proof.Proof.Gen.KernelIdeal.Frame.Region2
public import proofs.«01_k».proof.Proof.Gen.KernelIdeal.Frame.Region6
public import proofs.«01_k».proof.Proof.Spec
public import Idealize.ShloMosaic.Lib.Pipeline.ValueKit
public import Idealize.ShloMosaic.Lib.Pointwise

@[expose] public section

set_option maxRecDepth 16384

noncomputable section

namespace Cert.Layer

open Idealize.ShloMosaic Idealize.ShloMosaic.TcCoe Idealize.SL.Sem
open Cert.KernelIdeal Cert.KernelIdeal.Gen

/-- The second stage of the transform: the real half and the imaginary half, each times its table's chosen row, added. -/
def stageB {B n w : ℕ} (row : Fin 64 → Fin 128) (hw : w = 2 * n) (la lb : FVec Ideal ⟨2, ![128, 64]⟩ .bf16) (z : FVec Ideal ⟨4, ![B, 64, w, 512]⟩ .f32) :
    FVec Ideal ⟨4, ![B, 64, n, 512]⟩ .f32 := fun i =>
  (∑ k : Fin 64, la (ix2 (row (i 1)) k) * z (ix4 (i 0) k ⟨i 2, by have h : (i 2).val < n := (i 2).isLt; omega⟩ (i 3)))
    + ∑ k : Fin 64, lb (ix2 (row (i 1)) k) * z (ix4 (i 0) k ⟨n + i 2, by have h : (i 2).val < n := (i 2).isLt; omega⟩ (i 3))

/-- The rows of the real results and the rows of the imaginary ones. -/
def rowRe (i : Fin 64) : Fin 128 := ⟨i, by omega⟩
def rowIm (i : Fin 64) : Fin 128 := ⟨64 + i, by omega⟩

variable (V : (c : Dev nD) → (b : Ref sig .tc) → Buf (Elt Ideal) ((c : Thread nD τ).loc b)) (c : Dev nD)

/-- One real output block of the second transform call (prompt batch). -/
theorem out2_4_at (x0 x1 : FVec Ideal S1x64x8x512 .f32) (x2 x3 : FVec Ideal S128x64 .bf16) (y : S1x64x8x512.Idx) :
    out2_4 (F := Ideal) x0 x1 x2 x3 y = (∑ k : Fin 64, x2 (ix2 (rowRe (y 1)) k) * x0 (ix4 (y 0) k (y 2) (y 3)))
      + ∑ k : Fin 64, x3 (ix2 (rowRe (y 1)) k) * x1 (ix4 (y 0) k (y 2) (y 3)) := by
  unfold_out out2_4
  unfold rowRe
  canon_tiles x h
  all_goals (open_payloads; pointwise; blk_point [])

/-- One imaginary output block of the second transform call (prompt batch). -/
theorem out2_5_at (x0 x1 : FVec Ideal S1x64x8x512 .f32) (x2 x3 : FVec Ideal S128x64 .bf16) (y : S1x64x8x512.Idx) :
    out2_5 (F := Ideal) x0 x1 x2 x3 y = (∑ k : Fin 64, x2 (ix2 (rowIm (y 1)) k) * x0 (ix4 (y 0) k (y 2) (y 3)))
      + ∑ k : Fin 64, x3 (ix2 (rowIm (y 1)) k) * x1 (ix4 (y 0) k (y 2) (y 3)) := by
  unfold_out out2_5
  unfold rowIm
  canon_tiles x h
  all_goals (open_payloads; pointwise; blk_point [])

/-- Where the blocks of this call lie. -/
theorem idx2 : ∀ t : Fin cfg2.N, win2_0.index t = ![t.val % 4, 0, t.val / 4, 0] ∧ win2_1.index t = ![t.val % 4, 0, 16 + t.val / 4, 0]
    ∧ win2_2.index t = ![0, 0] ∧ win2_3.index t = ![0, 0]
    ∧ win2_4.index t = ![t.val % 4, 0, t.val / 4, 0] ∧ win2_5.index t = ![t.val % 4, 0, t.val / 4, 0] :=
  (by decide +kernel : ∀ t : Fin grid2.N, _)

theorem lt2 (t : Fin cfg2.N) : t.val < 64 := t.isLt

theorem iblk2_0 (t : Fin cfg2.N) (a : Fin 1) (k : Fin 64) (j : Fin 8) (q : Fin 512) (h) :
    (iblk2 V c 0 t : FVec Ideal S1x64x8x512 .f32) (ix4 a k j q) = (V c main_v89 : FVec Ideal S4x64x256x512 .f32)
      (ix4 ⟨t.val % 4, Nat.mod_lt _ (by omega)⟩ k ⟨t.val / 4 * 8 + j, h⟩ q) := by
  blk_ext [iblk2, idx2 t]

theorem iblk2_1 (t : Fin cfg2.N) (a : Fin 1) (k : Fin 64) (j : Fin 8) (q : Fin 512) (h) :
    (iblk2 V c 1 t : FVec Ideal S1x64x8x512 .f32) (ix4 a k j q) = (V c main_v89 : FVec Ideal S4x64x256x512 .f32)
      (ix4 ⟨t.val % 4, Nat.mod_lt _ (by omega)⟩ k ⟨128 + (t.val / 4 * 8 + j), h⟩ q) := by
  blk_ext [iblk2, idx2 t]

theorem iblk2_2 (t : Fin cfg2.N) : iblk2 V c 2 t = V c main_v85 := by blk_ext! [iblk2, idx2 t]
theorem iblk2_3 (t : Fin cfg2.N) : iblk2 V c 3 t = V c main_v86 := by blk_ext! [iblk2, idx2 t]

theorem emb2_4 (t : Fin cfg2.N) (y : S1x64x8x512.Idx) : ((win2_4.blk t).view.emb y : S4x64x128x512.Idx)
    = (ix4 ⟨t.val % 4, Nat.mod_lt _ (by omega)⟩ (y 1) ⟨t.val / 4 * 8 + y 2, by have := lt2 t; have : (y 2).val < 8 := (y 2).isLt; omega⟩ (y 3) : S4x64x128x512.Idx) := by
  blk_ext [idx2 t]

theorem emb2_5 (t : Fin cfg2.N) (y : S1x64x8x512.Idx) : ((win2_5.blk t).view.emb y : S4x64x128x512.Idx)
    = (ix4 ⟨t.val % 4, Nat.mod_lt _ (by omega)⟩ (y 1) ⟨t.val / 4 * 8 + y 2, by have := lt2 t; have : (y 2).val < 8 := (y 2).isLt; omega⟩ (y 3) : S4x64x128x512.Idx) := by
  blk_ext [idx2 t]

/-- The whole real result of the second transform call (prompt batch). -/
theorem final2_4 : (dat2 V c).arrAt 4 cfg2.N = stageB (n := 128) rowRe rfl (V c main_v85 : FVec Ideal S128x64 .bf16) (V c main_v86) (V c main_v89 : FVec Ideal S4x64x256x512 .f32) := by
  refine (dat2 V c).arrAt_eq_of_covers 4 _ (by decide +kernel) fun t _ y => ?_
  blk_simp [idx2 t]
  rw [after2_4]
  rw [out2_4_at, emb2_4 t y, iblk2_2, iblk2_3]
  show (_ : EReal) = _
  exact congrArg₂ (fun a b : EReal => a + b) (Fin.sum_fin_congr fun k => congrArg (fun a : EReal => _ * a) (iblk2_0 V c t _ _ _ _ _))
    (Fin.sum_fin_congr fun k => congrArg (fun a : EReal => _ * a) (iblk2_1 V c t _ _ _ _ _))

/-- The whole imaginary result of the second transform call (prompt batch). -/
theorem final2_5 : (dat2 V c).arrAt 5 cfg2.N = stageB (n := 128) rowIm rfl (V c main_v85 : FVec Ideal S128x64 .bf16) (V c main_v86) (V c main_v89 : FVec Ideal S4x64x256x512 .f32) := by
  refine (dat2 V c).arrAt_eq_of_covers 5 _ (by decide +kernel) fun t _ y => ?_
  blk_simp [idx2 t]
  rw [after2_5]
  rw [out2_5_at, emb2_5 t y, iblk2_2, iblk2_3]
  show (_ : EReal) = _
  exact congrArg₂ (fun a b : EReal => a + b) (Fin.sum_fin_congr fun k => congrArg (fun a : EReal => _ * a) (iblk2_0 V c t _ _ _ _ _))
    (Fin.sum_fin_congr fun k => congrArg (fun a : EReal => _ * a) (iblk2_1 V c t _ _ _ _ _))

/-- One real output block of the second transform call (sample batch). -/
theorem out6_4_at (x0 x1 : FVec Ideal S1x64x8x512 .f32) (x2 x3 : FVec Ideal S128x64 .bf16) (y : S1x64x8x512.Idx) :
    out6_4 (F := Ideal) x0 x1 x2 x3 y = (∑ k : Fin 64, x2 (ix2 (rowRe (y 1)) k) * x0 (ix4 (y 0) k (y 2) (y 3)))
      + ∑ k : Fin 64, x3 (ix2 (rowRe (y 1)) k) * x1 (ix4 (y 0) k (y 2) (y 3)) := by
  unfold_out out6_4
  unfold rowRe
  canon_tiles x h
  all_goals (open_payloads; pointwise; blk_point [])

/-- One imaginary output block of the second transform call (sample batch). -/
theorem out6_5_at (x0 x1 : FVec Ideal S1x64x8x512 .f32) (x2 x3 : FVec Ideal S128x64 .bf16) (y : S1x64x8x512.Idx) :
    out6_5 (F := Ideal) x0 x1 x2 x3 y = (∑ k : Fin 64, x2 (ix2 (rowIm (y 1)) k) * x0 (ix4 (y 0) k (y 2) (y 3)))
      + ∑ k : Fin 64, x3 (ix2 (rowIm (y 1)) k) * x1 (ix4 (y 0) k (y 2) (y 3)) := by
  unfold_out out6_5
  unfold rowIm
  canon_tiles x h
  all_goals (open_payloads; pointwise; blk_point [])

/-- Where the blocks of this call lie. -/
theorem idx6 : ∀ t : Fin cfg6.N, win6_0.index t = ![t.val % 16, 0, t.val / 16, 0] ∧ win6_1.index t = ![t.val % 16, 0, 8 + t.val / 16, 0]
    ∧ win6_2.index t = ![0, 0] ∧ win6_3.index t = ![0, 0]
    ∧ win6_4.index t = ![t.val % 16, 0, t.val / 16, 0] ∧ win6_5.index t = ![t.val % 16, 0, t.val / 16, 0] :=
  (by decide +kernel : ∀ t : Fin grid6.N, _)

theorem lt6 (t : Fin cfg6.N) : t.val < 128 := t.isLt

theorem iblk6_0 (t : Fin cfg6.N) (a : Fin 1) (k : Fin 64) (j : Fin 8) (q : Fin 512) (h) :
    (iblk6 V c 0 t : FVec Ideal S1x64x8x512 .f32) (ix4 a k j q) = (V c main_v190 : FVec Ideal S16x64x128x512 .f32)
      (ix4 ⟨t.val % 16, Nat.mod_lt _ (by omega)⟩ k ⟨t.val / 16 * 8 + j, h⟩ q) := by
  blk_ext [iblk6, idx6 t]

theorem iblk6_1 (t : Fin cfg6.N) (a : Fin 1) (k : Fin 64) (j : Fin 8) (q : Fin 512) (h) :
    (iblk6 V c 1 t : FVec Ideal S1x64x8x512 .f32) (ix4 a k j q) = (V c main_v190 : FVec Ideal S16x64x128x512 .f32)
      (ix4 ⟨t.val % 16, Nat.mod_lt _ (by omega)⟩ k ⟨64 + (t.val / 16 * 8 + j), h⟩ q) := by
  blk_ext [iblk6, idx6 t]

theorem iblk6_2 (t : Fin cfg6.N) : iblk6 V c 2 t = V c main_v186 := by blk_ext! [iblk6, idx6 t]
theorem iblk6_3 (t : Fin cfg6.N) : iblk6 V c 3 t = V c main_v187 := by blk_ext! [iblk6, idx6 t]

theorem emb6_4 (t : Fin cfg6.N) (y : S1x64x8x512.Idx) : ((win6_4.blk t).view.emb y : S16x64x64x512.Idx)
    = (ix4 ⟨t.val % 16, Nat.mod_lt _ (by omega)⟩ (y 1) ⟨t.val / 16 * 8 + y 2, by have := lt6 t; have : (y 2).val < 8 := (y 2).isLt; omega⟩ (y 3) : S16x64x64x512.Idx) := by
  blk_ext [idx6 t]

theorem emb6_5 (t : Fin cfg6.N) (y : S1x64x8x512.Idx) : ((win6_5.blk t).view.emb y : S16x64x64x512.Idx)
    = (ix4 ⟨t.val % 16, Nat.mod_lt _ (by omega)⟩ (y 1) ⟨t.val / 16 * 8 + y 2, by have := lt6 t; have : (y 2).val < 8 := (y 2).isLt; omega⟩ (y 3) : S16x64x64x512.Idx) := by
  blk_ext [idx6 t]

/-- The whole real result of the second transform call (sample batch). -/
theorem final6_4 : (dat6 V c).arrAt 4 cfg6.N = stageB (n := 64) rowRe rfl (V c main_v186 : FVec Ideal S128x64 .bf16) (V c main_v187) (V c main_v190 : FVec Ideal S16x64x128x512 .f32) := by
  refine (dat6 V c).arrAt_eq_of_covers 4 _ (by decide +kernel) fun t _ y => ?_
  blk_simp [idx6 t]
  rw [after6_4]
  rw [out6_4_at, emb6_4 t y, iblk6_2, iblk6_3]
  show (_ : EReal) = _
  exact congrArg₂ (fun a b : EReal => a + b) (Fin.sum_fin_congr fun k => congrArg (fun a : EReal => _ * a) (iblk6_0 V c t _ _ _ _ _))
    (Fin.sum_fin_congr fun k => congrArg (fun a : EReal => _ * a) (iblk6_1 V c t _ _ _ _ _))

/-- The whole imaginary result of the second transform call (sample batch). -/
theorem final6_5 : (dat6 V c).arrAt 5 cfg6.N = stageB (n := 64) rowIm rfl (V c main_v186 : FVec Ideal S128x64 .bf16) (V c main_v187) (V c main_v190 : FVec Ideal S16x64x128x512 .f32) := by
  refine (dat6 V c).arrAt_eq_of_covers 5 _ (by decide +kernel) fun t _ y => ?_
  blk_simp [idx6 t]
  rw [after6_5]
  rw [out6_5_at, emb6_5 t y, iblk6_2, iblk6_3]
  show (_ : EReal) = _
  exact congrArg₂ (fun a b : EReal => a + b) (Fin.sum_fin_congr fun k => congrArg (fun a : EReal => _ * a) (iblk6_0 V c t _ _ _ _ _))
    (Fin.sum_fin_congr fun k => congrArg (fun a : EReal => _ * a) (iblk6_1 V c t _ _ _ _ _))

end Cert.Layer

end
-- ==== Proof.Block3.lean ====
/- What the last call leaves in its output, row by row. -/
module

public import proofs.«01_k».proof.Proof.Gen.KernelIdeal.Frame.Region3
public import proofs.«01_k».proof.Proof.Gen.KernelIdeal.Frame.Region7
public import proofs.«01_k».proof.Proof.Spec
public import Idealize.ShloMosaic.Lib.Pipeline.ValueKit
public import Idealize.ShloMosaic.Lib.Pointwise

@[expose] public section

set_option maxRecDepth 16384

noncomputable section

namespace Cert.Layer

open Idealize.ShloMosaic Idealize.ShloMosaic.TcCoe Idealize.SL.Sem
open Cert.KernelIdeal Cert.KernelIdeal.Gen

/-- The channel transform as the kernel takes it: two heads of a row at once, against the tables doubled. -/
def kchan (cc sc : FVec Ideal S256x256 .bf16) (re im : Fin 512 → EReal) (j : Fin 512) : EReal :=
  (∑ k : Fin 256, re ⟨j / 256 * 256 + k, by omega⟩ * cc (ix2 k ⟨j % 256, by omega⟩))
    + ∑ k : Fin 256, im ⟨j / 256 * 256 + k, by omega⟩ * sc (ix2 k ⟨j % 256, by omega⟩)

theorem kchan_lo (cc sc : FVec Ideal S256x256 .bf16) (re im : Fin 512 → EReal) (j : Fin 256) (h) :
    kchan cc sc re im ⟨j, h⟩ = (∑ k : Fin 256, re ⟨k, by omega⟩ * cc (ix2 k j)) + ∑ k : Fin 256, im ⟨k, by omega⟩ * sc (ix2 k j) := by
  unfold kchan
  refine congrArg₂ (· + ·) (Finset.sum_congr rfl fun k _ => congrArg₂ (· * ·) (congrArg re (Fin.ext ?_)) (congrArg (fun i => cc (ix2 k i)) (Fin.ext ?_))) (Finset.sum_congr rfl fun k _ => congrArg₂ (· * ·) (congrArg im (Fin.ext ?_)) (congrArg (fun i => sc (ix2 k i)) (Fin.ext ?_))) <;>
    (simp only []; omega)

theorem kchan_hi (cc sc : FVec Ideal S256x256 .bf16) (re im : Fin 512 → EReal) (j : Fin 256) (h) :
    kchan cc sc re im ⟨256 + j, h⟩ = (∑ k : Fin 256, re ⟨256 + k, by omega⟩ * cc (ix2 k j)) + ∑ k : Fin 256, im ⟨256 + k, by omega⟩ * sc (ix2 k j) := by
  unfold kchan
  refine congrArg₂ (· + ·) (Finset.sum_congr rfl fun k _ => congrArg₂ (· * ·) (congrArg re (Fin.ext ?_)) (congrArg (fun i => cc (ix2 k i)) (Fin.ext ?_))) (Finset.sum_congr rfl fun k _ => congrArg₂ (· * ·) (congrArg im (Fin.ext ?_)) (congrArg (fun i => sc (ix2 k i)) (Fin.ext ?_))) <;>
    (simp only []; omega)

/-- The transform's channels, normed. -/
theorem k3_pay2_at (x1 x2 : FVec Ideal S512x512 .f32) (x7 x8 : FVec Ideal S256x256 .bf16) (x10 : FVec Ideal S1x512 .f32) (r j : Fin 512) :
    k3_pay2 (F := Ideal) x1 x2 x7 x8 x10 (ix2 r j)
      = rms c512 (kchan x7 x8 (fun k => x1 (ix2 r k)) (fun k => x2 (ix2 r k))) (fun k => x10 (ix2 0 k)) j := by
  pointwise [k3_pay2]
  unfold rms
  rw [Fin.sum_univ_two_halves 256 256 rfl]
  simp only [kchan_lo, kchan_hi]
  refine congrArg₂ (· * ·) (congrArg₂ (· * ·) ?_ rfl) rfl
  split
  · next h => exact (kchan_lo x7 x8 (fun k => x1 (ix2 r k)) (fun k => x2 (ix2 r k)) ⟨j, h⟩ j.isLt).symm
  · next h =>
    have := kchan_hi x7 x8 (fun k => x1 (ix2 r k)) (fun k => x2 (ix2 r k)) ⟨j.val - 256, by omega⟩ (by simp only; omega)
    rw [show (⟨256 + (⟨j.val - 256, by omega⟩ : Fin 256).val, by simp only; omega⟩ : Fin 512) = j from Fin.ext (by simp only; omega)] at this
    exact this.symm

/-- The test a body makes on its grid point: whether the point's place among `n` equals `e`. -/
def isTile (n e g : BitVec 32) : BitVec 1 :=
  let v50 : BitVec 32 := Scalar.select (Scalar.cmpi .eq n 0#32) 1#32 n
  let v51 : BitVec 32 := Scalar.remsi g v50
  Scalar.cmpi .eq (Scalar.select (Scalar.andi (Scalar.xori (Scalar.cmpi .slt v51 0#32) (Scalar.cmpi .slt v50 0#32)) (Scalar.cmpi .ne v51 0#32))
    (Scalar.addi v51 v50) v51) e

theorem isTile16 : ∀ g : Fin 64, isTile 16#32 15#32 (BitVec.ofNat 32 g) = (if g.val % 16 = 15 then 1#1 else 0#1)
    ∧ isTile 16#32 0#32 (BitVec.ofNat 32 g) = if g.val % 16 = 0 then 1#1 else 0#1 := by decide +kernel
theorem isTile8 : ∀ g : Fin 128, isTile 8#32 7#32 (BitVec.ofNat 32 g) = (if g.val % 8 = 7 then 1#1 else 0#1)
    ∧ isTile 8#32 0#32 (BitVec.ofNat 32 g) = if g.val % 8 = 0 then 1#1 else 0#1 := by decide +kernel
theorem isRow : ∀ r : Fin 512, IntOp.cmpi .eq (BitVec.ofNat 32 r) 0#32 = (if r.val = 0 then 1#1 else 0#1)
    ∧ IntOp.cmpi .eq (BitVec.ofNat 32 r) 511#32 = if r.val = 511 then 1#1 else 0#1 := by decide +kernel

theorem select_ite {α : Type} (p : Prop) [Decidable p] (a b : α) : Scalar.select (if p then 1#1 else 0#1) a b = if p then a else b := by
  split <;> rfl

/-- The row after a block: nothing past the end of a sequence, else the next block's first row. -/
theorem k3_pay4_at (g : Fin 64) (v : FVec Ideal S1x512 .bf16) (j : Fin 512) :
    k3_pay4 (F := Ideal) (BitVec.ofNat 32 g) v (ix2 0 j) = if g.val % 16 = 15 then 0 else v (ix2 0 j) := by
  pointwise [k3_pay4]
  show Scalar.select (isTile 16#32 15#32 (BitVec.ofNat 32 g)) _ _ = _
  rw [(isTile16 g).1, select_ite]

/-- The row before each row of a block: nothing before the start of a sequence, the block before's last row, or the block's own. -/
theorem k3_pay5_at (g : Fin 64) (x : FVec Ideal S512x512 .f32) (v : FVec Ideal S1x512 .bf16) (r j : Fin 512) :
    k3_pay5 (F := Ideal) (BitVec.ofNat 32 g) x 16#32 0#32 v (ix2 r j)
      = if r.val = 0 then (if g.val % 16 = 0 then 0 else v (ix2 0 j)) else x (ix2 ⟨r - 1, by omega⟩ j) := by
  pointwise [k3_pay5]
  show Scalar.select _ (Scalar.select (isTile 16#32 0#32 (BitVec.ofNat 32 g)) _ _) _ = _
  rw [(isTile16 g).2, (isRow r).1, select_ite, select_ite]
  split
  · rfl
  · exact congrArg (fun i => x (ix2 i j)) (Fin.ext (by simp only; omega))

/-- The row after a block: nothing past the end of a sequence, else the next block's first row. -/
theorem k7_pay4_at (g : Fin 128) (v : FVec Ideal S1x512 .bf16) (j : Fin 512) :
    k7_pay4 (F := Ideal) (BitVec.ofNat 32 g) v (ix2 0 j) = if g.val % 8 = 7 then 0 else v (ix2 0 j) := by
  pointwise [k7_pay4]
  show Scalar.select (isTile 8#32 7#32 (BitVec.ofNat 32 g)) _ _ = _
  rw [(isTile8 g).1, select_ite]

/-- The row before each row of a block: nothing before the start of a sequence, the block before's last row, or the block's own. -/
theorem k7_pay5_at (g : Fin 128) (x : FVec Ideal S512x512 .f32) (v : FVec Ideal S1x512 .bf16) (r j : Fin 512) :
    k7_pay5 (F := Ideal) (BitVec.ofNat 32 g) x 8#32 0#32 v (ix2 r j)
      = if r.val = 0 then (if g.val % 8 = 0 then 0 else v (ix2 0 j)) else x (ix2 ⟨r - 1, by omega⟩ j) := by
  pointwise [k7_pay5]
  show Scalar.select _ (Scalar.select (isTile 8#32 0#32 (BitVec.ofNat 32 g)) _ _) _ = _
  rw [(isTile8 g).2, (isRow r).1, select_ite, select_ite]
  split
  · rfl
  · exact congrArg (fun i => x (ix2 i j)) (Fin.ext (by simp only; omega))

/-- The mixed row. -/
theorem k3_pay6_at (v34 v37 v76 : FVec Ideal S512x512 .f32) (v69 : FVec Ideal S1x512 .f32) (v83 : FVec Ideal S3x512 .f32) (v96 : FVec Ideal S512x512 .bf16)
    (v100 : FVec Ideal S1x512 .f32) (v116 : FVec Ideal S512x1024 .f32) (v118 : FVec Ideal S1024x1024 .bf16) (yf : Fin 512 → EReal) (gf : Fin 512 → EReal) (r : Fin 512) (d : Fin 1024)
    (h : ∀ j, v34 (ix2 r j) = rms c512 yf gf j) :
    k3_pay6 (F := Ideal) v34 v37 v69 (iota .tc S512x512 32 [0] iota_S512x512_d0_w32) v76 511#32 v83 v96 v100 v116 v118 (ix2 r d)
      = mixed (fun k => v116 (ix2 r k)) yf (fun j => v96 (ix2 r j) * conv (fun j => v76 (ix2 r j)) (fun j => v37 (ix2 r j))
          (fun j => if r.val = 511 then v69 (ix2 0 j) else v37 (ix2 ⟨(r + 512 - 511) % 512, Nat.mod_lt _ (by omega)⟩ j)) (fun k j => v83 (ix2 k j)) j) gf (fun j => v100 (ix2 0 j)) (fun k d => v118 (ix2 k d)) d := by
  pointwise [k3_pay6, h, (isRow r).2, select_ite, mixed, conv]
  rfl

/-- A sum over the hidden channels is the sum over the first half and the sum over the second. -/
theorem sum_2816 (f : Fin 2816 → EReal) :
    ∑ k, f k = (∑ k : Fin 1408, f ⟨k, by omega⟩) + ∑ k : Fin 1408, f ⟨1408 + k, by omega⟩ :=
  Fin.sum_univ_two_halves 1408 1408 rfl f

/-- The second feed-forward half-step and the last norm. -/
theorem k3_pay1_at (v : FVec Ideal S512x1024 .f32) (x13 : FVec Ideal S1x1024 .f32) (x14 x15 : FVec Ideal S1024x2816 .bf16)
    (x16 : FVec Ideal S2816x1024 .bf16) (x17 : FVec Ideal S1x1024 .f32) (r : Fin 512) (d : Fin 1024) :
    k3_pay1 (F := Ideal) v (k3_pay8 v x13 (View.ld x14 r3_9) (View.ld x15 r3_9) (View.ld x16 r3_10))
      (k3_pay9 v x13 (View.ld x14 r3_11) (View.ld x15 r3_11)) (View.ld x16 r3_12) x17 (ix2 r d)
      = rms c1024 (ffn (fun k => v (ix2 r k)) (fun k => x13 (ix2 0 k)) (fun k f => x14 (ix2 k f)) (fun k f => x15 (ix2 k f)) (fun f d => x16 (ix2 f d)))
          (fun k => x17 (ix2 0 k)) d := by
  pointwise [k3_pay1, k3_pay8, k3_pay9, k3_pay7, rms, ffn, act, dot, sum_2816]
  rfl

/-- One position's row out of the last call's blocks; `pr` and `nx` the convolution's rows before and after it. -/
def tailrow {n : ℕ} (x0 : FVec Ideal ⟨2, ![n, 1024]⟩ .f32) (x1 x2 : FVec Ideal ⟨2, ![n, 512]⟩ .f32) (x3 x4 : FVec Ideal ⟨2, ![n, 512]⟩ .bf16)
    (pr nx : Fin 512 → EReal) (x7 x8 : FVec Ideal S256x256 .bf16) (x9 : FVec Ideal S3x512 .f32) (x10 x11 : FVec Ideal S1x512 .f32) (x12 : FVec Ideal S1024x1024 .bf16)
    (x13 : FVec Ideal S1x1024 .f32) (x14 x15 : FVec Ideal S1024x2816 .bf16) (x16 : FVec Ideal S2816x1024 .bf16) (x17 : FVec Ideal S1x1024 .f32) (r : Fin n) :
    Fin 1024 → EReal :=
  tail (fun k => x0 (ix2 r k)) (kchan x7 x8 (fun k => x1 (ix2 r k)) (fun k => x2 (ix2 r k))) (fun k => x3 (ix2 r k)) pr (fun k => x4 (ix2 r k)) nx
    (fun k j => x9 (ix2 k j)) (fun k => x10 (ix2 0 k)) (fun k => x11 (ix2 0 k)) (fun k d => x12 (ix2 k d)) (fun k => x13 (ix2 0 k))
    (fun k f => x14 (ix2 k f)) (fun k f => x15 (ix2 k f)) (fun f d => x16 (ix2 f d)) (fun k => x17 (ix2 0 k))

section
variable (x0 : FVec Ideal S512x1024 .f32) (x1 x2 : FVec Ideal S512x512 .f32) (x3 x4 : FVec Ideal S512x512 .bf16) (x5 x6 : FVec Ideal S8x512 .bf16)
    (x7 x8 : FVec Ideal S256x256 .bf16) (x9 : FVec Ideal S3x512 .f32) (x10 x11 : FVec Ideal S1x512 .f32) (x12 : FVec Ideal S1024x1024 .bf16)
    (x13 : FVec Ideal S1x1024 .f32) (x14 x15 : FVec Ideal S1024x2816 .bf16) (x16 : FVec Ideal S2816x1024 .bf16) (x17 : FVec Ideal S1x1024 .f32)

/-- The last call's output block. -/
theorem out3_18_at (i : grid3.Coords) (r : Fin 512) (d : Fin 1024) :
    out3_18 (F := Ideal) i x0 x1 x2 x3 x4 x5 x6 x7 x8 x9 x10 x11 x12 x13 x14 x15 x16 x17 (ix2 r d)
      = tailrow x0 x1 x2 x3 x4
          (fun j => if r.val = 0 then (if (i 0).val % 16 = 0 then 0 else x5 (ix2 7 j)) else x4 (ix2 ⟨r - 1, by omega⟩ j))
          (fun j => if r.val = 511 then (if (i 0).val % 16 = 15 then 0 else x6 (ix2 0 j)) else x4 (ix2 ⟨(r + 512 - 511) % 512, Nat.mod_lt _ (by omega)⟩ j))
          x7 x8 x9 x10 x11 x12 x13 x14 x15 x16 x17 r d := by
  frame_out
  refine (k3_pay1_at _ x13 x14 x15 x16 x17 r d).trans ?_
  unfold tailrow tail
  refine congrFun (congrArg (fun f => rms c1024 (ffn f _ _ _ _) _) (funext fun d => ?_)) d
  unfold k3_pay11 k3_pay10
  refine (k3_pay6_at _ _ _ _ _ _ _ _ _ _ _ r d (fun j => k3_pay2_at _ _ _ _ _ r j)).trans ?_
  pointwise [k3_pay3, k3_pay4_at, k3_pay5_at]
  unfold kchan
  pointwise []

/-- The last call's output block. -/
theorem out7_18_at (i : grid7.Coords) (r : Fin 512) (d : Fin 1024) :
    out7_18 (F := Ideal) i x0 x1 x2 x3 x4 x5 x6 x7 x8 x9 x10 x11 x12 x13 x14 x15 x16 x17 (ix2 r d)
      = tailrow x0 x1 x2 x3 x4
          (fun j => if r.val = 0 then (if (i 0).val % 8 = 0 then 0 else x5 (ix2 7 j)) else x4 (ix2 ⟨r - 1, by omega⟩ j))
          (fun j => if r.val = 511 then (if (i 0).val % 8 = 7 then 0 else x6 (ix2 0 j)) else x4 (ix2 ⟨(r + 512 - 511) % 512, Nat.mod_lt _ (by omega)⟩ j))
          x7 x8 x9 x10 x11 x12 x13 x14 x15 x16 x17 r d := by
  frame_out
  refine (k3_pay1_at _ x13 x14 x15 x16 x17 r d).trans ?_
  unfold tailrow tail
  refine congrFun (congrArg (fun f => rms c1024 (ffn f _ _ _ _) _) (funext fun d => ?_)) d
  unfold k7_pay11 k7_pay10
  refine (k3_pay6_at _ _ _ _ _ _ _ _ _ _ _ r d (fun j => k3_pay2_at _ _ _ _ _ r j)).trans ?_
  pointwise [k7_pay3, k7_pay4_at, k7_pay5_at]
  unfold kchan
  pointwise []

end

/-- The row the convolution takes before position `R` of sequences of length `S`: nothing before a start. -/
def prevRow {n : ℕ} (S : ℕ) (x : FVec Ideal ⟨2, ![n, 512]⟩ .bf16) (R : Fin n) (j : Fin 512) : EReal :=
  if R.val % S = 0 then 0 else x (ix2 ⟨R - 1, by omega⟩ j)
/-- The row the convolution takes after position `R`: nothing past an end. -/
def nextRow {n : ℕ} (S : ℕ) (x : FVec Ideal ⟨2, ![n, 512]⟩ .bf16) (R : Fin n) (j : Fin 512) : EReal :=
  if h : R.val % S = S - 1 ∨ n ≤ R.val + 1 then 0 else x (ix2 ⟨R + 1, by omega⟩ j)

/-- The array the last call fills. -/
def outArr {n : ℕ} (S : ℕ) (x0 : FVec Ideal ⟨2, ![n, 1024]⟩ .f32) (x1 x2 : FVec Ideal ⟨2, ![n, 512]⟩ .f32) (x3 x4 : FVec Ideal ⟨2, ![n, 512]⟩ .bf16)
    (x7 x8 : FVec Ideal S256x256 .bf16) (x9 : FVec Ideal S3x512 .f32) (x10 x11 : FVec Ideal S1x512 .f32) (x12 : FVec Ideal S1024x1024 .bf16)
    (x13 : FVec Ideal S1x1024 .f32) (x14 x15 : FVec Ideal S1024x2816 .bf16) (x16 : FVec Ideal S2816x1024 .bf16) (x17 : FVec Ideal S1x1024 .f32) :
    FVec Ideal ⟨2, ![n, 1024]⟩ .f32 := fun i =>
  tailrow x0 x1 x2 x3 x4 (prevRow S x4 (i 0)) (nextRow S x4 (i 0)) x7 x8 x9 x10 x11 x12 x13 x14 x15 x16 x17 (i 0) (i 1)

/-- The row depends on its own position's rows alone. -/
theorem tailrow_congr {n n' : ℕ} {x0 : FVec Ideal ⟨2, ![n, 1024]⟩ .f32} {x1 x2 : FVec Ideal ⟨2, ![n, 512]⟩ .f32} {x3 x4 : FVec Ideal ⟨2, ![n, 512]⟩ .bf16}
    {x0' : FVec Ideal ⟨2, ![n', 1024]⟩ .f32} {x1' x2' : FVec Ideal ⟨2, ![n', 512]⟩ .f32} {x3' x4' : FVec Ideal ⟨2, ![n', 512]⟩ .bf16}
    {pr nx pr' nx' : Fin 512 → EReal} (x7 x8 : FVec Ideal S256x256 .bf16) (x9 : FVec Ideal S3x512 .f32) (x10 x11 : FVec Ideal S1x512 .f32) (x12 : FVec Ideal S1024x1024 .bf16)
    (x13 : FVec Ideal S1x1024 .f32) (x14 x15 : FVec Ideal S1024x2816 .bf16) (x16 : FVec Ideal S2816x1024 .bf16) (x17 : FVec Ideal S1x1024 .f32) {r : Fin n} {r' : Fin n'}
    (h0 : ∀ k, x0 (ix2 r k) = x0' (ix2 r' k)) (h1 : ∀ k, x1 (ix2 r k) = x1' (ix2 r' k)) (h2 : ∀ k, x2 (ix2 r k) = x2' (ix2 r' k))
    (h3 : ∀ k, x3 (ix2 r k) = x3' (ix2 r' k)) (h4 : ∀ k, x4 (ix2 r k) = x4' (ix2 r' k)) (hp : ∀ k, pr k = pr' k) (hn : ∀ k, nx k = nx' k) :
    tailrow x0 x1 x2 x3 x4 pr nx x7 x8 x9 x10 x11 x12 x13 x14 x15 x16 x17 r = tailrow x0' x1' x2' x3' x4' pr' nx' x7 x8 x9 x10 x11 x12 x13 x14 x15 x16 x17 r' := by
  unfold tailrow
  rw [funext h0, funext h1, funext h2, funext h3, funext h4, funext hp, funext hn]

/-- The row before a block's row, out of the block and the block before it, is the array's row before it. -/
theorem prev_blk {n : ℕ} {S T : ℕ} (X : FVec Ideal ⟨2, ![n, 512]⟩ .bf16) (R : Fin n) (t y : ℕ) (k : Fin 512) (hR : R.val = t * 512 + y) (A B : EReal)
    (h1 : y = 0 → (t % T = 0 ↔ (t * 512 + y) % S = 0)) (h2 : y ≠ 0 → (t * 512 + y) % S ≠ 0)
    (hA : y = 0 → t % T ≠ 0 → A = X (ix2 ⟨R - 1, by omega⟩ k)) (hB : y ≠ 0 → B = X (ix2 ⟨R - 1, by omega⟩ k)) :
    (if y = 0 then (if t % T = 0 then 0 else A) else B) = prevRow S X R k := by
  unfold prevRow
  rw [← hR] at h1 h2
  by_cases h : y = 0
  · rw [if_pos h]
    by_cases h' : t % T = 0
    · rw [if_pos h', if_pos ((h1 h).mp h')]
    · rw [if_neg h', if_neg (fun e => h' ((h1 h).mpr e)), hA h h']
  · rw [if_neg h, if_neg (h2 h), hB h]

/-- The same of the row after. -/
theorem next_blk {n : ℕ} {S T : ℕ} (X : FVec Ideal ⟨2, ![n, 512]⟩ .bf16) (R : Fin n) (t y : ℕ) (k : Fin 512) (hR : R.val = t * 512 + y) (A B : EReal)
    (h1 : y = 511 → (t % T = T - 1 ↔ ((t * 512 + y) % S = S - 1 ∨ n ≤ t * 512 + y + 1))) (h2 : y ≠ 511 → ¬((t * 512 + y) % S = S - 1 ∨ n ≤ t * 512 + y + 1))
    (hA : ∀ h, y = 511 → A = X (ix2 ⟨R + 1, h⟩ k)) (hB : ∀ h, y ≠ 511 → B = X (ix2 ⟨R + 1, h⟩ k)) :
    (if y = 511 then (if t % T = T - 1 then 0 else A) else B) = nextRow S X R k := by
  unfold nextRow
  rw [← hR] at h1 h2
  by_cases h : y = 511
  · rw [if_pos h]
    by_cases h' : t % T = T - 1
    · rw [if_pos h', dif_pos ((h1 h).mp h')]
    · rw [if_neg h', dif_neg (fun e => h' ((h1 h).mpr e)), hA _ h]
  · rw [if_neg h, dif_neg (h2 h), hB _ h]

end Cert.Layer

end
-- ==== Proof.Fourier.lean ====
/- The transform over positions in two stages is the transform over positions. -/
module

public import Idealize.ShloMosaic.Lib.Pointwise
public import Mathlib.Analysis.SpecialFunctions.Trigonometric.Arctan

@[expose] public section

noncomputable section

namespace Cert.Layer

open Idealize.ShloMosaic

/-- The angle of the `m`-th of the `n` points of the circle. -/
def angle (n m : ℕ) : ℝ := 8 * Real.arctan 1 * ((m % n : ℕ) : ℝ) / n

theorem two_pi : 8 * Real.arctan 1 = 2 * Real.pi := by
  rw [Real.arctan_one]; ring

/-- Reducing the point's number by whole turns changes no angle but by whole turns. -/
theorem angle_eq (n m : ℕ) (h : 0 < n) : ∃ k : ℤ, 2 * Real.pi * (m : ℝ) / n = angle n m + k * (2 * Real.pi) := by
  refine ⟨((m / n : ℕ) : ℤ), ?_⟩
  have hn : (n : ℝ) ≠ 0 := by exact_mod_cast h.ne'
  have hm : (m : ℝ) = n * (m / n : ℕ) + (m % n : ℕ) := by exact_mod_cast (Nat.div_add_mod m n).symm
  rw [angle, two_pi, Int.cast_natCast]
  generalize ((m / n : ℕ) : ℝ) = q at *
  generalize ((m % n : ℕ) : ℝ) = r at *
  rw [hm]
  field_simp
  ring

theorem cos_angle (n m : ℕ) (h : 0 < n) : Real.cos (angle n m) = Real.cos (2 * Real.pi * (m : ℝ) / n) := by
  obtain ⟨k, hk⟩ := angle_eq n m h
  rw [hk, Real.cos_add_int_mul_two_pi]

theorem sin_angle (n m : ℕ) (h : 0 < n) : Real.sin (angle n m) = Real.sin (2 * Real.pi * (m : ℝ) / n) := by
  obtain ⟨k, hk⟩ := angle_eq n m h
  rw [hk, Real.sin_add_int_mul_two_pi]

/-- The cosine entry of the orthonormal `n`-point table. -/
def ctab (n m : ℕ) : ℝ := Real.cos (angle n m) / Real.sqrt n
/-- The sine entry of the orthonormal `n`-point table. -/
def stab (n m : ℕ) : ℝ := Real.sin (angle n m) / Real.sqrt n

section
variable (n1 n2 k1 k2 i1 i2 : ℕ) (h1 : 0 < n1) (h2 : 0 < n2)
include h1 h2

/-- The two stages' angles add up, but for whole turns, to the angle of the whole transform. -/
theorem angles : ∃ z : ℤ, 2 * Real.pi * ((((k2 * n1 + k1) * (i1 * n2 + i2) : ℕ) : ℝ)) / ((n1 * n2 : ℕ) : ℝ)
    = 2 * Real.pi * ((k1 * (n2 * i1 + i2) : ℕ) : ℝ) / ((n1 * n2 : ℕ) : ℝ) + 2 * Real.pi * ((k2 * i2 : ℕ) : ℝ) / n2 + z * (2 * Real.pi) := by
  refine ⟨(k2 * i1 : ℕ), ?_⟩
  have hn1 : (n1 : ℝ) ≠ 0 := by exact_mod_cast h1.ne'
  have hn2 : (n2 : ℝ) ≠ 0 := by exact_mod_cast h2.ne'
  push_cast
  field_simp
  ring

/-- The cosine of the whole transform from the two stages' entries. -/
theorem ctab_stages : ctab (n1 * n2) ((k2 * n1 + k1) * (i1 * n2 + i2))
    = ctab n2 (k2 * i2) * (Real.cos (angle (n1 * n2) (k1 * (n2 * i1 + i2))) / Real.sqrt n1)
      + stab n2 (k2 * i2) * (-Real.sin (angle (n1 * n2) (k1 * (n2 * i1 + i2))) / Real.sqrt n1) := by
  obtain ⟨z, hz⟩ := angles n1 n2 k1 k2 i1 i2 h1 h2
  have h := Nat.mul_pos h1 h2
  unfold ctab stab
  rw [cos_angle _ _ h, cos_angle _ _ h2, sin_angle _ _ h, sin_angle _ _ h2, cos_angle _ _ h, hz, Real.cos_add_int_mul_two_pi, Real.cos_add]
  push_cast
  rw [Real.sqrt_mul (by positivity)]
  have hn1 : Real.sqrt n1 ≠ 0 := by positivity
  have hn2 : Real.sqrt n2 ≠ 0 := by positivity
  field_simp
  ring

/-- The sine of the whole transform from the two stages' entries. -/
theorem stab_stages : -stab (n1 * n2) ((k2 * n1 + k1) * (i1 * n2 + i2))
    = -Real.sin (angle n2 (k2 * i2)) / Real.sqrt n2 * (Real.cos (angle (n1 * n2) (k1 * (n2 * i1 + i2))) / Real.sqrt n1)
      + ctab n2 (k2 * i2) * (-Real.sin (angle (n1 * n2) (k1 * (n2 * i1 + i2))) / Real.sqrt n1) := by
  obtain ⟨z, hz⟩ := angles n1 n2 k1 k2 i1 i2 h1 h2
  have h := Nat.mul_pos h1 h2
  unfold ctab stab
  rw [sin_angle _ _ h, cos_angle _ _ h2, sin_angle _ _ h, sin_angle _ _ h2, cos_angle _ _ h, hz, Real.sin_add_int_mul_two_pi, Real.sin_add]
  push_cast
  rw [Real.sqrt_mul (by positivity)]
  have hn1 : Real.sqrt n1 ≠ 0 := by positivity
  have hn2 : Real.sqrt n2 ≠ 0 := by positivity
  field_simp
  ring

end

/-- A finite sum of reals is the same sum taken at the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- Two stages, the outer over `i2` with entries `p`, `q`, the inner over `i1` with entries `c`, `e`, are one sum over
    positions. -/
theorem stages {n1 n2 s : ℕ} (hs : s = n1 * n2) (x : Fin s → ℝ) (p q : Fin n2 → ℝ) (c e : Fin n2 → Fin n1 → ℝ) (t : Fin s → ℝ)
    (ht : ∀ i1 : Fin n1, ∀ i2 : Fin n2, ∀ h, t ⟨i1 * n2 + i2, h⟩ = p i2 * c i2 i1 + q i2 * e i2 i1)
    (X : Fin n2 → Fin n1 → EReal) (hX : ∀ i1 : Fin n1, ∀ i2 : Fin n2, ∀ h, X i2 i1 = (x ⟨i1 * n2 + i2, h⟩ : EReal)) :
    (∑ i2, (p i2 : EReal) * ∑ i1, (c i2 i1 : EReal) * X i2 i1) + ∑ i2, (q i2 : EReal) * ∑ i1, (e i2 i1 : EReal) * X i2 i1
      = ∑ n, (t n : EReal) * (x n : EReal) := by
  have hb : ∀ (i1 : Fin n1) (i2 : Fin n2), (i1 : ℕ) * n2 + i2 < s := fun i1 i2 => by
    subst hs
    calc (i1 : ℕ) * n2 + i2 < i1 * n2 + n2 := by omega
      _ = (i1 + 1) * n2 := by ring
      _ ≤ n1 * n2 := Nat.mul_le_mul_right _ (by omega)
  have e1 : ∀ (c : Fin n2 → Fin n1 → ℝ) (p : Fin n2 → ℝ), (∑ i2, (p i2 : EReal) * ∑ i1, (c i2 i1 : EReal) * X i2 i1)
      = ((∑ i2, p i2 * ∑ i1, c i2 i1 * x ⟨i1 * n2 + i2, hb i1 i2⟩ : ℝ) : EReal) := fun c p => by
    rw [coe_sum]
    refine Finset.sum_congr rfl fun i2 _ => ?_
    rw [EReal.coe_mul, coe_sum]
    refine congrArg _ (Finset.sum_congr rfl fun i1 _ => ?_)
    rw [EReal.coe_mul, hX i1 i2 (hb i1 i2)]
  rw [e1 c p, e1 e q, ← EReal.coe_add]
  simp only [← EReal.coe_mul]
  rw [← coe_sum]
  congr 1
  subst hs
  rw [Fin.sum_univ_tiles n1 n2 rfl, Finset.sum_comm, ← Finset.sum_add_distrib]
  refine Finset.sum_congr rfl fun i2 _ => ?_
  rw [Finset.mul_sum, Finset.mul_sum, ← Finset.sum_add_distrib]
  refine Finset.sum_congr rfl fun i1 _ => ?_
  rw [ht i1 i2]
  ring

end Cert.Layer

end
-- ==== Proof.Words.lean ====
/- A table entry's word arithmetic is the angle it is meant to be. -/
module

public import proofs.«01_k».proof.Proof.Fourier
public import proofs.«01_k».proof.Proof.Spec
public import Idealize.ShloMosaic.Lib.IdealHost

@[expose] public section

noncomputable section

namespace Cert.Layer

open Idealize.ShloMosaic

theorem w64 : Ideal.ofBits .f32 0x42800000#32 = (((64 : ℕ) : ℝ) : EReal) := by
  rw [Nat.cast_ofNat]; simp [Ideal.ofBits, Ideal.ieee, -EReal.coe_mul]; norm_num
theorem w128 : Ideal.ofBits .f32 0x43000000#32 = (((128 : ℕ) : ℝ) : EReal) := by
  rw [Nat.cast_ofNat]; simp [Ideal.ofBits, Ideal.ieee, -EReal.coe_mul]; norm_num
theorem w4096 : Ideal.ofBits .f32 0x45800000#32 = (((4096 : ℕ) : ℝ) : EReal) := by
  rw [Nat.cast_ofNat]; simp [Ideal.ofBits, Ideal.ieee, -EReal.coe_mul]; norm_num
theorem w8192 : Ideal.ofBits .f32 0x46000000#32 = (((8192 : ℕ) : ℝ) : EReal) := by
  rw [Nat.cast_ofNat]; simp [Ideal.ofBits, Ideal.ieee, -EReal.coe_mul]; norm_num
theorem w8 : Ideal.ofBits .f32 0x41000000#32 = ((8 : ℝ) : EReal) := by
  simp [Ideal.ofBits, Ideal.ieee, -EReal.coe_mul]; norm_num
theorem w1024 : c1024 = ((1024 : ℝ) : EReal) := by
  simp [c1024, Ideal.ofBits, Ideal.ieee, -EReal.coe_mul]; norm_num
theorem weps : ∃ e : ℝ, 0 < e ∧ eps = (e : EReal) := by
  simp [eps, Ideal.ofBits, Ideal.ieee, -EReal.coe_mul]

/-- The remainder the tables take, of words below the sign bit. -/
theorem remsi_word (n p : ℕ) (hp : p < 2 ^ 31) (hn : 0 < n) (hn' : n < 2 ^ 31) :
    (IntOp.remsi .host (BitVec.ofNat 32 p) (BitVec.ofNat 32 n)).toInt = ((p % n : ℕ) : ℤ) := by
  have hb : ∀ q : ℕ, q < 2 ^ 31 → (BitVec.ofNat 32 q).toInt = (q : ℤ) := fun q hq => by
    rw [BitVec.toInt_eq_toNat_cond, BitVec.toNat_ofNat, Nat.mod_eq_of_lt (by omega), if_pos (by omega)]
  have hc : ¬ IntOp.SDivCorner (BitVec.ofNat 32 p) (BitVec.ofNat 32 n) := by
    intro h
    rcases h with h | ⟨h, -⟩
    · have := congrArg BitVec.toInt h
      rw [hb n hn'] at this; simp at this; omega
    · have := congrArg BitVec.toNat h
      simp at this; omega
  rw [IntOp.remsi, if_neg hc, BitVec.toInt_srem, hb p hp, hb n hn', Int.tmod_eq_emod_of_nonneg (by omega)]
  omega

/-- The divisor of a floored remainder: one in the place of zero. -/
abbrev divisor (s : BitVec 32) : BitVec 32 := Scalar.select (IntOp.cmpi .eq s 0#32) 1#32 s
/-- The floored remainder: the divisor is added where the remainder isn't zero and its sign isn't the divisor's. -/
abbrev floorRem (w s : BitVec 32) : BitVec 32 :=
  Scalar.select
    (IntOp.andi (IntOp.cmpi .ne (IntOp.cmpi .slt (IntOp.remsi .host w (divisor s)) 0#32) (IntOp.cmpi .slt (divisor s) 0#32))
      (IntOp.cmpi .ne (IntOp.remsi .host w (divisor s)) 0#32))
    (IntOp.addi (IntOp.remsi .host w (divisor s)) (divisor s)) (IntOp.remsi .host w (divisor s))

/-- Of words below the sign bit the floored remainder is the remainder. -/
theorem floorRem_word (p : ℕ) {n : ℕ} {w s : BitVec 32} (hs : s = BitVec.ofNat 32 n) (hw : w = BitVec.ofNat 32 p) (hp : p < 2 ^ 31) (hn : 0 < n) (hn' : n < 2 ^ 31) :
    floorRem w s = IntOp.remsi .host w s := by
  subst hs hw
  have hsi : (BitVec.ofNat 32 n).toInt = (n : ℤ) := by
    rw [BitVec.toInt_eq_toNat_cond, BitVec.toNat_ofNat, Nat.mod_eq_of_lt (by omega), if_pos (by omega)]
  have h0 : BitVec.ofNat 32 n ≠ 0#32 := fun h => by
    have := congrArg BitVec.toInt h
    rw [hsi] at this; simp at this; omega
  have hd : divisor (BitVec.ofNat 32 n) = BitVec.ofNat 32 n := by
    simp only [divisor, Scalar.select, IntOp.cmpi, beq_eq_false_iff_ne.mpr h0]
    rfl
  have h1 : (BitVec.ofNat 32 n).slt 0#32 = false := by
    rw [BitVec.slt, hsi]; simp
  have h2 : (IntOp.remsi .host (BitVec.ofNat 32 p) (BitVec.ofNat 32 n)).slt 0#32 = false := by
    rw [BitVec.slt, remsi_word n p hp hn hn']
    exact decide_eq_false (not_lt.mpr (Int.natCast_nonneg _))
  simp only [floorRem, hd, IntOp.cmpi, h1, h2, IntOp.andi, bne_self_eq_false]
  simp [Scalar.select]

/-- The angle the tables compute. -/
theorem turn {N : EReal} {n : ℕ} (p : ℕ) {w s : BitVec 32} (hs : s = BitVec.ofNat 32 n) (hN : N = ((n : ℝ) : EReal))
    (hn : 0 < n) (hn' : n < 2 ^ 31) (hw : w = BitVec.ofNat 32 p) (hp : p < 2 ^ 31) :
    Ideal.div (Ideal.ofBits .f32 0x41000000#32 * Ideal.atan 1 * FloatOps.sitofp (F := Ideal) .f32 (IntOp.remsi .host w s)) N
      = ((angle n p : ℝ) : EReal) := by
  have hn0 : (n : ℝ) ≠ 0 := by exact_mod_cast hn.ne'
  have ha : Ideal.atan 1 = ((Real.arctan 1 : ℝ) : EReal) := rfl
  have hi : (FloatOps.sitofp (F := Ideal) .f32 (IntOp.remsi .host w s) : EReal) = (((p % n : ℕ) : ℝ) : EReal) := by
    show (((IntOp.remsi .host w s).toInt : ℝ) : EReal) = _
    rw [hw, hs, remsi_word n p hp hn hn']
    norm_cast
  rw [hi, ha, w8, hN, Ideal.div_coe hn0, ← EReal.coe_mul, ← EReal.coe_mul, ← EReal.coe_mul, angle]
  congr 1
  ring

/-- Over a root of a positive number. -/
theorem over_sqrt {N : EReal} {n : ℕ} (hN : N = ((n : ℝ) : EReal)) (hn : 0 < n) (x : ℝ) :
    Ideal.div (x : EReal) (Ideal.sqrt N) = ((x / √(n : ℝ) : ℝ) : EReal) := by
  have hn0 : √(n : ℝ) ≠ 0 := by
    have : (0 : ℝ) < n := by exact_mod_cast hn
    positivity
  rw [hN, Ideal.sqrt_coe, if_neg (by push_cast; exact not_lt.mpr (Nat.cast_nonneg n)), Ideal.div_coe hn0, ← EReal.coe_mul, mul_one_div]

end Cert.Layer

end
-- ==== Proof.Layer.lean ====
/- The layer of one sequence, and the kernel's calls composed as it. -/
module

public import proofs.«01_k».proof.Proof.Block0
public import proofs.«01_k».proof.Proof.Block1
public import proofs.«01_k».proof.Proof.Block2
public import proofs.«01_k».proof.Proof.Block3
public import proofs.«01_k».proof.Proof.Words

@[expose] public section

set_option maxRecDepth 16384

noncomputable section

namespace Cert.Layer

open Idealize.ShloMosaic Cert.KernelIdeal Cert.KernelIdeal.Gen

/-- The layer's parameters. -/
structure Weights where
  g1 : Fin 1024 → EReal
  wg : Fin 1024 → Fin 2816 → EReal
  wu : Fin 1024 → Fin 2816 → EReal
  wd : Fin 2816 → Fin 1024 → EReal
  gm : Fin 1024 → EReal
  win : Fin 1024 → Fin 2048 → EReal
  cw : Fin 3 → Fin 512 → EReal
  gf : Fin 512 → EReal
  gc : Fin 512 → EReal
  wo : Fin 1024 → Fin 1024 → EReal
  g2 : Fin 1024 → EReal
  wg2 : Fin 1024 → Fin 2816 → EReal
  wu2 : Fin 1024 → Fin 2816 → EReal
  wd2 : Fin 2816 → Fin 1024 → EReal
  gfin : Fin 1024 → EReal

namespace Weights

/-- The parameters as the kernel's and the reference's argument arrays hold them. -/
def ofArgs (a2 : FVec Ideal S1x1024 .f32) (a3 a4 : FVec Ideal S1x1024x2816 .f32) (a5 : FVec Ideal S1x2816x1024 .f32) (a6 : FVec Ideal S1x1024 .f32)
    (a7 : FVec Ideal S1x1024x2048 .f32) (a8 : FVec Ideal S1x3x512 .f32) (a9 a10 : FVec Ideal S1x512 .f32) (a11 : FVec Ideal S1x1024x1024 .f32)
    (a12 : FVec Ideal S1x1024 .f32) (a13 a14 : FVec Ideal S1x1024x2816 .f32) (a15 : FVec Ideal S1x2816x1024 .f32) (a16 : FVec Ideal S1024 .f32) : Weights where
  g1 k := a2 (ix2 0 k)
  wg k f := a3 (ix3 0 k f)
  wu k f := a4 (ix3 0 k f)
  wd f d := a5 (ix3 0 f d)
  gm k := a6 (ix2 0 k)
  win k j := a7 (ix3 0 k j)
  cw k j := a8 (ix3 0 k j)
  gf k := a9 (ix2 0 k)
  gc k := a10 (ix2 0 k)
  wo k d := a11 (ix3 0 k d)
  g2 k := a12 (ix2 0 k)
  wg2 k f := a13 (ix3 0 k f)
  wu2 k f := a14 (ix3 0 k f)
  wd2 f d := a15 (ix3 0 f d)
  gfin k := a16 (ix1 k)

/-- The parameters as the kernel's calls take them. -/
def ofCalls (x1 : FVec Ideal S1x1024 .f32) (x3 x5 : FVec Ideal S1024x2816 .bf16) (x7 : FVec Ideal S2816x1024 .bf16) (x9 : FVec Ideal S1x1024 .f32)
    (x11 : FVec Ideal S1024x2048 .bf16) (x12 : FVec Ideal S3x512 .f32) (x14 x16 : FVec Ideal S1x512 .f32) (x18 : FVec Ideal S1024x1024 .bf16)
    (x20 : FVec Ideal S1x1024 .f32) (x22 x24 : FVec Ideal S1024x2816 .bf16) (x26 : FVec Ideal S2816x1024 .bf16) (x27 : FVec Ideal S1x1024 .f32) : Weights where
  g1 k := x1 (ix2 0 k)
  wg k f := x3 (ix2 k f)
  wu k f := x5 (ix2 k f)
  wd f d := x7 (ix2 f d)
  gm k := x9 (ix2 0 k)
  win k j := x11 (ix2 k j)
  cw k j := x12 (ix2 k j)
  gf k := x14 (ix2 0 k)
  gc k := x16 (ix2 0 k)
  wo k d := x18 (ix2 k d)
  g2 k := x20 (ix2 0 k)
  wg2 k f := x22 (ix2 k f)
  wu2 k f := x24 (ix2 k f)
  wd2 f d := x26 (ix2 f d)
  gfin k := x27 (ix2 0 k)

variable (w : Weights)

/-- One position after the first feed-forward half-step. -/
def x1 (x : Fin 1024 → EReal) : Fin 1024 → EReal := ffn x w.g1 w.wg w.wu w.wd
/-- Its in-projection. -/
def u (x : Fin 1024 → EReal) : Fin 2048 → EReal := proj (w.x1 x) w.gm w.win
/-- The four parts of the in-projection: the channels that are transformed, the gate, and the two factors of what is convolved. -/
def uf (x : Fin 1024 → EReal) (j : Fin 512) : EReal := w.u x ⟨j, by omega⟩
def gb (x : Fin 1024 → EReal) (j : Fin 512) : EReal := w.u x ⟨512 + j, by omega⟩
def cv (x : Fin 1024 → EReal) (j : Fin 512) : EReal := w.u x ⟨1024 + j, by omega⟩ * w.u x ⟨1536 + j, by omega⟩

variable {s : ℕ} (X : Fin s → Fin 1024 → EReal)

/-- The transform over positions: the real part, and minus the sine sum. -/
def re (p : Fin s) (j : Fin 512) : EReal := ∑ n : Fin s, ((ctab s (p * n) : ℝ) : EReal) * w.uf (X n) j
def im (p : Fin s) (j : Fin 512) : EReal := ∑ n : Fin s, ((-stab s (p * n) : ℝ) : EReal) * w.uf (X n) j

/-- What is convolved, before and after a position: nothing outside the sequence. -/
def prev (p : Fin s) (j : Fin 512) : EReal := if p.val = 0 then 0 else w.cv (X ⟨p - 1, by omega⟩) j
def next (p : Fin s) (j : Fin 512) : EReal := if h : p.val + 1 < s then w.cv (X ⟨p + 1, h⟩) j else 0

/-- The layer's output at one position of a sequence `X`. -/
def layer (p : Fin s) : Fin 1024 → EReal :=
  tail (w.x1 (X p)) (chan (fun k d => ((ctab 128 (k * d) : ℝ) : EReal)) (fun k d => ((stab 128 (k * d) : ℝ) : EReal)) (w.re X p) (w.im X p))
    (w.gb (X p)) (w.prev X p) (w.cv (X p)) (w.next X p) w.cw w.gf w.gc w.wo w.g2 w.wg2 w.wu2 w.wd2 w.gfin

end Weights

/-- The two transform calls, at one position, give the transform over positions: its real part. -/
theorem re_stages {B n1 s w : ℕ} (hs : s = n1 * 64) (hn : 0 < n1) (hw : w = 2 * n1) (t : FVec Ideal ⟨3, ![64, w, n1]⟩ .bf16) (la lb : FVec Ideal ⟨2, ![128, 64]⟩ .bf16)
    (z : FVec Ideal ⟨4, ![B, n1, 64, 512]⟩ .f32) (b : Fin B) (j : Fin 512) (x : Fin s → ℝ)
    (hc : ∀ (i2 : Fin 64) (r i1 : Fin n1) (h), t (ix3 i2 ⟨r, h⟩ i1) = ((Real.cos (angle s (r * (64 * i1 + i2))) / √(n1 : ℝ) : ℝ) : EReal))
    (he : ∀ (i2 : Fin 64) (r i1 : Fin n1) (h), t (ix3 i2 ⟨n1 + r, h⟩ i1) = ((-Real.sin (angle s (r * (64 * i1 + i2))) / √(n1 : ℝ) : ℝ) : EReal))
    (hz : ∀ (i1 : Fin n1) (i2 : Fin 64) (h), z (ix4 b i1 i2 j) = (x ⟨i1 * 64 + i2, h⟩ : EReal))
    (k2 : Fin 64) (k1 : Fin n1) :
    ((∀ i2 : Fin 64, la (ix2 (rowRe k2) i2) = ((ctab 64 (k2 * i2) : ℝ) : EReal)) → (∀ i2 : Fin 64, lb (ix2 (rowRe k2) i2) = ((stab 64 (k2 * i2) : ℝ) : EReal)) →
      stageB (n := n1) rowRe hw la lb (stageA t z) (ix4 b k2 k1 j) = ∑ n : Fin s, ((ctab s ((k2 * n1 + k1) * n) : ℝ) : EReal) * (x n : EReal))
    ∧ ((∀ i2 : Fin 64, la (ix2 (rowIm k2) i2) = ((-stab 64 (k2 * i2) : ℝ) : EReal)) → (∀ i2 : Fin 64, lb (ix2 (rowIm k2) i2) = ((ctab 64 (k2 * i2) : ℝ) : EReal)) →
      stageB (n := n1) rowIm hw la lb (stageA t z) (ix4 b k2 k1 j) = ∑ n : Fin s, ((-stab s ((k2 * n1 + k1) * n) : ℝ) : EReal) * (x n : EReal)) := by
  have e : ∀ row : Fin 64 → Fin 128, stageB (n := n1) row hw la lb (stageA t z) (ix4 b k2 k1 j)
      = (∑ i2 : Fin 64, la (ix2 (row k2) i2) * ∑ i1 : Fin n1, ((Real.cos (angle s (k1 * (64 * i1 + i2))) / √(n1 : ℝ) : ℝ) : EReal) * z (ix4 b i1 i2 j))
        + ∑ i2 : Fin 64, lb (ix2 (row k2) i2) * ∑ i1 : Fin n1, ((-Real.sin (angle s (k1 * (64 * i1 + i2))) / √(n1 : ℝ) : ℝ) : EReal) * z (ix4 b i1 i2 j) := fun row => by
    refine congrArg₂ (fun a b : EReal => a + b) (Fin.sum_fin_congr fun i2 => congrArg₂ (fun a b : EReal => a * b) rfl ?_)
      (Fin.sum_fin_congr fun i2 => congrArg₂ (fun a b : EReal => a * b) rfl ?_)
    · exact Fin.sum_fin_congr fun i1 => congrArg₂ (fun a b : EReal => a * b) (hc i2 k1 i1 _) rfl
    · exact Fin.sum_fin_congr fun i1 => congrArg₂ (fun a b : EReal => a * b) (he i2 k1 i1 _) rfl
  subst hs
  let c : Fin 64 → Fin n1 → ℝ := fun i2 i1 => Real.cos (angle (n1 * 64) (k1 * (64 * i1 + i2))) / √(n1 : ℝ)
  let d : Fin 64 → Fin n1 → ℝ := fun i2 i1 => -Real.sin (angle (n1 * 64) (k1 * (64 * i1 + i2))) / √(n1 : ℝ)
  refine ⟨fun ha hb => ?_, fun ha hb => ?_⟩
  · rw [e]
    simp only [ha, hb]
    exact stages rfl x (fun i2 => ctab 64 (k2 * i2)) (fun i2 => stab 64 (k2 * i2)) c d (fun n => ctab (n1 * 64) ((k2 * n1 + k1) * n))
      (fun i1 i2 h => ctab_stages n1 64 k1 k2 i1 i2 hn (by omega)) (fun i2 i1 => z (ix4 b i1 i2 j)) (fun i1 i2 h => hz i1 i2 h)
  · rw [e]
    simp only [ha, hb]
    refine stages rfl x (fun i2 => -stab 64 (k2 * i2)) (fun i2 => ctab 64 (k2 * i2)) c d (fun n => -stab (n1 * 64) ((k2 * n1 + k1) * n))
      (fun i1 i2 h => (stab_stages n1 64 k1 k2 i1 i2 hn (by omega)).trans ?_) (fun i2 i1 => z (ix4 b i1 i2 j)) (fun i1 i2 h => hz i1 i2 h)
    rw [neg_div]
    rfl

end Cert.Layer

end
-- ==== Proof.Host.lean ====
/- What the kernel's host operations leave in the buffers its calls read, from any contents before them. -/
module

public import proofs.«01_k».proof.Proof.Gen.KernelIdeal.Frame.Fold0
public import proofs.«01_k».proof.Proof.Layer
public import Idealize.ShloMosaic.Lib.Pipeline.ValueKit
public import Idealize.ShloMosaic.Lib.Pointwise
public import Idealize.ShloMosaic.Lib.Claim

@[expose] public section

set_option maxRecDepth 16384

noncomputable section

namespace Cert.Layer

open Idealize.ShloMosaic Idealize.ShloMosaic.TcCoe Idealize.ShloMosaic.Tactic
open Cert.KernelIdeal Cert.KernelIdeal.Gen

variable (σ : Valuation τ sig (Elt Ideal))

/-- The contents of a buffer named by the program. -/
abbrev at_ (σ : Valuation τ sig (Elt Ideal)) (r : Ref sig .tc) := σ (Proc.devRef .tc r)

/-- The stretch between the first two calls, prompt batch. -/
abbrev mid1 (σ : Valuation τ sig (Elt Ideal)) : Valuation τ sig (Elt Ideal) :=
  StableHlo.after hostOps1_4 (StableHlo.after hostOps1_3 (StableHlo.after hostOps1_2 (StableHlo.after hostOps1_1 (StableHlo.after hostOps1 σ))))
/-- The stretch before the last call, prompt batch. -/
abbrev mid3 (σ : Valuation τ sig (Elt Ideal)) : Valuation τ sig (Elt Ideal) :=
  StableHlo.after hostOps3_5 (StableHlo.after hostOps3_4 (StableHlo.after hostOps3_3 (StableHlo.after hostOps3_2 (StableHlo.after hostOps3_1 (StableHlo.after hostOps3 σ)))))
/-- The stretch between the first two calls, sample batch. -/
abbrev mid5 (σ : Valuation τ sig (Elt Ideal)) : Valuation τ sig (Elt Ideal) :=
  StableHlo.after hostOps5_4 (StableHlo.after hostOps5_3 (StableHlo.after hostOps5_2 (StableHlo.after hostOps5_1 (StableHlo.after hostOps5 σ))))
/-- The stretch before the last call, sample batch. -/
abbrev mid7 (σ : Valuation τ sig (Elt Ideal)) : Valuation τ sig (Elt Ideal) :=
  StableHlo.after hostOps7_5 (StableHlo.after hostOps7_4 (StableHlo.after hostOps7_3 (StableHlo.after hostOps7_2 (StableHlo.after hostOps7_1 (StableHlo.after hostOps7 σ)))))

set_option maxHeartbeats 4000000 in
/-- The first host stretch only reshapes the parameters. -/
theorem host0_weights :
    Weights.ofCalls (at_ (StableHlo.after hostOps0 σ) main_v1) (at_ (StableHlo.after hostOps0 σ) main_v3) (at_ (StableHlo.after hostOps0 σ) main_v5)
      (at_ (StableHlo.after hostOps0 σ) main_v7) (at_ (StableHlo.after hostOps0 σ) main_v9) (at_ (StableHlo.after hostOps0 σ) main_v11)
      (at_ (StableHlo.after hostOps0 σ) main_v12) (at_ (StableHlo.after hostOps0 σ) main_v14) (at_ (StableHlo.after hostOps0 σ) main_v16)
      (at_ (StableHlo.after hostOps0 σ) main_v18) (at_ (StableHlo.after hostOps0 σ) main_v20) (at_ (StableHlo.after hostOps0 σ) main_v22)
      (at_ (StableHlo.after hostOps0 σ) main_v24) (at_ (StableHlo.after hostOps0 σ) main_v26) (at_ (StableHlo.after hostOps0 σ) main_v27)
    = Weights.ofArgs (at_ σ main_arg2) (at_ σ main_arg3) (at_ σ main_arg4) (at_ σ main_arg5) (at_ σ main_arg6) (at_ σ main_arg7) (at_ σ main_arg8)
        (at_ σ main_arg9) (at_ σ main_arg10) (at_ σ main_arg11) (at_ σ main_arg12) (at_ σ main_arg13) (at_ σ main_arg14) (at_ σ main_arg15) (at_ σ main_arg16) := by
  unfold Weights.ofCalls Weights.ofArgs
  congr 1
  all_goals (repeat refine funext fun _ => ?_)
  all_goals (unfold at_; entry_read; pointwise [])

/-- The rows of the prompt batch. -/
theorem host0_28 (b : Fin 4) (p : Fin 8192) (h) (k : Fin 1024) :
    (at_ (StableHlo.after hostOps0 σ) main_v28 : FVec Ideal S32768x1024 .f32) (ix2 ⟨b * 8192 + p, h⟩ k) = (at_ σ main_arg0 : FVec Ideal S4x8192x1024 .f32) (ix3 b p k) := by
  unfold at_
  entry_read
  pointwise []

/-- The rows of the sample batch. -/
theorem host4_129 (b : Fin 16) (p : Fin 4096) (h) (k : Fin 1024) :
    (at_ (StableHlo.after hostOps4 σ) main_v129 : FVec Ideal S65536x1024 .f32) (ix2 ⟨b * 4096 + p, h⟩ k) = (at_ σ main_arg1 : FVec Ideal S16x4096x1024 .f32) (ix3 b p k) := by
  unfold at_
  entry_read
  pointwise []

/-- The results are reshaped. -/
theorem host4_128 (b : Fin 4) (p : Fin 8192) (k : Fin 1024) :
    (at_ (StableHlo.after hostOps4 σ) main_v128 : FVec Ideal S4x8192x1024 .f32) (ix3 b p k) = (at_ σ main_v127 : FVec Ideal S32768x1024 .f32) (ix2 ⟨b * 8192 + p, by omega⟩ k) := by
  unfold at_
  entry_read
  pointwise []
theorem host8_229 (b : Fin 16) (p : Fin 4096) (k : Fin 1024) :
    (at_ (StableHlo.after hostOps8 σ) main_v229 : FVec Ideal S16x4096x1024 .f32) (ix3 b p k) = (at_ σ main_v228 : FVec Ideal S65536x1024 .f32) (ix2 ⟨b * 4096 + p, by omega⟩ k) := by
  unfold at_
  entry_read
  pointwise []

/-- The words of an entry of the first stage's table make the entry: cosine, and sine negated. -/
theorem first_entry {n l : ℕ} {N M : EReal} {w s : BitVec 32} (p : ℕ) (hs : s = BitVec.ofNat 32 n) (hN : N = ((n : ℝ) : EReal)) (hn : 0 < n) (hn' : n < 2 ^ 31)
    (hM : M = ((l : ℝ) : EReal)) (hl : 0 < l) (hw : w = BitVec.ofNat 32 p) (hp : p < 2 ^ 31) :
    Ideal.div (Ideal.cos (Ideal.div (Ideal.ofBits .f32 0x41000000#32 * Ideal.atan 1 * FloatOps.sitofp (F := Ideal) .f32 (floorRem w s)) N)) (Ideal.sqrt M)
      = ((Real.cos (angle n p) / √(l : ℝ) : ℝ) : EReal)
    ∧ Ideal.div (-Ideal.sin (Ideal.div (Ideal.ofBits .f32 0x41000000#32 * Ideal.atan 1 * FloatOps.sitofp (F := Ideal) .f32 (floorRem w s)) N)) (Ideal.sqrt M)
      = ((-Real.sin (angle n p) / √(l : ℝ) : ℝ) : EReal) := by
  rw [floorRem_word p hs hw hp hn hn', turn p hs hN hn hn' hw hp, Ideal.cos_coe, Ideal.sin_coe, ← EReal.coe_neg, over_sqrt hM hl, over_sqrt hM hl]
  exact ⟨rfl, rfl⟩

/-- The first stage's table, prompt batch: its cosine rows and its sine rows. -/
theorem host1_59_cos (i2 : Fin 64) (r i1 : Fin 128) (h) : (at_ (mid1 σ) main_v59 : FVec Ideal S64x256x128 .bf16) (ix3 i2 ⟨r, h⟩ i1)
    = ((Real.cos (angle 8192 (r * (64 * i1 + i2))) / √((128 : ℕ) : ℝ) : ℝ) : EReal) := by
  unfold at_ mid1
  entry_read
  simp -implicitDefEqProofs only [StableHlo.TRef.toBuf, StableHlo.TRef.ofBuf, cast_cast, cast_eq]
  pointwise []
  exact (first_entry (r * (64 * i1 + i2)) rfl w8192 (by omega) (by omega) w128 (by omega) (by simp [IntOp.muli, IntOp.addi, BitVec.ofNat_mul, BitVec.ofNat_add]) (by nlinarith [r.isLt, i1.isLt, i2.isLt])).1
theorem host1_59_sin (i2 : Fin 64) (r i1 : Fin 128) (h) : (at_ (mid1 σ) main_v59 : FVec Ideal S64x256x128 .bf16) (ix3 i2 ⟨128 + r, h⟩ i1)
    = ((-Real.sin (angle 8192 (r * (64 * i1 + i2))) / √((128 : ℕ) : ℝ) : ℝ) : EReal) := by
  unfold at_ mid1
  entry_read
  simp -implicitDefEqProofs only [StableHlo.TRef.toBuf, StableHlo.TRef.ofBuf, cast_cast, cast_eq]
  pointwise []
  exact (first_entry (r * (64 * i1 + i2)) rfl w8192 (by omega) (by omega) w128 (by omega) (by simp [IntOp.muli, IntOp.addi, BitVec.ofNat_mul, BitVec.ofNat_add]) (by nlinarith [r.isLt, i1.isLt, i2.isLt])).2

/-- The first stage's table, sample batch. -/
theorem host5_160_cos (i2 : Fin 64) (r i1 : Fin 64) (h) : (at_ (mid5 σ) main_v160 : FVec Ideal S64x128x64 .bf16) (ix3 i2 ⟨r, h⟩ i1)
    = ((Real.cos (angle 4096 (r * (64 * i1 + i2))) / √((64 : ℕ) : ℝ) : ℝ) : EReal) := by
  unfold at_ mid5
  entry_read
  simp -implicitDefEqProofs only [StableHlo.TRef.toBuf, StableHlo.TRef.ofBuf, cast_cast, cast_eq]
  pointwise []
  exact (first_entry (r * (64 * i1 + i2)) rfl w4096 (by omega) (by omega) w64 (by omega) (by simp [IntOp.muli, IntOp.addi, BitVec.ofNat_mul, BitVec.ofNat_add]) (by nlinarith [r.isLt, i1.isLt, i2.isLt])).1
theorem host5_160_sin (i2 : Fin 64) (r i1 : Fin 64) (h) : (at_ (mid5 σ) main_v160 : FVec Ideal S64x128x64 .bf16) (ix3 i2 ⟨64 + r, h⟩ i1)
    = ((-Real.sin (angle 4096 (r * (64 * i1 + i2))) / √((64 : ℕ) : ℝ) : ℝ) : EReal) := by
  unfold at_ mid5
  entry_read
  simp -implicitDefEqProofs only [StableHlo.TRef.toBuf, StableHlo.TRef.ofBuf, cast_cast, cast_eq]
  pointwise []
  exact (first_entry (r * (64 * i1 + i2)) rfl w4096 (by omega) (by omega) w64 (by omega) (by simp [IntOp.muli, IntOp.addi, BitVec.ofNat_mul, BitVec.ofNat_add]) (by nlinarith [r.isLt, i1.isLt, i2.isLt])).2

/-- The words of an `n`-point table's entry make the entry: cosine, sine, and sine negated. -/
theorem entry {n : ℕ} {N : EReal} {s : BitVec 32} (hs : s = BitVec.ofNat 32 n) (hN : N = ((n : ℝ) : EReal)) (hn : 0 < n) (r k : ℕ) (hr : r < n) (hk : k < n) (hn' : n ≤ 8192) :
    Ideal.div (Ideal.cos (Ideal.div (Ideal.ofBits .f32 0x41000000#32 * Ideal.atan 1 *
        FloatOps.sitofp (F := Ideal) .f32 (floorRem (IntOp.muli (BitVec.ofNat 32 r) (BitVec.ofNat 32 k)) s)) N)) (Ideal.sqrt N) = ((ctab n (r * k) : ℝ) : EReal)
    ∧ Ideal.div (Ideal.sin (Ideal.div (Ideal.ofBits .f32 0x41000000#32 * Ideal.atan 1 *
        FloatOps.sitofp (F := Ideal) .f32 (floorRem (IntOp.muli (BitVec.ofNat 32 r) (BitVec.ofNat 32 k)) s)) N)) (Ideal.sqrt N) = ((stab n (r * k) : ℝ) : EReal) := by
  have ht := turn (w := IntOp.muli (BitVec.ofNat 32 r) (BitVec.ofNat 32 k)) (r * k) hs hN hn (by omega) (by simp [IntOp.muli, BitVec.ofNat_mul])
    (by nlinarith [Nat.mul_lt_mul_of_lt_of_le hr hk.le hn])
  rw [floorRem_word (r * k) hs (by simp [IntOp.muli, BitVec.ofNat_mul]) (by nlinarith [Nat.mul_lt_mul_of_lt_of_le hr hk.le hn]) hn (by omega), ht, Ideal.cos_coe, Ideal.sin_coe, over_sqrt hN hn, over_sqrt hN hn]
  exact ⟨rfl, rfl⟩

set_option maxHeartbeats 1000000 in
/-- The second stage's tables, prompt batch. -/
theorem host1_tables (r k : Fin 64) :
    (at_ (mid1 σ) main_v85 : FVec Ideal S128x64 .bf16) (ix2 (rowRe r) k) = ((ctab 64 (r * k) : ℝ) : EReal)
    ∧ (at_ (mid1 σ) main_v85 : FVec Ideal S128x64 .bf16) (ix2 (rowIm r) k) = ((-stab 64 (r * k) : ℝ) : EReal)
    ∧ (at_ (mid1 σ) main_v86 : FVec Ideal S128x64 .bf16) (ix2 (rowRe r) k) = ((stab 64 (r * k) : ℝ) : EReal)
    ∧ (at_ (mid1 σ) main_v86 : FVec Ideal S128x64 .bf16) (ix2 (rowIm r) k) = ((ctab 64 (r * k) : ℝ) : EReal) := by
  have e := entry (s := 64#32) rfl w64 (by omega) r k r.isLt k.isLt (by omega)
  unfold rowRe rowIm
  refine ⟨?_, ?_, ?_, ?_⟩
  all_goals (unfold at_ mid1; entry_read; simp -implicitDefEqProofs only [StableHlo.TRef.toBuf, StableHlo.TRef.ofBuf, cast_cast, cast_eq]; pointwise [])
  · exact e.1
  · rw [e.2, EReal.coe_neg]
  · exact e.2
  · exact e.1

set_option maxHeartbeats 1000000 in
/-- The second stage's tables, sample batch. -/
theorem host5_tables (r k : Fin 64) :
    (at_ (mid5 σ) main_v186 : FVec Ideal S128x64 .bf16) (ix2 (rowRe r) k) = ((ctab 64 (r * k) : ℝ) : EReal)
    ∧ (at_ (mid5 σ) main_v186 : FVec Ideal S128x64 .bf16) (ix2 (rowIm r) k) = ((-stab 64 (r * k) : ℝ) : EReal)
    ∧ (at_ (mid5 σ) main_v187 : FVec Ideal S128x64 .bf16) (ix2 (rowRe r) k) = ((stab 64 (r * k) : ℝ) : EReal)
    ∧ (at_ (mid5 σ) main_v187 : FVec Ideal S128x64 .bf16) (ix2 (rowIm r) k) = ((ctab 64 (r * k) : ℝ) : EReal) := by
  have e := entry (s := 64#32) rfl w64 (by omega) r k r.isLt k.isLt (by omega)
  unfold rowRe rowIm
  refine ⟨?_, ?_, ?_, ?_⟩
  all_goals (unfold at_ mid5; entry_read; simp -implicitDefEqProofs only [StableHlo.TRef.toBuf, StableHlo.TRef.ofBuf, cast_cast, cast_eq]; pointwise [])
  · exact e.1
  · rw [e.2, EReal.coe_neg]
  · exact e.2
  · exact e.1

/-- The transformed channels as the first stage takes them. -/
theorem host1_88 (b : Fin 4) (i1 : Fin 128) (i2 : Fin 64) (j : Fin 512) : (at_ (mid1 σ) main_v88 : FVec Ideal S4x128x64x512 .f32) (ix4 b i1 i2 j)
    = (at_ σ main_v29_1 : FVec Ideal S32768x512 .f32) (ix2 ⟨b * 8192 + (i1 * 64 + i2), by omega⟩ j) := by
  unfold at_ mid1
  entry_read
  pointwise []
  exact congrArg (fun a => (at_ σ main_v29_1 : FVec Ideal S32768x512 .f32) (ix2 a j)) (Fin.ext (Nat.add_assoc _ _ _))
theorem host5_189 (b : Fin 16) (i1 : Fin 64) (i2 : Fin 64) (j : Fin 512) : (at_ (mid5 σ) main_v189 : FVec Ideal S16x64x64x512 .f32) (ix4 b i1 i2 j)
    = (at_ σ main_v130_1 : FVec Ideal S65536x512 .f32) (ix2 ⟨b * 4096 + (i1 * 64 + i2), by omega⟩ j) := by
  unfold at_ mid5
  entry_read
  pointwise []
  exact congrArg (fun a => (at_ σ main_v130_1 : FVec Ideal S65536x512 .f32) (ix2 a j)) (Fin.ext (Nat.add_assoc _ _ _))

/-- The two-by-two identity's words. -/
theorem eye (a b : ℕ) (ha : a < 2) (hb : b < 2) :
    (FloatOps.uitofp (F := Ideal) .f32 (IntOp.cmpi .eq (IntOp.addi (BitVec.ofNat 32 a) 0#32) (BitVec.ofNat 32 b)) : EReal) = if a = b then 1 else 0 := by
  show (((IntOp.cmpi .eq (IntOp.addi (BitVec.ofNat 32 a) 0#32) (BitVec.ofNat 32 b)).toNat : ℝ) : EReal) = _
  interval_cases a <;> interval_cases b <;> simp [IntOp.cmpi, IntOp.addi]

/-- The channel transform's tables: the 128-point table twice along the diagonal. -/
theorem host3_123 (x y : Fin 256) : (at_ (mid3 σ) main_v123 : FVec Ideal S256x256 .bf16) (ix2 x y)
    = if x.val / 128 = y.val / 128 then ((ctab 128 (x % 128 * (y % 128)) : ℝ) : EReal) else 0 := by
  have e := entry (s := 128#32) rfl w128 (by omega) (x % 128) (y % 128) (by omega) (by omega) (by omega)
  unfold at_ mid3
  entry_read
  simp -implicitDefEqProofs only [StableHlo.TRef.toBuf, StableHlo.TRef.ofBuf, cast_cast, cast_eq]
  pointwise []
  rw [e.1, eye _ _ (by omega) (by omega), ite_mul, one_mul, zero_mul]
theorem host3_124 (x y : Fin 256) : (at_ (mid3 σ) main_v124 : FVec Ideal S256x256 .bf16) (ix2 x y)
    = if x.val / 128 = y.val / 128 then ((stab 128 (x % 128 * (y % 128)) : ℝ) : EReal) else 0 := by
  have e := entry (s := 128#32) rfl w128 (by omega) (x % 128) (y % 128) (by omega) (by omega) (by omega)
  unfold at_ mid3
  entry_read
  simp -implicitDefEqProofs only [StableHlo.TRef.toBuf, StableHlo.TRef.ofBuf, cast_cast, cast_eq]
  pointwise []
  rw [e.2, eye _ _ (by omega) (by omega), ite_mul, one_mul, zero_mul]
theorem host7_224 (x y : Fin 256) : (at_ (mid7 σ) main_v224 : FVec Ideal S256x256 .bf16) (ix2 x y)
    = if x.val / 128 = y.val / 128 then ((ctab 128 (x % 128 * (y % 128)) : ℝ) : EReal) else 0 := by
  have e := entry (s := 128#32) rfl w128 (by omega) (x % 128) (y % 128) (by omega) (by omega) (by omega)
  unfold at_ mid7
  entry_read
  simp -implicitDefEqProofs only [StableHlo.TRef.toBuf, StableHlo.TRef.ofBuf, cast_cast, cast_eq]
  pointwise []
  rw [e.1, eye _ _ (by omega) (by omega), ite_mul, one_mul, zero_mul]
theorem host7_225 (x y : Fin 256) : (at_ (mid7 σ) main_v225 : FVec Ideal S256x256 .bf16) (ix2 x y)
    = if x.val / 128 = y.val / 128 then ((stab 128 (x % 128 * (y % 128)) : ℝ) : EReal) else 0 := by
  have e := entry (s := 128#32) rfl w128 (by omega) (x % 128) (y % 128) (by omega) (by omega) (by omega)
  unfold at_ mid7
  entry_read
  simp -implicitDefEqProofs only [StableHlo.TRef.toBuf, StableHlo.TRef.ofBuf, cast_cast, cast_eq]
  pointwise []
  rw [e.2, eye _ _ (by omega) (by omega), ite_mul, one_mul, zero_mul]

/-- The transform's two results as the last call takes them, prompt batch. -/
theorem host3_125 (b : Fin 4) (p : Fin 8192) (h) (j : Fin 512) : (at_ (mid3 σ) main_v125 : FVec Ideal S32768x512 .f32) (ix2 ⟨b * 8192 + p, h⟩ j)
    = (at_ σ main_v90_0 : FVec Ideal S4x64x128x512 .f32) (ix4 b ⟨p / 128, by omega⟩ ⟨p % 128, by omega⟩ j) := by
  unfold at_ mid3
  entry_read
  pointwise []
  exact congrArg₂ (fun a c => (at_ σ main_v90_0 : FVec Ideal S4x64x128x512 .f32) (ix4 b a c j)) (Fin.ext (by dsimp only; omega)) (Fin.ext (by dsimp only; omega))
theorem host3_126 (b : Fin 4) (p : Fin 8192) (h) (j : Fin 512) : (at_ (mid3 σ) main_v126 : FVec Ideal S32768x512 .f32) (ix2 ⟨b * 8192 + p, h⟩ j)
    = (at_ σ main_v90_1 : FVec Ideal S4x64x128x512 .f32) (ix4 b ⟨p / 128, by omega⟩ ⟨p % 128, by omega⟩ j) := by
  unfold at_ mid3
  entry_read
  pointwise []
  exact congrArg₂ (fun a c => (at_ σ main_v90_1 : FVec Ideal S4x64x128x512 .f32) (ix4 b a c j)) (Fin.ext (by dsimp only; omega)) (Fin.ext (by dsimp only; omega))
/-- The transform's two results as the last call takes them, sample batch. -/
theorem host7_226 (b : Fin 16) (p : Fin 4096) (h) (j : Fin 512) : (at_ (mid7 σ) main_v226 : FVec Ideal S65536x512 .f32) (ix2 ⟨b * 4096 + p, h⟩ j)
    = (at_ σ main_v191_0 : FVec Ideal S16x64x64x512 .f32) (ix4 b ⟨p / 64, by omega⟩ ⟨p % 64, by omega⟩ j) := by
  unfold at_ mid7
  entry_read
  pointwise []
  exact congrArg₂ (fun a c => (at_ σ main_v191_0 : FVec Ideal S16x64x64x512 .f32) (ix4 b a c j)) (Fin.ext (by dsimp only; omega)) (Fin.ext (by dsimp only; omega))
theorem host7_227 (b : Fin 16) (p : Fin 4096) (h) (j : Fin 512) : (at_ (mid7 σ) main_v227 : FVec Ideal S65536x512 .f32) (ix2 ⟨b * 4096 + p, h⟩ j)
    = (at_ σ main_v191_1 : FVec Ideal S16x64x64x512 .f32) (ix4 b ⟨p / 64, by omega⟩ ⟨p % 64, by omega⟩ j) := by
  unfold at_ mid7
  entry_read
  pointwise []
  exact congrArg₂ (fun a c => (at_ σ main_v191_1 : FVec Ideal S16x64x64x512 .f32) (ix4 b a c j)) (Fin.ext (by dsimp only; omega)) (Fin.ext (by dsimp only; omega))

end Cert.Layer

end
-- ==== Proof.Compose.lean ====
/- The kernel's last call, over what the earlier calls leave, is the layer. -/
module

public import proofs.«01_k».proof.Proof.Layer

@[expose] public section

set_option maxRecDepth 16384

noncomputable section

namespace Cert.Layer

open Idealize.ShloMosaic Cert.KernelIdeal Cert.KernelIdeal.Gen

/-- A normed row is real when its gain is, whatever the row: an infinite entry makes the norm's factor zero. -/
theorem rms_real {n : ℕ} (x g : Fin n → EReal) (hg : ∀ k, ∃ r : ℝ, g k = r) (j : Fin n) : ∃ r : ℝ, rms c1024 x g j = r := by
  obtain ⟨e, he, hE⟩ := weps
  obtain ⟨γ, hγ⟩ := hg j
  unfold rms
  rw [hE, w1024, Ideal.div_coe (by norm_num), hγ]
  by_cases h : ∀ k, ∃ r : ℝ, x k = r
  · choose f hf using h
    have hs : (∑ k, x k * x k) = ((∑ k, f k * f k : ℝ) : EReal) := by
      rw [coe_sum]; exact Finset.sum_congr rfl fun k _ => by rw [hf, EReal.coe_mul]
    have h0 : 0 ≤ ∑ k, f k * f k := Finset.sum_nonneg fun k _ => mul_self_nonneg _
    have h1 : 0 < (∑ k, f k * f k) * (1 / 1024) + e := by positivity
    rw [hs, hf j, ← EReal.coe_mul, ← EReal.coe_add, Ideal.rsqrt_coe, if_neg h1.not_gt, if_neg h1.ne', ← EReal.coe_mul, ← EReal.coe_mul]
    exact ⟨_, rfl⟩
  · push Not at h
    obtain ⟨k, hk⟩ := h
    have ht : x k * x k = ⊤ := by
      induction hx : x k with
      | bot => rfl
      | top => rfl
      | coe r => exact absurd hx (hk r)
    have hn : ∀ i, 0 ≤ x i * x i := fun i => by
      induction x i with
      | bot => exact le_top
      | top => exact le_top
      | coe r => rw [← EReal.coe_mul]; exact EReal.coe_nonneg.mpr (mul_self_nonneg r)
    have hs : (∑ i, x i * x i) = ⊤ := top_le_iff.mp (ht ▸ Finset.single_le_sum (f := fun i => x i * x i) (fun i _ => hn i) (Finset.mem_univ k))
    rw [hs, EReal.top_mul_coe_of_pos (by norm_num), EReal.top_add_coe, Ideal.rsqrt_top, mul_zero, zero_mul]
    exact ⟨0, rfl⟩

/-- The in-projection is real when its gain and its matrix are. -/
theorem u_real (w : Weights) (hg : ∀ k, ∃ r : ℝ, w.gm k = r) (hw : ∀ k j, ∃ r : ℝ, w.win k j = r) (x : Fin 1024 → EReal) (j : Fin 2048) :
    ∃ r : ℝ, w.u x j = r := by
  choose f hf using rms_real (w.x1 x) w.gm hg
  choose v hv using hw
  refine ⟨∑ k, f k * v k j, ?_⟩
  show (∑ k, rms c1024 (w.x1 x) w.gm k * w.win k j) = _
  rw [coe_sum]
  exact Finset.sum_congr rfl fun k _ => by rw [hf, hv, EReal.coe_mul]

/-- A sum over a 256-wide block against a table that is two copies of a 128-wide one along its diagonal and zero
    elsewhere is the sum over the 128 entries of the channel's own head. -/
theorem kron_sum (T : Fin 128 → Fin 128 → EReal) (cc : FVec Ideal S256x256 .bf16)
    (hcc : ∀ x y : Fin 256, cc (ix2 x y) = if x.val / 128 = y.val / 128 then T ⟨x % 128, by omega⟩ ⟨y % 128, by omega⟩ else 0) (f : Fin 512 → EReal) (j : Fin 512) :
    (∑ k : Fin 256, f ⟨j / 256 * 256 + k, by omega⟩ * cc (ix2 k ⟨j % 256, by omega⟩) : EReal)
      = ∑ k : Fin 128, f ⟨j / 128 * 128 + k, by omega⟩ * T k ⟨j % 128, by omega⟩ := by
  rw [Fin.sum_univ_tiles 2 128 rfl, Fin.sum_univ_two]
  have e : ∀ a : Fin 2, (∑ q : Fin 128, f ⟨j / 256 * 256 + (a * 128 + q), by omega⟩ * cc (ix2 ⟨a * 128 + q, by omega⟩ ⟨j % 256, by omega⟩) : EReal)
      = if a.val = j % 256 / 128 then ∑ k : Fin 128, f ⟨j / 128 * 128 + k, by omega⟩ * T k ⟨j % 128, by omega⟩ else 0 := fun a => by
    split
    next h =>
      refine Finset.sum_congr rfl fun q _ => ?_
      rw [hcc, if_pos (by dsimp only; omega)]
      refine congrArg₂ (fun a b : EReal => a * b) (congrArg f (Fin.ext ?_)) (congrArg₂ T (Fin.ext ?_) (Fin.ext ?_)) <;> dsimp only <;> omega
    next h =>
      refine Finset.sum_eq_zero fun q _ => ?_
      rw [hcc, if_neg (by dsimp only; omega), mul_zero]
  refine (congrArg₂ (fun a b : EReal => a + b) (e 0) (e 1)).trans ?_
  have h2 : j.val % 256 / 128 = 0 ∨ j.val % 256 / 128 = 1 := by omega
  rcases h2 with h | h <;> simp [h]

/-- The channel transform against the doubled tables is the channel transform. -/
theorem kchan_eq {C S : Fin 128 → Fin 128 → EReal} {cc sc : FVec Ideal S256x256 .bf16}
    (hcc : ∀ x y : Fin 256, cc (ix2 x y) = if x.val / 128 = y.val / 128 then C ⟨x % 128, by omega⟩ ⟨y % 128, by omega⟩ else 0)
    (hsc : ∀ x y : Fin 256, sc (ix2 x y) = if x.val / 128 = y.val / 128 then S ⟨x % 128, by omega⟩ ⟨y % 128, by omega⟩ else 0) (re im : Fin 512 → EReal) :
    kchan cc sc re im = chan C S re im := funext fun j => by
  unfold kchan chan
  rw [kron_sum C cc hcc re j, kron_sum S sc hsc im j]

section
variable {n S : ℕ} (Xa : FVec Ideal ⟨2, ![n, 1024]⟩ .f32) (v1 : FVec Ideal S1x1024 .f32) (v3 v5 : FVec Ideal S1024x2816 .bf16) (v7 : FVec Ideal S2816x1024 .bf16)
  (v9 : FVec Ideal S1x1024 .f32) (v11 : FVec Ideal S1024x2048 .bf16) (gr gi : FVec Ideal ⟨2, ![n, 512]⟩ .f32) (cc sc : FVec Ideal S256x256 .bf16)
  (x9 : FVec Ideal S3x512 .f32) (x10 x11 : FVec Ideal S1x512 .f32) (x12 : FVec Ideal S1024x1024 .bf16)
  (x13 : FVec Ideal S1x1024 .f32) (x14 x15 : FVec Ideal S1024x2816 .bf16) (x16 : FVec Ideal S2816x1024 .bf16) (x17 : FVec Ideal S1x1024 .f32)

/-- The last call's output at a position of the `b`-th sequence is the layer's at that position. -/
theorem outArr_layer (hcc : ∀ x y : Fin 256, cc (ix2 x y) = if x.val / 128 = y.val / 128 then ((ctab 128 (x % 128 * (y % 128)) : ℝ) : EReal) else 0)
    (hsc : ∀ x y : Fin 256, sc (ix2 x y) = if x.val / 128 = y.val / 128 then ((stab 128 (x % 128 * (y % 128)) : ℝ) : EReal) else 0)
    (w : Weights) (hw : w = Weights.ofCalls v1 v3 v5 v7 v9 v11 x9 x10 x11 x12 x13 x14 x15 x16 x17)
    (X : Fin S → Fin 1024 → EReal) (b : ℕ) (hn : b * S + S ≤ n) (hX : ∀ (p : Fin S) (h) (k), Xa (ix2 ⟨b * S + p, h⟩ k) = X p k) (p : Fin S) (h : b * S + p < n)
    (hre : ∀ j, gr (ix2 ⟨b * S + p, h⟩ j) = w.re X p j) (him : ∀ j, gi (ix2 ⟨b * S + p, h⟩ j) = w.im X p j) (d : Fin 1024) :
    outArr S (x1Arr Xa v1 v3 v5 v7) gr gi (gbArr Xa v1 v3 v5 v7 v9 v11) (cvArr Xa v1 v3 v5 v7 v9 v11) cc sc x9 x10 x11 x12 x13 x14 x15 x16 x17 (ix2 ⟨b * S + p, h⟩ d)
      = w.layer X p d := by
  subst hw
  have hS : 0 < S := by have := p.isLt; omega
  have hm : (b * S + p.val) % S = p := by rw [Nat.mul_comm, Nat.mul_add_mod, Nat.mod_eq_of_lt p.isLt]
  have hr : ∀ (q : Fin S) (h), (fun k => Xa (ix2 ⟨b * S + q, h⟩ k)) = X q := fun q h => funext (hX q h)
  set w := Weights.ofCalls v1 v3 v5 v7 v9 v11 x9 x10 x11 x12 x13 x14 x15 x16 x17 with hw
  have ex : (fun k => x1Arr Xa v1 v3 v5 v7 (ix2 ⟨b * S + p, h⟩ k)) = w.x1 (X p) := by rw [← hr p h]; rfl
  have eg : (fun k => gbArr Xa v1 v3 v5 v7 v9 v11 (ix2 ⟨b * S + p, h⟩ k)) = w.gb (X p) := by rw [← hr p h]; rfl
  have ec : ∀ (q : Fin S) (h'), (fun k => cvArr Xa v1 v3 v5 v7 v9 v11 (ix2 ⟨b * S + q, h'⟩ k)) = w.cv (X q) := fun q h' => by rw [← hr q h']; rfl
  have ep : prevRow S (cvArr Xa v1 v3 v5 v7 v9 v11) ⟨b * S + p, h⟩ = w.prev X p := funext fun j => by
    unfold prevRow Weights.prev
    simp only [hm]
    split
    · rfl
    next h0 =>
      refine (congrArg (fun q => cvArr Xa v1 v3 v5 v7 v9 v11 (ix2 q j)) (Fin.ext ?_)).trans (congrFun (ec ⟨p - 1, by omega⟩ (by simp only []; omega)) j)
      simp only []; omega
  have en : nextRow S (cvArr Xa v1 v3 v5 v7 v9 v11) ⟨b * S + p, h⟩ = w.next X p := funext fun j => by
    unfold nextRow Weights.next
    simp only [hm]
    by_cases h0 : p.val + 1 < S
    · rw [dif_neg (by omega), dif_pos h0]
      exact congrFun (ec ⟨p + 1, h0⟩ (by simp only []; omega)) j
    · rw [dif_pos (by omega), dif_neg h0]
  have ek : kchan cc sc (fun k => gr (ix2 ⟨b * S + p, h⟩ k)) (fun k => gi (ix2 ⟨b * S + p, h⟩ k))
      = chan (fun k d => ((ctab 128 (k * d) : ℝ) : EReal)) (fun k d => ((stab 128 (k * d) : ℝ) : EReal)) (w.re X p) (w.im X p) := by
    rw [kchan_eq (C := fun k d => ((ctab 128 (k * d) : ℝ) : EReal)) (S := fun k d => ((stab 128 (k * d) : ℝ) : EReal)) hcc hsc, funext hre, funext him]
  unfold Weights.layer
  rw [← ex, ← eg, ← ec p h, ← ep, ← en, ← ek]
  rfl

end

end Cert.Layer

end
-- ==== Proof.Last3.lean ====
/- The array the last call leaves. -/
module

public import proofs.«01_k».proof.Proof.Gen.KernelIdeal.Frame.Region3
public import proofs.«01_k».proof.Proof.Gen.KernelIdeal.Frame.Region7
public import proofs.«01_k».proof.Proof.Block3
public import Idealize.ShloMosaic.Lib.Pipeline.ValueKit
public import Idealize.ShloMosaic.Lib.Pointwise

@[expose] public section

set_option maxRecDepth 16384

noncomputable section

namespace Cert.Layer

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b)) (c : Dev nD)

/-- Where the blocks of this call lie. -/
theorem idx3 : ∀ t : Fin cfg3.N, (grid3.coords t 0).val = t.val ∧ win3_0.index t = ![t.val, 0] ∧ win3_1.index t = ![t.val, 0] ∧ win3_2.index t = ![t.val, 0]
    ∧ win3_3.index t = ![t.val, 0] ∧ win3_4.index t = ![t.val, 0] ∧ win3_5.index t = ![t.val * 64 - 1, 0] ∧ win3_6.index t = ![min (t.val * 64 + 64) 4095, 0]
    ∧ win3_18.index t = ![t.val, 0] := (by decide +kernel : ∀ t : Fin grid3.N, _)
theorem idw3 : ∀ t : Fin cfg3.N, win3_7.index t = ![0, 0] ∧ win3_8.index t = ![0, 0] ∧ win3_9.index t = ![0, 0] ∧ win3_10.index t = ![0, 0] ∧ win3_11.index t = ![0, 0] ∧ win3_12.index t = ![0, 0] ∧ win3_13.index t = ![0, 0] ∧ win3_14.index t = ![0, 0] ∧ win3_15.index t = ![0, 0] ∧ win3_16.index t = ![0, 0] ∧ win3_17.index t = ![0, 0] :=
  (by decide +kernel : ∀ t : Fin grid3.N, _)

theorem lt3 (t : Fin cfg3.N) : t.val < 64 := t.isLt

theorem iblk3_0 (t : Fin cfg3.N) (r : Fin 512) (k : Fin 1024) (h) :
    (iblk3 V c 0 t : FVec Ideal S512x1024 .f32) (ix2 r k) = (V c main_v29_0 : FVec Ideal S32768x1024 .f32) (ix2 ⟨t.val * 512 + r, h⟩ k) := by
  blk_ext [iblk3, idx3 t]
theorem iblk3_1 (t : Fin cfg3.N) (r : Fin 512) (k : Fin 512) (h) :
    (iblk3 V c 1 t : FVec Ideal S512x512 .f32) (ix2 r k) = (V c main_v125 : FVec Ideal S32768x512 .f32) (ix2 ⟨t.val * 512 + r, h⟩ k) := by
  blk_ext [iblk3, idx3 t]
theorem iblk3_2 (t : Fin cfg3.N) (r : Fin 512) (k : Fin 512) (h) :
    (iblk3 V c 2 t : FVec Ideal S512x512 .f32) (ix2 r k) = (V c main_v126 : FVec Ideal S32768x512 .f32) (ix2 ⟨t.val * 512 + r, h⟩ k) := by
  blk_ext [iblk3, idx3 t]
theorem iblk3_3 (t : Fin cfg3.N) (r : Fin 512) (k : Fin 512) (h) :
    (iblk3 V c 3 t : FVec Ideal S512x512 .bf16) (ix2 r k) = (V c main_v29_2 : FVec Ideal S32768x512 .bf16) (ix2 ⟨t.val * 512 + r, h⟩ k) := by
  blk_ext [iblk3, idx3 t]
theorem iblk3_4 (t : Fin cfg3.N) (r : Fin 512) (k : Fin 512) (h) :
    (iblk3 V c 4 t : FVec Ideal S512x512 .bf16) (ix2 r k) = (V c main_v29_3 : FVec Ideal S32768x512 .bf16) (ix2 ⟨t.val * 512 + r, h⟩ k) := by
  blk_ext [iblk3, idx3 t]
theorem iblk3_5 (t : Fin cfg3.N) (k : Fin 512) (h0 : t.val ≠ 0) (h) :
    (iblk3 V c 5 t : FVec Ideal S8x512 .bf16) (ix2 7 k) = (V c main_v29_3 : FVec Ideal S32768x512 .bf16) (ix2 ⟨t.val * 512 - 1, h⟩ k) := by
  blk_ext [iblk3, idx3 t]
theorem iblk3_6 (t : Fin cfg3.N) (k : Fin 512) (h) :
    (iblk3 V c 6 t : FVec Ideal S8x512 .bf16) (ix2 0 k) = (V c main_v29_3 : FVec Ideal S32768x512 .bf16) (ix2 ⟨t.val * 512 + 512, h⟩ k) := by
  blk_ext [iblk3, idx3 t]
theorem iblk3_7 (t : Fin cfg3.N) : iblk3 V c 7 t = V c main_v123 := by blk_ext! [iblk3, idw3 t]
theorem iblk3_8 (t : Fin cfg3.N) : iblk3 V c 8 t = V c main_v124 := by blk_ext! [iblk3, idw3 t]
theorem iblk3_9 (t : Fin cfg3.N) : iblk3 V c 9 t = V c main_v12 := by blk_ext! [iblk3, idw3 t]
theorem iblk3_10 (t : Fin cfg3.N) : iblk3 V c 10 t = V c main_v14 := by blk_ext! [iblk3, idw3 t]
theorem iblk3_11 (t : Fin cfg3.N) : iblk3 V c 11 t = V c main_v16 := by blk_ext! [iblk3, idw3 t]
theorem iblk3_12 (t : Fin cfg3.N) : iblk3 V c 12 t = V c main_v18 := by blk_ext! [iblk3, idw3 t]
theorem iblk3_13 (t : Fin cfg3.N) : iblk3 V c 13 t = V c main_v20 := by blk_ext! [iblk3, idw3 t]
theorem iblk3_14 (t : Fin cfg3.N) : iblk3 V c 14 t = V c main_v22 := by blk_ext! [iblk3, idw3 t]
theorem iblk3_15 (t : Fin cfg3.N) : iblk3 V c 15 t = V c main_v24 := by blk_ext! [iblk3, idw3 t]
theorem iblk3_16 (t : Fin cfg3.N) : iblk3 V c 16 t = V c main_v26 := by blk_ext! [iblk3, idw3 t]
theorem iblk3_17 (t : Fin cfg3.N) : iblk3 V c 17 t = V c main_v27 := by blk_ext! [iblk3, idw3 t]
theorem emb3_18 (t : Fin cfg3.N) (y : S512x1024.Idx) : ((win3_18.blk t).view.emb y : S32768x1024.Idx)
    = (ix2 ⟨t.val * 512 + y 0, by have := lt3 t; have : (y 0).val < 512 := (y 0).isLt; omega⟩ (y 1) : S32768x1024.Idx) := by
  blk_ext [idx3 t]

set_option maxHeartbeats 1000000 in
/-- The whole result of the last call (prompt batch). -/
theorem final3_18 : (dat3 V c).arrAt 18 cfg3.N = outArr 8192 (V c main_v29_0 : FVec Ideal S32768x1024 .f32) (V c main_v125 : FVec Ideal S32768x512 .f32) (V c main_v126) (V c main_v29_2 : FVec Ideal S32768x512 .bf16)
    (V c main_v29_3) (V c main_v123) (V c main_v124) (V c main_v12) (V c main_v14) (V c main_v16) (V c main_v18) (V c main_v20) (V c main_v22) (V c main_v24) (V c main_v26) (V c main_v27) := by
  refine (dat3 V c).arrAt_eq_of_covers 18 _ (by decide +kernel) fun t _ y => ?_
  blk_simp [idx3 t]
  rw [after3_18]
  idx_vars y
  rw [out3_18_at, emb3_18 t (ix2 y0 y1), iblk3_7, iblk3_8, iblk3_9, iblk3_10, iblk3_11, iblk3_12, iblk3_13, iblk3_14, iblk3_15, iblk3_16, iblk3_17]
  have ht := lt3 t
  have hy := y0.isLt
  refine congrFun (tailrow_congr _ _ _ _ _ _ _ _ _ _ _ (fun k => iblk3_0 V c t y0 k _) (fun k => iblk3_1 V c t y0 k _) (fun k => iblk3_2 V c t y0 k _)
    (fun k => iblk3_3 V c t y0 k _) (fun k => iblk3_4 V c t y0 k _) (fun k => ?_) (fun k => ?_)) _
  · rw [(idx3 t).1]
    refine prev_blk (S := 8192) (T := 16) (V c main_v29_3 : FVec Ideal S32768x512 .bf16) ⟨t.val * 512 + y0.val, by omega⟩ t.val y0.val k rfl _ _ (fun h => by omega) (fun h => by omega) (fun h h' => ?_) (fun h => ?_)
    · exact (iblk3_5 V c t k (fun e => h' (by omega)) (by omega)).trans (congrArg (fun i => (V c main_v29_3 : FVec Ideal S32768x512 .bf16) (ix2 i k)) (Fin.ext (by simp only []; omega)))
    · exact (iblk3_4 V c t _ k (by simp only []; omega)).trans (congrArg (fun i => (V c main_v29_3 : FVec Ideal S32768x512 .bf16) (ix2 i k)) (Fin.ext (by simp only []; omega)))
  · rw [(idx3 t).1]
    refine next_blk (S := 8192) (T := 16) (V c main_v29_3 : FVec Ideal S32768x512 .bf16) ⟨t.val * 512 + y0.val, by omega⟩ t.val y0.val k rfl _ _ (fun h => by omega) (fun h => by omega) (fun hb h => ?_) (fun hb h => ?_)
    · have hb' : t.val * 512 + y0.val + 1 < 32768 := hb
      exact (iblk3_6 V c t k (by omega)).trans (congrArg (fun i => (V c main_v29_3 : FVec Ideal S32768x512 .bf16) (ix2 i k)) (Fin.ext (by simp only []; omega)))
    · exact (iblk3_4 V c t _ k (by simp only []; omega)).trans (congrArg (fun i => (V c main_v29_3 : FVec Ideal S32768x512 .bf16) (ix2 i k)) (Fin.ext (by simp only []; omega)))

end Cert.Layer

end
-- ==== Proof.Last7.lean ====
/- The array the last call leaves. -/
module

public import proofs.«01_k».proof.Proof.Gen.KernelIdeal.Frame.Region3
public import proofs.«01_k».proof.Proof.Gen.KernelIdeal.Frame.Region7
public import proofs.«01_k».proof.Proof.Block3
public import Idealize.ShloMosaic.Lib.Pipeline.ValueKit
public import Idealize.ShloMosaic.Lib.Pointwise

@[expose] public section

set_option maxRecDepth 16384

noncomputable section

namespace Cert.Layer

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b)) (c : Dev nD)

/-- Where the blocks of this call lie. -/
theorem idx7 : ∀ t : Fin cfg7.N, (grid7.coords t 0).val = t.val ∧ win7_0.index t = ![t.val, 0] ∧ win7_1.index t = ![t.val, 0] ∧ win7_2.index t = ![t.val, 0]
    ∧ win7_3.index t = ![t.val, 0] ∧ win7_4.index t = ![t.val, 0] ∧ win7_5.index t = ![t.val * 64 - 1, 0] ∧ win7_6.index t = ![min (t.val * 64 + 64) 8191, 0]
    ∧ win7_18.index t = ![t.val, 0] := (by decide +kernel : ∀ t : Fin grid7.N, _)
theorem idw7 : ∀ t : Fin cfg7.N, win7_7.index t = ![0, 0] ∧ win7_8.index t = ![0, 0] ∧ win7_9.index t = ![0, 0] ∧ win7_10.index t = ![0, 0] ∧ win7_11.index t = ![0, 0] ∧ win7_12.index t = ![0, 0] ∧ win7_13.index t = ![0, 0] ∧ win7_14.index t = ![0, 0] ∧ win7_15.index t = ![0, 0] ∧ win7_16.index t = ![0, 0] ∧ win7_17.index t = ![0, 0] :=
  (by decide +kernel : ∀ t : Fin grid7.N, _)

theorem lt7 (t : Fin cfg7.N) : t.val < 128 := t.isLt

theorem iblk7_0 (t : Fin cfg7.N) (r : Fin 512) (k : Fin 1024) (h) :
    (iblk7 V c 0 t : FVec Ideal S512x1024 .f32) (ix2 r k) = (V c main_v130_0 : FVec Ideal S65536x1024 .f32) (ix2 ⟨t.val * 512 + r, h⟩ k) := by
  blk_ext [iblk7, idx7 t]
theorem iblk7_1 (t : Fin cfg7.N) (r : Fin 512) (k : Fin 512) (h) :
    (iblk7 V c 1 t : FVec Ideal S512x512 .f32) (ix2 r k) = (V c main_v226 : FVec Ideal S65536x512 .f32) (ix2 ⟨t.val * 512 + r, h⟩ k) := by
  blk_ext [iblk7, idx7 t]
theorem iblk7_2 (t : Fin cfg7.N) (r : Fin 512) (k : Fin 512) (h) :
    (iblk7 V c 2 t : FVec Ideal S512x512 .f32) (ix2 r k) = (V c main_v227 : FVec Ideal S65536x512 .f32) (ix2 ⟨t.val * 512 + r, h⟩ k) := by
  blk_ext [iblk7, idx7 t]
theorem iblk7_3 (t : Fin cfg7.N) (r : Fin 512) (k : Fin 512) (h) :
    (iblk7 V c 3 t : FVec Ideal S512x512 .bf16) (ix2 r k) = (V c main_v130_2 : FVec Ideal S65536x512 .bf16) (ix2 ⟨t.val * 512 + r, h⟩ k) := by
  blk_ext [iblk7, idx7 t]
theorem iblk7_4 (t : Fin cfg7.N) (r : Fin 512) (k : Fin 512) (h) :
    (iblk7 V c 4 t : FVec Ideal S512x512 .bf16) (ix2 r k) = (V c main_v130_3 : FVec Ideal S65536x512 .bf16) (ix2 ⟨t.val * 512 + r, h⟩ k) := by
  blk_ext [iblk7, idx7 t]
theorem iblk7_5 (t : Fin cfg7.N) (k : Fin 512) (h0 : t.val ≠ 0) (h) :
    (iblk7 V c 5 t : FVec Ideal S8x512 .bf16) (ix2 7 k) = (V c main_v130_3 : FVec Ideal S65536x512 .bf16) (ix2 ⟨t.val * 512 - 1, h⟩ k) := by
  blk_ext [iblk7, idx7 t]
theorem iblk7_6 (t : Fin cfg7.N) (k : Fin 512) (h) :
    (iblk7 V c 6 t : FVec Ideal S8x512 .bf16) (ix2 0 k) = (V c main_v130_3 : FVec Ideal S65536x512 .bf16) (ix2 ⟨t.val * 512 + 512, h⟩ k) := by
  blk_ext [iblk7, idx7 t]
theorem iblk7_7 (t : Fin cfg7.N) : iblk7 V c 7 t = V c main_v224 := by blk_ext! [iblk7, idw7 t]
theorem iblk7_8 (t : Fin cfg7.N) : iblk7 V c 8 t = V c main_v225 := by blk_ext! [iblk7, idw7 t]
theorem iblk7_9 (t : Fin cfg7.N) : iblk7 V c 9 t = V c main_v12 := by blk_ext! [iblk7, idw7 t]
theorem iblk7_10 (t : Fin cfg7.N) : iblk7 V c 10 t = V c main_v14 := by blk_ext! [iblk7, idw7 t]
theorem iblk7_11 (t : Fin cfg7.N) : iblk7 V c 11 t = V c main_v16 := by blk_ext! [iblk7, idw7 t]
theorem iblk7_12 (t : Fin cfg7.N) : iblk7 V c 12 t = V c main_v18 := by blk_ext! [iblk7, idw7 t]
theorem iblk7_13 (t : Fin cfg7.N) : iblk7 V c 13 t = V c main_v20 := by blk_ext! [iblk7, idw7 t]
theorem iblk7_14 (t : Fin cfg7.N) : iblk7 V c 14 t = V c main_v22 := by blk_ext! [iblk7, idw7 t]
theorem iblk7_15 (t : Fin cfg7.N) : iblk7 V c 15 t = V c main_v24 := by blk_ext! [iblk7, idw7 t]
theorem iblk7_16 (t : Fin cfg7.N) : iblk7 V c 16 t = V c main_v26 := by blk_ext! [iblk7, idw7 t]
theorem iblk7_17 (t : Fin cfg7.N) : iblk7 V c 17 t = V c main_v27 := by blk_ext! [iblk7, idw7 t]
theorem emb7_18 (t : Fin cfg7.N) (y : S512x1024.Idx) : ((win7_18.blk t).view.emb y : S65536x1024.Idx)
    = (ix2 ⟨t.val * 512 + y 0, by have := lt7 t; have : (y 0).val < 512 := (y 0).isLt; omega⟩ (y 1) : S65536x1024.Idx) := by
  blk_ext [idx7 t]

set_option maxHeartbeats 1000000 in
/-- The whole result of the last call (sample batch). -/
theorem final7_18 : (dat7 V c).arrAt 18 cfg7.N = outArr 4096 (V c main_v130_0 : FVec Ideal S65536x1024 .f32) (V c main_v226 : FVec Ideal S65536x512 .f32) (V c main_v227) (V c main_v130_2 : FVec Ideal S65536x512 .bf16)
    (V c main_v130_3) (V c main_v224) (V c main_v225) (V c main_v12) (V c main_v14) (V c main_v16) (V c main_v18) (V c main_v20) (V c main_v22) (V c main_v24) (V c main_v26) (V c main_v27) := by
  refine (dat7 V c).arrAt_eq_of_covers 18 _ (by decide +kernel) fun t _ y => ?_
  blk_simp [idx7 t]
  rw [after7_18]
  idx_vars y
  rw [out7_18_at, emb7_18 t (ix2 y0 y1), iblk7_7, iblk7_8, iblk7_9, iblk7_10, iblk7_11, iblk7_12, iblk7_13, iblk7_14, iblk7_15, iblk7_16, iblk7_17]
  have ht := lt7 t
  have hy := y0.isLt
  refine congrFun (tailrow_congr _ _ _ _ _ _ _ _ _ _ _ (fun k => iblk7_0 V c t y0 k _) (fun k => iblk7_1 V c t y0 k _) (fun k => iblk7_2 V c t y0 k _)
    (fun k => iblk7_3 V c t y0 k _) (fun k => iblk7_4 V c t y0 k _) (fun k => ?_) (fun k => ?_)) _
  · rw [(idx7 t).1]
    refine prev_blk (S := 4096) (T := 8) (V c main_v130_3 : FVec Ideal S65536x512 .bf16) ⟨t.val * 512 + y0.val, by omega⟩ t.val y0.val k rfl _ _ (fun h => by omega) (fun h => by omega) (fun h h' => ?_) (fun h => ?_)
    · exact (iblk7_5 V c t k (fun e => h' (by omega)) (by omega)).trans (congrArg (fun i => (V c main_v130_3 : FVec Ideal S65536x512 .bf16) (ix2 i k)) (Fin.ext (by simp only []; omega)))
    · exact (iblk7_4 V c t _ k (by simp only []; omega)).trans (congrArg (fun i => (V c main_v130_3 : FVec Ideal S65536x512 .bf16) (ix2 i k)) (Fin.ext (by simp only []; omega)))
  · rw [(idx7 t).1]
    refine next_blk (S := 4096) (T := 8) (V c main_v130_3 : FVec Ideal S65536x512 .bf16) ⟨t.val * 512 + y0.val, by omega⟩ t.val y0.val k rfl _ _ (fun h => by omega) (fun h => by omega) (fun hb h => ?_) (fun hb h => ?_)
    · have hb' : t.val * 512 + y0.val + 1 < 65536 := hb
      exact (iblk7_6 V c t k (by omega)).trans (congrArg (fun i => (V c main_v130_3 : FVec Ideal S65536x512 .bf16) (ix2 i k)) (Fin.ext (by simp only []; omega)))
    · exact (iblk7_4 V c t _ k (by simp only []; omega)).trans (congrArg (fun i => (V c main_v130_3 : FVec Ideal S65536x512 .bf16) (ix2 i k)) (Fin.ext (by simp only []; omega)))

end Cert.Layer

end
-- ==== Proof.Kern.lean ====
/- What the kernel leaves in its two result buffers: the layer of each sequence. -/
module

public import proofs.«01_k».proof.Proof.Gen.KernelIdeal.Frame.Fold0
public import proofs.«01_k».proof.Proof.Host
public import proofs.«01_k».proof.Proof.Compose
public import proofs.«01_k».proof.Proof.Last3
public import proofs.«01_k».proof.Proof.Last7

@[expose] public section

set_option maxRecDepth 16384

noncomputable section

namespace Cert.Layer

open Idealize.ShloMosaic Idealize.ShloMosaic.TcCoe Idealize.ShloMosaic.Tactic
open Cert.KernelIdeal Cert.KernelIdeal.Gen

/-- The two transform calls at a position of a sequence, when what is transformed is real: the transform over positions. -/
theorem transform {B n1 s w : ℕ} (hs : s = n1 * 64) (hn : 0 < n1) (hw : w = 2 * n1) (t : FVec Ideal ⟨3, ![64, w, n1]⟩ .bf16) (la lb : FVec Ideal ⟨2, ![128, 64]⟩ .bf16)
    (z : FVec Ideal ⟨4, ![B, n1, 64, 512]⟩ .f32) (b : Fin B) (P : Weights) (X : Fin s → Fin 1024 → EReal)
    (hP : ∀ x j, ∃ r : ℝ, P.u x j = r)
    (hc : ∀ (i2 : Fin 64) (r i1 : Fin n1) (h), t (ix3 i2 ⟨r, h⟩ i1) = ((Real.cos (angle s (r * (64 * i1 + i2))) / √(n1 : ℝ) : ℝ) : EReal))
    (he : ∀ (i2 : Fin 64) (r i1 : Fin n1) (h), t (ix3 i2 ⟨n1 + r, h⟩ i1) = ((-Real.sin (angle s (r * (64 * i1 + i2))) / √(n1 : ℝ) : ℝ) : EReal))
    (hl : ∀ r k : Fin 64, la (ix2 (rowRe r) k) = ((ctab 64 (r * k) : ℝ) : EReal) ∧ la (ix2 (rowIm r) k) = ((-stab 64 (r * k) : ℝ) : EReal)
      ∧ lb (ix2 (rowRe r) k) = ((stab 64 (r * k) : ℝ) : EReal) ∧ lb (ix2 (rowIm r) k) = ((ctab 64 (r * k) : ℝ) : EReal))
    (hz : ∀ (i1 : Fin n1) (i2 : Fin 64) (j : Fin 512) (h), z (ix4 b i1 i2 j) = P.uf (X ⟨i1 * 64 + i2, h⟩) j)
    (p : Fin s) (j : Fin 512) (h2 : p / n1 < 64) (h1 : p % n1 < n1) :
    stageB (n := n1) rowRe hw la lb (stageA t z) (ix4 b ⟨p / n1, h2⟩ ⟨p % n1, h1⟩ j) = P.re X p j
    ∧ stageB (n := n1) rowIm hw la lb (stageA t z) (ix4 b ⟨p / n1, h2⟩ ⟨p % n1, h1⟩ j) = P.im X p j := by
  choose x hx using fun n => hP (X n) ⟨j, by omega⟩
  have h := re_stages hs hn hw t la lb z b j x hc he (fun i1 i2 h => (hz i1 i2 j h).trans (hx _)) ⟨p / n1, h2⟩ ⟨p % n1, h1⟩
  have hp : p / n1 * n1 + p % n1 = p.val := Nat.div_add_mod' _ _
  dsimp only at h
  rw [hp] at h
  exact ⟨(h.1 (fun k => (hl _ k).1) (fun k => (hl _ k).2.2.1)).trans (Fin.sum_fin_congr fun n => congrArg₂ (fun a b : EReal => a * b) rfl (hx n).symm),
    (h.2 (fun k => (hl _ k).2.1) (fun k => (hl _ k).2.2.2)).trans (Fin.sum_fin_congr fun n => congrArg₂ (fun a b : EReal => a * b) rfl (hx n).symm)⟩

/-- The channels that are transformed, at a row of the first call's array. -/
theorem uf_row {n : ℕ} (Xa : FVec Ideal ⟨2, ![n, 1024]⟩ .f32) (v1 : FVec Ideal S1x1024 .f32) (v3 v5 : FVec Ideal S1024x2816 .bf16) (v7 : FVec Ideal S2816x1024 .bf16)
    (v9 : FVec Ideal S1x1024 .f32) (v11 : FVec Ideal S1024x2048 .bf16) (x9 : FVec Ideal S3x512 .f32) (x10 x11 : FVec Ideal S1x512 .f32) (x12 : FVec Ideal S1024x1024 .bf16)
    (x13 : FVec Ideal S1x1024 .f32) (x14 x15 : FVec Ideal S1024x2816 .bf16) (x16 : FVec Ideal S2816x1024 .bf16) (x17 : FVec Ideal S1x1024 .f32) (w : Weights)
    (hw : w = Weights.ofCalls v1 v3 v5 v7 v9 v11 x9 x10 x11 x12 x13 x14 x15 x16 x17) (R : Fin n) (x : Fin 1024 → EReal) (hx : ∀ k, Xa (ix2 R k) = x k) (j : Fin 512) :
    ufArr Xa v1 v3 v5 v7 v9 v11 (ix2 R j) = w.uf x j := by
  subst hw
  rw [← funext hx]
  rfl

variable (m : (ℓ : Loc nD τ sig) → Buf (Elt Ideal) ℓ) (ρ : Dev nD → PrngReg) (c : Dev nD)

/-- The parameters at the launch. -/
abbrev params : Weights :=
  Weights.ofArgs (W0 m ρ c (Proc.devRef .tc main_arg2)) (W0 m ρ c (Proc.devRef .tc main_arg3)) (W0 m ρ c (Proc.devRef .tc main_arg4)) (W0 m ρ c (Proc.devRef .tc main_arg5))
    (W0 m ρ c (Proc.devRef .tc main_arg6)) (W0 m ρ c (Proc.devRef .tc main_arg7)) (W0 m ρ c (Proc.devRef .tc main_arg8)) (W0 m ρ c (Proc.devRef .tc main_arg9))
    (W0 m ρ c (Proc.devRef .tc main_arg10)) (W0 m ρ c (Proc.devRef .tc main_arg11)) (W0 m ρ c (Proc.devRef .tc main_arg12)) (W0 m ρ c (Proc.devRef .tc main_arg13))
    (W0 m ρ c (Proc.devRef .tc main_arg14)) (W0 m ρ c (Proc.devRef .tc main_arg15)) (W0 m ρ c (Proc.devRef .tc main_arg16))

/-- The buffers that hold the reshaped parameters. -/
abbrev wrefs : List (Ref sig .tc) :=
  [main_v1, main_v3, main_v5, main_v7, main_v9, main_v11, main_v12, main_v14, main_v16, main_v18, main_v20, main_v22, main_v24, main_v26, main_v27]
/-- What the last call of the prompt batch reads of what was there after its first call. -/
abbrev keepA : List (Ref sig .tc) := main_v29_0 :: main_v29_2 :: main_v29_3 :: wrefs
/-- What the last call of the sample batch reads of what was there after its first call. -/
abbrev keepB : List (Ref sig .tc) := main_v130_0 :: main_v130_2 :: main_v130_3 :: main_v128 :: wrefs

theorem keep2 : ∀ a ∈ wrefs, W2 m ρ c (Proc.devRef .tc a) = W1 m ρ c (Proc.devRef .tc a) := fun a ha => W2_of m ρ c a
  ((ListAll.forall_mem_of_all_decide (by decide +kernel) : ∀ a ∈ wrefs, ∀ w : Fin cfg0.W, Pipeline.arrRef spec0 w = a → (cfg0.win w).isOut = false) a ha)

/-- Between the first and the last call of the prompt batch these buffers stay as they are. -/
theorem keep15 : ∀ a ∈ keepA, W15 m ρ c (Proc.devRef .tc a) = W2 m ρ c (Proc.devRef .tc a) := fun a ha =>
  (W15_of m ρ c a ((ListAll.forall_mem_of_all_decide (by decide +kernel) : ∀ a ∈ keepA, a ∉ hostOps3_5_W) a ha)).trans <|
  (W14_of m ρ c a ((ListAll.forall_mem_of_all_decide (by decide +kernel) : ∀ a ∈ keepA, a ∉ hostOps3_4_W) a ha)).trans <|
  (W13_of m ρ c a ((ListAll.forall_mem_of_all_decide (by decide +kernel) : ∀ a ∈ keepA, a ∉ hostOps3_3_W) a ha)).trans <|
  (W12_of m ρ c a ((ListAll.forall_mem_of_all_decide (by decide +kernel) : ∀ a ∈ keepA, a ∉ hostOps3_2_W) a ha)).trans <|
  (W11_of m ρ c a ((ListAll.forall_mem_of_all_decide (by decide +kernel) : ∀ a ∈ keepA, a ∉ hostOps3_1_W) a ha)).trans <|
  (W10_of m ρ c a ((ListAll.forall_mem_of_all_decide (by decide +kernel) : ∀ a ∈ keepA, a ∉ hostOps3_W) a ha)).trans <|
  (W9_of m ρ c a ((ListAll.forall_mem_of_all_decide (by decide +kernel) : ∀ a ∈ keepA, ∀ w : Fin cfg2.W, Pipeline.arrRef spec2 w = a → (cfg2.win w).isOut = false) a ha)).trans <|
  (W8_of m ρ c a ((ListAll.forall_mem_of_all_decide (by decide +kernel) : ∀ a ∈ keepA, ∀ w : Fin cfg1.W, Pipeline.arrRef spec1 w = a → (cfg1.win w).isOut = false) a ha)).trans <|
  (W7_of m ρ c a ((ListAll.forall_mem_of_all_decide (by decide +kernel) : ∀ a ∈ keepA, a ∉ hostOps1_4_W) a ha)).trans <|
  (W6_of m ρ c a ((ListAll.forall_mem_of_all_decide (by decide +kernel) : ∀ a ∈ keepA, a ∉ hostOps1_3_W) a ha)).trans <|
  (W5_of m ρ c a ((ListAll.forall_mem_of_all_decide (by decide +kernel) : ∀ a ∈ keepA, a ∉ hostOps1_2_W) a ha)).trans <|
  (W4_of m ρ c a ((ListAll.forall_mem_of_all_decide (by decide +kernel) : ∀ a ∈ keepA, a ∉ hostOps1_1_W) a ha)).trans <|
  W3_of m ρ c a ((ListAll.forall_mem_of_all_decide (by decide +kernel) : ∀ a ∈ keepA, a ∉ hostOps1_W) a ha)

/-- From the prompt batch's last call to the sample batch's first the parameters stay as they are. -/
theorem keep17 : ∀ a ∈ wrefs, W17 m ρ c (Proc.devRef .tc a) = W15 m ρ c (Proc.devRef .tc a) := fun a ha =>
  (W17_of m ρ c a ((ListAll.forall_mem_of_all_decide (by decide +kernel) : ∀ a ∈ wrefs, a ∉ hostOps4_W) a ha)).trans <|
  W16_of m ρ c a ((ListAll.forall_mem_of_all_decide (by decide +kernel) : ∀ a ∈ wrefs, ∀ w : Fin cfg3.W, Pipeline.arrRef spec3 w = a → (cfg3.win w).isOut = false) a ha)

theorem keep18 : ∀ a ∈ main_v128 :: wrefs, W18 m ρ c (Proc.devRef .tc a) = W17 m ρ c (Proc.devRef .tc a) := fun a ha => W18_of m ρ c a
  ((ListAll.forall_mem_of_all_decide (by decide +kernel) : ∀ a ∈ main_v128 :: wrefs, ∀ w : Fin cfg4.W, Pipeline.arrRef spec4 w = a → (cfg4.win w).isOut = false) a ha)

/-- Between the first and the last call of the sample batch these buffers stay as they are. -/
theorem keep31 : ∀ a ∈ keepB, W31 m ρ c (Proc.devRef .tc a) = W18 m ρ c (Proc.devRef .tc a) := fun a ha =>
  (W31_of m ρ c a ((ListAll.forall_mem_of_all_decide (by decide +kernel) : ∀ a ∈ keepB, a ∉ hostOps7_5_W) a ha)).trans <|
  (W30_of m ρ c a ((ListAll.forall_mem_of_all_decide (by decide +kernel) : ∀ a ∈ keepB, a ∉ hostOps7_4_W) a ha)).trans <|
  (W29_of m ρ c a ((ListAll.forall_mem_of_all_decide (by decide +kernel) : ∀ a ∈ keepB, a ∉ hostOps7_3_W) a ha)).trans <|
  (W28_of m ρ c a ((ListAll.forall_mem_of_all_decide (by decide +kernel) : ∀ a ∈ keepB, a ∉ hostOps7_2_W) a ha)).trans <|
  (W27_of m ρ c a ((ListAll.forall_mem_of_all_decide (by decide +kernel) : ∀ a ∈ keepB, a ∉ hostOps7_1_W) a ha)).trans <|
  (W26_of m ρ c a ((ListAll.forall_mem_of_all_decide (by decide +kernel) : ∀ a ∈ keepB, a ∉ hostOps7_W) a ha)).trans <|
  (W25_of m ρ c a ((ListAll.forall_mem_of_all_decide (by decide +kernel) : ∀ a ∈ keepB, ∀ w : Fin cfg6.W, Pipeline.arrRef spec6 w = a → (cfg6.win w).isOut = false) a ha)).trans <|
  (W24_of m ρ c a ((ListAll.forall_mem_of_all_decide (by decide +kernel) : ∀ a ∈ keepB, ∀ w : Fin cfg5.W, Pipeline.arrRef spec5 w = a → (cfg5.win w).isOut = false) a ha)).trans <|
  (W23_of m ρ c a ((ListAll.forall_mem_of_all_decide (by decide +kernel) : ∀ a ∈ keepB, a ∉ hostOps5_4_W) a ha)).trans <|
  (W22_of m ρ c a ((ListAll.forall_mem_of_all_decide (by decide +kernel) : ∀ a ∈ keepB, a ∉ hostOps5_3_W) a ha)).trans <|
  (W21_of m ρ c a ((ListAll.forall_mem_of_all_decide (by decide +kernel) : ∀ a ∈ keepB, a ∉ hostOps5_2_W) a ha)).trans <|
  (W20_of m ρ c a ((ListAll.forall_mem_of_all_decide (by decide +kernel) : ∀ a ∈ keepB, a ∉ hostOps5_1_W) a ha)).trans <|
  W19_of m ρ c a ((ListAll.forall_mem_of_all_decide (by decide +kernel) : ∀ a ∈ keepB, a ∉ hostOps5_W) a ha)

/-- The prompt batch's result is as its last call's array had it. -/
theorem keep33 : W33 m ρ c (Proc.devRef .tc main_v128) = W17 m ρ c (Proc.devRef .tc main_v128) :=
  (W33_of m ρ c main_v128 (by decide +kernel)).trans <|
  (W32_of m ρ c main_v128 (by decide +kernel)).trans <|
  (keep31 m ρ c _ (by decide +kernel)).trans (keep18 m ρ c _ (by decide +kernel))

/-- The parameters as the calls of the prompt batch find them. -/
theorem params1 : Weights.ofCalls (V1 m ρ c main_v1) (V1 m ρ c main_v3) (V1 m ρ c main_v5) (V1 m ρ c main_v7) (V1 m ρ c main_v9) (V1 m ρ c main_v11)
    (V1 m ρ c main_v12) (V1 m ρ c main_v14) (V1 m ρ c main_v16) (V1 m ρ c main_v18) (V1 m ρ c main_v20) (V1 m ρ c main_v22) (V1 m ρ c main_v24)
    (V1 m ρ c main_v26) (V1 m ρ c main_v27) = params m ρ c := host0_weights (W0 m ρ c)

/-- The parameters as the calls of the sample batch find them. -/
theorem params17 : Weights.ofCalls (V17 m ρ c main_v1) (V17 m ρ c main_v3) (V17 m ρ c main_v5) (V17 m ρ c main_v7) (V17 m ρ c main_v9) (V17 m ρ c main_v11)
    (V17 m ρ c main_v12) (V17 m ρ c main_v14) (V17 m ρ c main_v16) (V17 m ρ c main_v18) (V17 m ρ c main_v20) (V17 m ρ c main_v22) (V17 m ρ c main_v24)
    (V17 m ρ c main_v26) (V17 m ρ c main_v27) = params m ρ c := by
  have k : ∀ a ∈ wrefs, V17 m ρ c a = V1 m ρ c a := fun a ha => (keep17 m ρ c a ha).trans ((keep15 m ρ c a (by simp [ha])).trans (keep2 m ρ c a ha))
  rw [← params1, k main_v1 (by decide +kernel), k main_v3 (by decide +kernel), k main_v5 (by decide +kernel), k main_v7 (by decide +kernel), k main_v9 (by decide +kernel), k main_v11 (by decide +kernel), k main_v12 (by decide +kernel), k main_v14 (by decide +kernel), k main_v16 (by decide +kernel), k main_v18 (by decide +kernel), k main_v20 (by decide +kernel), k main_v22 (by decide +kernel), k main_v24 (by decide +kernel), k main_v26 (by decide +kernel), k main_v27 (by decide +kernel)]

variable (hP : ∀ x j, ∃ r : ℝ, (params m ρ c).u x j = r)
include hP

set_option maxHeartbeats 1000000 in
/-- The kernel's first result: the layer of each prompt sequence. -/
theorem result_prompt (b : Fin 4) (p : Fin 8192) (d : Fin 1024) :
    (W33 m ρ c (Proc.devRef .tc main_v128) : FVec Ideal S4x8192x1024 .f32) (ix3 b p d)
      = (params m ρ c).layer (fun n k => (W0 m ρ c (Proc.devRef .tc main_arg0) : FVec Ideal S4x8192x1024 .f32) (ix3 b n k)) p d := by
  have hX : ∀ (n : Fin 8192) (h) (k : Fin 1024), (V1 m ρ c main_v28 : FVec Ideal S32768x1024 .f32) (ix2 ⟨b * 8192 + n, h⟩ k)
      = (W0 m ρ c (Proc.devRef .tc main_arg0) : FVec Ideal S4x8192x1024 .f32) (ix3 b n k) := fun n h k => host0_28 (W0 m ρ c) b n h k
  have kw : ∀ a ∈ wrefs, V15 m ρ c a = V1 m ρ c a := fun a ha => (keep15 m ρ c a (by simp [ha])).trans (keep2 m ρ c a ha)
  have e0 : V15 m ρ c main_v29_0 = _ := (keep15 m ρ c main_v29_0 (by decide +kernel)).trans ((W2_arr m ρ c 7).trans (final0_7 (V1 m ρ) c))
  have e2 : V15 m ρ c main_v29_2 = _ := (keep15 m ρ c main_v29_2 (by decide +kernel)).trans ((W2_arr m ρ c 9).trans (final0_9 (V1 m ρ) c))
  have e3 : V15 m ρ c main_v29_3 = _ := (keep15 m ρ c main_v29_3 (by decide +kernel)).trans ((W2_arr m ρ c 10).trans (final0_10 (V1 m ρ) c))
  have hz : ∀ (i1 : Fin 128) (i2 : Fin 64) (j : Fin 512) (h), (V7 m ρ c main_v88 : FVec Ideal S4x128x64x512 .f32) (ix4 b i1 i2 j)
      = (params m ρ c).uf ((fun n k => (W0 m ρ c (Proc.devRef .tc main_arg0) : FVec Ideal S4x8192x1024 .f32) (ix3 b n k)) (⟨i1 * 64 + i2, h⟩ : Fin 8192)) j := fun i1 i2 j h => by
    refine (host1_88 (W2 m ρ c) b i1 i2 j).trans ?_
    refine (congrFun ((W2_arr m ρ c 8).trans (final0_8 (V1 m ρ) c)) _).trans ?_
    exact uf_row _ _ _ _ _ _ _ _ _ _ _ _ _ _ _ _ _ (params1 m ρ c).symm _ _ (hX ⟨i1 * 64 + i2, h⟩ (by dsimp only; omega)) j
  have e1 : V8 m ρ c main_v89 = _ := (W8_arr m ρ c 2).trans (final1_2 (V7 m ρ) c)
  have ea : V8 m ρ c main_v85 = V7 m ρ c main_v85 := W8_of m ρ c main_v85 (by decide +kernel)
  have eb : V8 m ρ c main_v86 = V7 m ρ c main_v86 := W8_of m ρ c main_v86 (by decide +kernel)
  have t := transform (n1 := 128) rfl (by omega) rfl (V7 m ρ c main_v59 : FVec Ideal S64x256x128 .bf16) (V7 m ρ c main_v85 : FVec Ideal S128x64 .bf16) (V7 m ρ c main_v86)
    (V7 m ρ c main_v88 : FVec Ideal S4x128x64x512 .f32) b (params m ρ c) (fun n k => (W0 m ρ c (Proc.devRef .tc main_arg0) : FVec Ideal S4x8192x1024 .f32) (ix3 b n k)) hP
    (fun i2 r i1 h => host1_59_cos (W2 m ρ c) i2 r i1 h) (fun i2 r i1 h => host1_59_sin (W2 m ρ c) i2 r i1 h) (fun r k => host1_tables (W2 m ρ c) r k) hz p
  have hre : ∀ j, (V15 m ρ c main_v125 : FVec Ideal S32768x512 .f32) (ix2 ⟨b * 8192 + p, by omega⟩ j) = _ := fun j =>
    (host3_125 (W9 m ρ c) b p (by omega) j).trans ((congrFun ((W9_arr m ρ c 4).trans ((final2_4 (V8 m ρ) c).trans (by rw [e1, ea, eb]))) _).trans (t j (by omega) (by omega)).1)
  have him : ∀ j, (V15 m ρ c main_v126 : FVec Ideal S32768x512 .f32) (ix2 ⟨b * 8192 + p, by omega⟩ j) = _ := fun j =>
    (host3_126 (W9 m ρ c) b p (by omega) j).trans ((congrFun ((W9_arr m ρ c 5).trans ((final2_5 (V8 m ρ) c).trans (by rw [e1, ea, eb]))) _).trans (t j (by omega) (by omega)).2)
  have eo : V16 m ρ c main_v127 = _ := (W16_arr m ρ c 18).trans (final3_18 (V15 m ρ) c)
  rw [e0, e2, e3, kw main_v12 (by decide +kernel), kw main_v14 (by decide +kernel), kw main_v16 (by decide +kernel), kw main_v18 (by decide +kernel), kw main_v20 (by decide +kernel),
    kw main_v22 (by decide +kernel), kw main_v24 (by decide +kernel), kw main_v26 (by decide +kernel), kw main_v27 (by decide +kernel)] at eo
  refine (congrFun (keep33 m ρ c) _).trans ((host4_128 (W16 m ρ c) b p d).trans ((congrFun eo _).trans ?_))
  exact outArr_layer (n := 32768) (S := 8192) (V1 m ρ c main_v28 : FVec Ideal S32768x1024 .f32) (V1 m ρ c main_v1) (V1 m ρ c main_v3) (V1 m ρ c main_v5) (V1 m ρ c main_v7) (V1 m ρ c main_v9)
    (V1 m ρ c main_v11) (V15 m ρ c main_v125) (V15 m ρ c main_v126) (V15 m ρ c main_v123) (V15 m ρ c main_v124) (V1 m ρ c main_v12) (V1 m ρ c main_v14) (V1 m ρ c main_v16)
    (V1 m ρ c main_v18) (V1 m ρ c main_v20) (V1 m ρ c main_v22) (V1 m ρ c main_v24) (V1 m ρ c main_v26) (V1 m ρ c main_v27)
    (host3_123 (W9 m ρ c)) (host3_124 (W9 m ρ c)) _ (params1 m ρ c).symm _ b (by omega) hX p (by omega) hre him d

set_option maxHeartbeats 1000000 in
/-- The kernel's second result: the layer of each sample sequence. -/
theorem result_sample (b : Fin 16) (p : Fin 4096) (d : Fin 1024) :
    (W33 m ρ c (Proc.devRef .tc main_v229) : FVec Ideal S16x4096x1024 .f32) (ix3 b p d)
      = (params m ρ c).layer (fun n k => (W0 m ρ c (Proc.devRef .tc main_arg1) : FVec Ideal S16x4096x1024 .f32) (ix3 b n k)) p d := by
  have hX : ∀ (n : Fin 4096) (h) (k : Fin 1024), (V17 m ρ c main_v129 : FVec Ideal S65536x1024 .f32) (ix2 ⟨b * 4096 + n, h⟩ k)
      = (W0 m ρ c (Proc.devRef .tc main_arg1) : FVec Ideal S16x4096x1024 .f32) (ix3 b n k) := fun n h k => (host4_129 (W16 m ρ c) b n h k).trans (congrFun (W16_args m ρ c main_arg1 (by decide +kernel)) _)
  have kw : ∀ a ∈ wrefs, V31 m ρ c a = V17 m ρ c a := fun a ha => (keep31 m ρ c a (by simp [ha])).trans (keep18 m ρ c a (by simp [ha]))
  have e0 : V31 m ρ c main_v130_0 = _ := (keep31 m ρ c main_v130_0 (by decide +kernel)).trans ((W18_arr m ρ c 7).trans (final4_7 (V17 m ρ) c))
  have e2 : V31 m ρ c main_v130_2 = _ := (keep31 m ρ c main_v130_2 (by decide +kernel)).trans ((W18_arr m ρ c 9).trans (final4_9 (V17 m ρ) c))
  have e3 : V31 m ρ c main_v130_3 = _ := (keep31 m ρ c main_v130_3 (by decide +kernel)).trans ((W18_arr m ρ c 10).trans (final4_10 (V17 m ρ) c))
  have hz : ∀ (i1 : Fin 64) (i2 : Fin 64) (j : Fin 512) (h), (V23 m ρ c main_v189 : FVec Ideal S16x64x64x512 .f32) (ix4 b i1 i2 j)
      = (params m ρ c).uf ((fun n k => (W0 m ρ c (Proc.devRef .tc main_arg1) : FVec Ideal S16x4096x1024 .f32) (ix3 b n k)) (⟨i1 * 64 + i2, h⟩ : Fin 4096)) j := fun i1 i2 j h => by
    refine (host5_189 (W18 m ρ c) b i1 i2 j).trans ?_
    refine (congrFun ((W18_arr m ρ c 8).trans (final4_8 (V17 m ρ) c)) _).trans ?_
    exact uf_row _ _ _ _ _ _ _ _ _ _ _ _ _ _ _ _ _ (params17 m ρ c).symm _ _ (hX ⟨i1 * 64 + i2, h⟩ (by dsimp only; omega)) j
  have e1 : V24 m ρ c main_v190 = _ := (W24_arr m ρ c 2).trans (final5_2 (V23 m ρ) c)
  have ea : V24 m ρ c main_v186 = V23 m ρ c main_v186 := W24_of m ρ c main_v186 (by decide +kernel)
  have eb : V24 m ρ c main_v187 = V23 m ρ c main_v187 := W24_of m ρ c main_v187 (by decide +kernel)
  have t := transform (n1 := 64) rfl (by omega) rfl (V23 m ρ c main_v160 : FVec Ideal S64x128x64 .bf16) (V23 m ρ c main_v186 : FVec Ideal S128x64 .bf16) (V23 m ρ c main_v187)
    (V23 m ρ c main_v189 : FVec Ideal S16x64x64x512 .f32) b (params m ρ c) (fun n k => (W0 m ρ c (Proc.devRef .tc main_arg1) : FVec Ideal S16x4096x1024 .f32) (ix3 b n k)) hP
    (fun i2 r i1 h => host5_160_cos (W18 m ρ c) i2 r i1 h) (fun i2 r i1 h => host5_160_sin (W18 m ρ c) i2 r i1 h) (fun r k => host5_tables (W18 m ρ c) r k) hz p
  have hre : ∀ j, (V31 m ρ c main_v226 : FVec Ideal S65536x512 .f32) (ix2 ⟨b * 4096 + p, by omega⟩ j) = _ := fun j =>
    (host7_226 (W25 m ρ c) b p (by omega) j).trans ((congrFun ((W25_arr m ρ c 4).trans ((final6_4 (V24 m ρ) c).trans (by rw [e1, ea, eb]))) _).trans (t j (by omega) (by omega)).1)
  have him : ∀ j, (V31 m ρ c main_v227 : FVec Ideal S65536x512 .f32) (ix2 ⟨b * 4096 + p, by omega⟩ j) = _ := fun j =>
    (host7_227 (W25 m ρ c) b p (by omega) j).trans ((congrFun ((W25_arr m ρ c 5).trans ((final6_5 (V24 m ρ) c).trans (by rw [e1, ea, eb]))) _).trans (t j (by omega) (by omega)).2)
  have eo : V32 m ρ c main_v228 = _ := (W32_arr m ρ c 18).trans (final7_18 (V31 m ρ) c)
  rw [e0, e2, e3, kw main_v12 (by decide +kernel), kw main_v14 (by decide +kernel), kw main_v16 (by decide +kernel), kw main_v18 (by decide +kernel), kw main_v20 (by decide +kernel),
    kw main_v22 (by decide +kernel), kw main_v24 (by decide +kernel), kw main_v26 (by decide +kernel), kw main_v27 (by decide +kernel)] at eo
  refine ((host8_229 (W32 m ρ c) b p d).trans ((congrFun eo _).trans ?_))
  exact outArr_layer (n := 65536) (S := 4096) (V17 m ρ c main_v129 : FVec Ideal S65536x1024 .f32) (V17 m ρ c main_v1) (V17 m ρ c main_v3) (V17 m ρ c main_v5) (V17 m ρ c main_v7) (V17 m ρ c main_v9)
    (V17 m ρ c main_v11) (V31 m ρ c main_v226) (V31 m ρ c main_v227) (V31 m ρ c main_v224) (V31 m ρ c main_v225) (V17 m ρ c main_v12) (V17 m ρ c main_v14) (V17 m ρ c main_v16)
    (V17 m ρ c main_v18) (V17 m ρ c main_v20) (V17 m ρ c main_v22) (V17 m ρ c main_v24) (V17 m ρ c main_v26) (V17 m ρ c main_v27)
    (host7_224 (W25 m ρ c)) (host7_225 (W25 m ρ c)) _ (params17 m ρ c).symm _ b (by omega) hX p (by omega) hre him d

end Cert.Layer

end
-- ==== Proof.Ref.lean ====
/- What the reference computes: the layer of each sequence. -/
module

public import proofs.«01_k».proof.Proof.Gen.ReferenceIdeal.Run
public import proofs.«01_k».proof.Proof.Layer
public import Idealize.ShloMosaic.Lib.Pointwise

@[expose] public section

set_option maxRecDepth 16384

noncomputable section

namespace Cert.LayerRef

open Idealize.ShloMosaic Idealize.ShloMosaic.TcCoe Idealize.ShloMosaic.Tactic
open Cert.ReferenceIdeal Cert.ReferenceIdeal.Gen Cert.ReferenceIdeal.Value
open Cert.Layer

variable (σ : Valuation τ sig (Elt Ideal))

theorem sitofp_zero : (FloatOps.sitofp (F := Ideal) .f32 0#32 : EReal) = 0 := by
  show (((0#32 : BitVec 32).toInt : ℝ) : EReal) = 0
  simp

/-- The reference's sum for the real part, its factors the other way round. -/
theorem re_sum {s : ℕ} (hs : 0 < s) {N : EReal} (hN : N = ((s : ℝ) : EReal)) (P : Weights) (X : Fin s → Fin 1024 → EReal) (p : Fin s) (j : Fin 512) :
    (∑ n : Fin s, P.uf (X n) j * Ideal.div (Ideal.cos ((angle s (p * n) : ℝ) : EReal)) (Ideal.sqrt N) : EReal) = P.re X p j :=
  Finset.sum_congr rfl fun n _ => by rw [Ideal.cos_coe, over_sqrt hN hs, mul_comm]; rfl

/-- The reference negates the sine sum, the kernel its terms: the same when what is transformed is real. -/
theorem im_sum {s : ℕ} (hs : 0 < s) {N : EReal} (hN : N = ((s : ℝ) : EReal)) (P : Weights) (hP : ∀ x j, ∃ r : ℝ, P.u x j = r) (X : Fin s → Fin 1024 → EReal)
    (p : Fin s) (j : Fin 512) :
    (-∑ n : Fin s, P.uf (X n) j * Ideal.div (Ideal.sin ((angle s (p * n) : ℝ) : EReal)) (Ideal.sqrt N) : EReal) = P.im X p j := by
  choose x hx using fun n => hP (X n) ⟨j, by omega⟩
  have e : (∑ n : Fin s, P.uf (X n) j * Ideal.div (Ideal.sin ((angle s (p * n) : ℝ) : EReal)) (Ideal.sqrt N) : EReal) = ((∑ n : Fin s, x n * stab s (p * n) : ℝ) : EReal) := by
    rw [coe_sum]
    exact Finset.sum_congr rfl fun n _ => by rw [Ideal.sin_coe, over_sqrt hN hs, EReal.coe_mul, ← hx]; rfl
  have f : P.im X p j = ((∑ n : Fin s, -stab s (p * n) * x n : ℝ) : EReal) := by
    rw [coe_sum]
    exact Finset.sum_congr rfl fun n _ => by rw [EReal.coe_mul, ← hx]; rfl
  rw [e, f, ← EReal.coe_neg, ← Finset.sum_neg_distrib]
  exact congrArg _ (Finset.sum_congr rfl fun n _ => by ring)

/-- A table of angles, of the words it is made of. -/
theorem turn_table {n : ℕ} {N : EReal} {s : BitVec 32} (hs : s = BitVec.ofNat 32 n) (hN : N = ((n : ℝ) : EReal)) (hn' : n ≤ 8192) (r k : ℕ) (hr : r < n) (hk : k < n) :
    Ideal.div (Ideal.ofBits .f32 0x41000000#32 * Ideal.atan 1 *
        FloatOps.sitofp (F := Ideal) .f32 (IntOp.remsi .host (IntOp.muli (BitVec.ofNat 32 r) (BitVec.ofNat 32 k)) s)) N = ((angle n (r * k) : ℝ) : EReal) :=
  turn (w := IntOp.muli (BitVec.ofNat 32 r) (BitVec.ofNat 32 k)) (r * k) hs hN (by omega) (by omega) (by simp [IntOp.muli, BitVec.ofNat_mul])
    (by nlinarith [Nat.mul_lt_mul_of_lt_of_le hr hk.le (by omega : 0 < n)])

/-- The transform over positions, then over a head's channels. -/
theorem chan_sum {s : ℕ} (hs : 0 < s) {N M : EReal} (hN : N = ((s : ℝ) : EReal)) (hM : M = (((128 : ℕ) : ℝ) : EReal)) (P : Weights) (hP : ∀ x j, ∃ r : ℝ, P.u x j = r)
    (X : Fin s → Fin 1024 → EReal) (p : Fin s) (j : Fin 512) :
    ((∑ x : Fin 128, (∑ n : Fin s, P.uf (X n) ⟨j / 128 * 128 + x, by omega⟩ * Ideal.div (Ideal.cos ((angle s (p * n) : ℝ) : EReal)) (Ideal.sqrt N))
          * Ideal.div (Ideal.cos ((angle 128 (x * (j % 128)) : ℝ) : EReal)) (Ideal.sqrt M))
        + ∑ x : Fin 128, (-∑ n : Fin s, P.uf (X n) ⟨j / 128 * 128 + x, by omega⟩ * Ideal.div (Ideal.sin ((angle s (p * n) : ℝ) : EReal)) (Ideal.sqrt N))
          * Ideal.div (Ideal.sin ((angle 128 (x * (j % 128)) : ℝ) : EReal)) (Ideal.sqrt M) : EReal)
      = chan (fun k d => ((ctab 128 (k * d) : ℝ) : EReal)) (fun k d => ((stab 128 (k * d) : ℝ) : EReal)) (P.re X p) (P.im X p) j := by
  simp only [re_sum hs hN, im_sum hs hN P hP]
  simp only [Ideal.cos_coe, Ideal.sin_coe, over_sqrt hM (by omega : 0 < 128)]
  rfl

/-- The padded product, at the rows the convolution reads. -/
theorem pad_rows {s : ℕ} (P : Weights) (X : Fin s → Fin 1024 → EReal) (p : Fin s) (j : Fin 512) {f : ℕ → EReal}
    (hf : ∀ q, f q = if h : 1 ≤ q ∧ q ≤ s then P.cv (X ⟨q - 1, by omega⟩) j else 0) :
    f p = P.prev X p j ∧ f (1 + p) = P.cv (X p) j ∧ f (2 + p) = P.next X p j := by
  refine ⟨?_, ?_, ?_⟩ <;> rw [hf]
  · unfold Weights.prev
    split <;> split <;> first | rfl | omega
  · rw [dif_pos (by omega)]
    exact congrArg (fun q => P.cv (X q) j) (Fin.ext (by dsimp only; omega))
  · unfold Weights.next
    split <;> split <;> first | rfl | omega | exact congrArg (fun q => P.cv (X q) j) (Fin.ext (by dsimp only; omega))

/-- The parameters as the reference's arguments hold them. -/
abbrev params : Weights :=
  Weights.ofArgs (σ (Proc.devRef .tc main_arg2)) (σ (Proc.devRef .tc main_arg3)) (σ (Proc.devRef .tc main_arg4)) (σ (Proc.devRef .tc main_arg5))
    (σ (Proc.devRef .tc main_arg6)) (σ (Proc.devRef .tc main_arg7)) (σ (Proc.devRef .tc main_arg8)) (σ (Proc.devRef .tc main_arg9))
    (σ (Proc.devRef .tc main_arg10)) (σ (Proc.devRef .tc main_arg11)) (σ (Proc.devRef .tc main_arg12)) (σ (Proc.devRef .tc main_arg13))
    (σ (Proc.devRef .tc main_arg14)) (σ (Proc.devRef .tc main_arg15)) (σ (Proc.devRef .tc main_arg16))

/-- The prompt sequences. -/
abbrev seqP (b : Fin 4) : Fin 8192 → Fin 1024 → EReal := fun n k => (σ (Proc.devRef .tc main_arg0) : FVec Ideal S4x8192x1024 .f32) (ix3 b n k)

theorem p26 (b : Fin 4) (p : Fin 8192) (k : Fin 1024) : (res_main_v26 σ : FVec Ideal S4x8192x1024 .f32) (ix3 b p k) = rms c1024 (seqP σ b p) (params σ).g1 k := by
  unfold res_main_v26
  pointwise []
  rfl
theorem p27 (b : Fin 4) (p : Fin 8192) (k : Fin 2816) : (res_main_v27 σ : FVec Ideal S4x8192x2816 .f32) (ix3 b p k) = Layer.dot (rms c1024 (seqP σ b p) (params σ).g1) (params σ).wg k := by
  unfold res_main_v27
  pointwise [p26 σ]
  rfl
theorem p34 (b : Fin 4) (p : Fin 8192) (k : Fin 1024) : (res_main_v34 σ : FVec Ideal S4x8192x1024 .f32) (ix3 b p k) = (params σ).x1 (seqP σ b p) k := by
  unfold res_main_v34
  pointwise [p26 σ, p27 σ]
  rfl
theorem p48 (b : Fin 4) (p : Fin 8192) (k : Fin 2048) : (res_main_v48 σ : FVec Ideal S4x8192x2048 .f32) (ix3 b p k) = (params σ).u (seqP σ b p) k := by
  unfold res_main_v48
  pointwise [p34 σ]
  rfl

theorem p50 (b : Fin 4) (p : Fin 8192) (k : Fin 1536) : (res_main_v50 σ : FVec Ideal S4x8192x1536 .f32) (ix3 b p k) = (params σ).u (seqP σ b p) ⟨512 + k, by omega⟩ := by
  unfold res_main_v50
  pointwise [p48 σ]
theorem p54 (b : Fin 4) (p : Fin 8192) (h : Fin 4) (d : Fin 128) : (res_main_v54 σ : FVec Ideal S4x8192x4x128 .f32) (ix4 b p h d) = (params σ).uf (seqP σ b p) ⟨h * 128 + d, by omega⟩ := by
  unfold res_main_v54
  pointwise [p48 σ]
  rfl
theorem p69 (r k : Fin 8192) : (res_main_v69 σ : FVec Ideal S8192x8192 .f32) (ix2 r k) = ((angle 8192 (r * k) : ℝ) : EReal) := by
  unfold res_main_v69 res_main_v55
  pointwise []
  exact turn_table rfl w8192 (by omega) r k r.isLt k.isLt
theorem p92 (r k : Fin 128) : (res_main_v92 σ : FVec Ideal S128x128 .f32) (ix2 r k) = ((angle 128 (r * k) : ℝ) : EReal) := by
  unfold res_main_v92 res_main_v78
  pointwise []
  exact turn_table rfl w128 (by omega) r k r.isLt k.isLt
/-- The transformed channels. -/
theorem p109 (hP : ∀ x j, ∃ r : ℝ, (params σ).u x j = r) (b : Fin 4) (p : Fin 8192) (j : Fin 512) : (res_main_v109 σ : FVec Ideal S4x8192x512 .f32) (ix3 b p j)
    = chan (fun k d => ((ctab 128 (k * d) : ℝ) : EReal)) (fun k d => ((stab 128 (k * d) : ℝ) : EReal)) ((params σ).re (seqP σ b) p) ((params σ).im (seqP σ b) p) j := by
  unfold res_main_v109
  pointwise [p54 σ, p69 σ, p92 σ]
  exact chan_sum (by omega) w8192 w128 (params σ) hP (seqP σ b) p j
/-- What is convolved, with a row of zeros at either end. -/
theorem p124 (b : Fin 4) (p : Fin 8194) (j : Fin 512) : (res_main_v124 σ : FVec Ideal S4x8194x512 .f32) (ix3 b p j)
    = if h : 1 ≤ p.val ∧ p.val ≤ 8192 then (params σ).cv (seqP σ b ⟨p - 1, by omega⟩) j else 0 := by
  unfold res_main_v124
  pointwise [p50 σ]
  split <;> split <;> first
    | omega
    | exact congrArg₂ (fun x y => (params σ).u (seqP σ b _) x * (params σ).u (seqP σ b _) y) (Fin.ext (by dsimp only; omega)) (Fin.ext (by dsimp only; omega))
    | exact sitofp_zero
theorem p145 (b : Fin 4) (p : Fin 8192) (j : Fin 512) : (res_main_v145 σ : FVec Ideal S4x8192x512 .f32) (ix3 b p j)
    = (params σ).gb (seqP σ b p) j * conv ((params σ).prev (seqP σ b) p) ((params σ).cv (seqP σ b p)) ((params σ).next (seqP σ b) p) (params σ).cw j := by
  obtain ⟨e0, e1, e2⟩ := pad_rows (params σ) (seqP σ b) p j (f := fun q => if h : 1 ≤ q ∧ q ≤ 8192 then (params σ).cv (seqP σ b ⟨q - 1, by omega⟩) j else 0) (fun _ => rfl)
  have q0 : (res_main_v124 σ : FVec Ideal S4x8194x512 .f32) (ix3 b ⟨p, by omega⟩ j) = _ := (p124 σ b _ j).trans e0
  have q1 : (res_main_v124 σ : FVec Ideal S4x8194x512 .f32) (ix3 b ⟨1 + p, by omega⟩ j) = _ := (p124 σ b _ j).trans e1
  have q2 : (res_main_v124 σ : FVec Ideal S4x8194x512 .f32) (ix3 b ⟨2 + p, by omega⟩ j) = _ := (p124 σ b _ j).trans e2
  unfold res_main_v145 res_main_v6
  pointwise [p50 σ, q0, q1, q2]
  rfl
theorem p161 (b : Fin 4) (p : Fin 8192) (d : Fin 1024) (yf yc : Fin 512 → EReal) (hf : ∀ j, (res_main_v109 σ : FVec Ideal S4x8192x512 .f32) (ix3 b p j) = yf j)
    (hc : ∀ j, (res_main_v145 σ : FVec Ideal S4x8192x512 .f32) (ix3 b p j) = yc j) : (res_main_v161 σ : FVec Ideal S4x8192x1024 .f32) (ix3 b p d)
    = mixed ((params σ).x1 (seqP σ b p)) yf yc (params σ).gf (params σ).gc (params σ).wo d := by
  unfold res_main_v161
  pointwise [p34 σ, hf, hc]
  rfl
theorem p174 (b : Fin 4) (p : Fin 8192) (k : Fin 1024) (x : Fin 1024 → EReal) (hx : ∀ d, (res_main_v161 σ : FVec Ideal S4x8192x1024 .f32) (ix3 b p d) = x d) :
    (res_main_v174 σ : FVec Ideal S4x8192x1024 .f32) (ix3 b p k) = rms c1024 x (params σ).g2 k := by
  unfold res_main_v174
  pointwise [hx]
  rfl
theorem p175 (b : Fin 4) (p : Fin 8192) (k : Fin 2816) (x : Fin 1024 → EReal) (hx : ∀ d, (res_main_v161 σ : FVec Ideal S4x8192x1024 .f32) (ix3 b p d) = x d) :
    (res_main_v175 σ : FVec Ideal S4x8192x2816 .f32) (ix3 b p k) = Layer.dot (rms c1024 x (params σ).g2) (params σ).wg2 k := by
  unfold res_main_v175
  pointwise [fun k => p174 σ b p k x hx]
  rfl
theorem p182 (b : Fin 4) (p : Fin 8192) (k : Fin 1024) (x : Fin 1024 → EReal) (hx : ∀ d, (res_main_v161 σ : FVec Ideal S4x8192x1024 .f32) (ix3 b p d) = x d) :
    (res_main_v182 σ : FVec Ideal S4x8192x1024 .f32) (ix3 b p k) = ffn x (params σ).g2 (params σ).wg2 (params σ).wu2 (params σ).wd2 k := by
  unfold res_main_v182
  pointwise [hx, fun k => p174 σ b p k x hx, fun k => p175 σ b p k x hx]
  rfl

/-- The reference's first result. -/
theorem result_prompt (hP : ∀ x j, ∃ r : ℝ, (params σ).u x j = r) (b : Fin 4) (p : Fin 8192) (d : Fin 1024) :
    (mulf (mulf (res_main_v182 σ) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (res_main_v182 σ) (res_main_v182 σ)) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (σ (Proc.devRef .tc main_arg16)))) : FVec Ideal S4x8192x1024 .f32) (ix3 b p d)
      = (params σ).layer (seqP σ b) p d := by
  have h := fun d => p182 σ b p d _ (fun d => p161 σ b p d _ _ (p109 σ hP b p) (p145 σ b p))
  pointwise [h]
  rfl

end Cert.LayerRef

end
-- ==== Proof.RefSample.lean ====
/- What the reference computes of the sample batch: the layer of each sequence. -/
module

public import proofs.«01_k».proof.Proof.Ref

@[expose] public section

set_option maxRecDepth 16384

noncomputable section

namespace Cert.LayerRef

open Idealize.ShloMosaic Idealize.ShloMosaic.TcCoe Idealize.ShloMosaic.Tactic
open Cert.ReferenceIdeal Cert.ReferenceIdeal.Gen Cert.ReferenceIdeal.Value
open Cert.Layer

variable (σ : Valuation τ sig (Elt Ideal))

/-- The sample sequences. -/
abbrev seqS (b : Fin 16) : Fin 4096 → Fin 1024 → EReal := fun n k => (σ (Proc.devRef .tc main_arg1) : FVec Ideal S16x4096x1024 .f32) (ix3 b n k)

theorem s222 (b : Fin 16) (p : Fin 4096) (k : Fin 1024) : (res_main_v222 σ : FVec Ideal S16x4096x1024 .f32) (ix3 b p k) = rms c1024 (seqS σ b p) (params σ).g1 k := by
  unfold res_main_v222
  pointwise []
  rfl
theorem s223 (b : Fin 16) (p : Fin 4096) (k : Fin 2816) : (res_main_v223 σ : FVec Ideal S16x4096x2816 .f32) (ix3 b p k) = Layer.dot (rms c1024 (seqS σ b p) (params σ).g1) (params σ).wg k := by
  unfold res_main_v223
  pointwise [s222 σ]
  rfl
theorem s230 (b : Fin 16) (p : Fin 4096) (k : Fin 1024) : (res_main_v230 σ : FVec Ideal S16x4096x1024 .f32) (ix3 b p k) = (params σ).x1 (seqS σ b p) k := by
  unfold res_main_v230
  pointwise [s222 σ, s223 σ]
  rfl
theorem s244 (b : Fin 16) (p : Fin 4096) (k : Fin 2048) : (res_main_v244 σ : FVec Ideal S16x4096x2048 .f32) (ix3 b p k) = (params σ).u (seqS σ b p) k := by
  unfold res_main_v244
  pointwise [s230 σ]
  rfl

theorem s246 (b : Fin 16) (p : Fin 4096) (k : Fin 1536) : (res_main_v246 σ : FVec Ideal S16x4096x1536 .f32) (ix3 b p k) = (params σ).u (seqS σ b p) ⟨512 + k, by omega⟩ := by
  unfold res_main_v246
  pointwise [s244 σ]
theorem s250 (b : Fin 16) (p : Fin 4096) (h : Fin 4) (d : Fin 128) : (res_main_v250 σ : FVec Ideal S16x4096x4x128 .f32) (ix4 b p h d) = (params σ).uf (seqS σ b p) ⟨h * 128 + d, by omega⟩ := by
  unfold res_main_v250
  pointwise [s244 σ]
  rfl
theorem s265 (r k : Fin 4096) : (res_main_v265 σ : FVec Ideal S4096x4096 .f32) (ix2 r k) = ((angle 4096 (r * k) : ℝ) : EReal) := by
  unfold res_main_v265 res_main_v251
  pointwise []
  exact turn_table rfl w4096 (by omega) r k r.isLt k.isLt
theorem s288 (r k : Fin 128) : (res_main_v288 σ : FVec Ideal S128x128 .f32) (ix2 r k) = ((angle 128 (r * k) : ℝ) : EReal) := by
  unfold res_main_v288 res_main_v274
  pointwise []
  exact turn_table rfl w128 (by omega) r k r.isLt k.isLt
/-- The transformed channels. -/
theorem s305 (hP : ∀ x j, ∃ r : ℝ, (params σ).u x j = r) (b : Fin 16) (p : Fin 4096) (j : Fin 512) : (res_main_v305 σ : FVec Ideal S16x4096x512 .f32) (ix3 b p j)
    = chan (fun k d => ((ctab 128 (k * d) : ℝ) : EReal)) (fun k d => ((stab 128 (k * d) : ℝ) : EReal)) ((params σ).re (seqS σ b) p) ((params σ).im (seqS σ b) p) j := by
  unfold res_main_v305
  pointwise [s250 σ, s265 σ, s288 σ]
  exact chan_sum (by omega) w4096 w128 (params σ) hP (seqS σ b) p j
/-- What is convolved, with a row of zeros at either end. -/
theorem s320 (b : Fin 16) (p : Fin 4098) (j : Fin 512) : (res_main_v320 σ : FVec Ideal S16x4098x512 .f32) (ix3 b p j)
    = if h : 1 ≤ p.val ∧ p.val ≤ 4096 then (params σ).cv (seqS σ b ⟨p - 1, by omega⟩) j else 0 := by
  unfold res_main_v320
  pointwise [s246 σ]
  split <;> split <;> first
    | omega
    | exact congrArg₂ (fun x y => (params σ).u (seqS σ b _) x * (params σ).u (seqS σ b _) y) (Fin.ext (by dsimp only; omega)) (Fin.ext (by dsimp only; omega))
    | exact sitofp_zero
theorem s341 (b : Fin 16) (p : Fin 4096) (j : Fin 512) : (res_main_v341 σ : FVec Ideal S16x4096x512 .f32) (ix3 b p j)
    = (params σ).gb (seqS σ b p) j * conv ((params σ).prev (seqS σ b) p) ((params σ).cv (seqS σ b p)) ((params σ).next (seqS σ b) p) (params σ).cw j := by
  obtain ⟨e0, e1, e2⟩ := pad_rows (params σ) (seqS σ b) p j (f := fun q => if h : 1 ≤ q ∧ q ≤ 4096 then (params σ).cv (seqS σ b ⟨q - 1, by omega⟩) j else 0) (fun _ => rfl)
  have q0 : (res_main_v320 σ : FVec Ideal S16x4098x512 .f32) (ix3 b ⟨p, by omega⟩ j) = _ := (s320 σ b _ j).trans e0
  have q1 : (res_main_v320 σ : FVec Ideal S16x4098x512 .f32) (ix3 b ⟨1 + p, by omega⟩ j) = _ := (s320 σ b _ j).trans e1
  have q2 : (res_main_v320 σ : FVec Ideal S16x4098x512 .f32) (ix3 b ⟨2 + p, by omega⟩ j) = _ := (s320 σ b _ j).trans e2
  unfold res_main_v341 res_main_v202
  pointwise [s246 σ, q0, q1, q2]
  rfl
theorem s357 (b : Fin 16) (p : Fin 4096) (d : Fin 1024) (yf yc : Fin 512 → EReal) (hf : ∀ j, (res_main_v305 σ : FVec Ideal S16x4096x512 .f32) (ix3 b p j) = yf j)
    (hc : ∀ j, (res_main_v341 σ : FVec Ideal S16x4096x512 .f32) (ix3 b p j) = yc j) : (res_main_v357 σ : FVec Ideal S16x4096x1024 .f32) (ix3 b p d)
    = mixed ((params σ).x1 (seqS σ b p)) yf yc (params σ).gf (params σ).gc (params σ).wo d := by
  unfold res_main_v357
  pointwise [s230 σ, hf, hc]
  rfl
theorem s370 (b : Fin 16) (p : Fin 4096) (k : Fin 1024) (x : Fin 1024 → EReal) (hx : ∀ d, (res_main_v357 σ : FVec Ideal S16x4096x1024 .f32) (ix3 b p d) = x d) :
    (res_main_v370 σ : FVec Ideal S16x4096x1024 .f32) (ix3 b p k) = rms c1024 x (params σ).g2 k := by
  unfold res_main_v370
  pointwise [hx]
  rfl
theorem s371 (b : Fin 16) (p : Fin 4096) (k : Fin 2816) (x : Fin 1024 → EReal) (hx : ∀ d, (res_main_v357 σ : FVec Ideal S16x4096x1024 .f32) (ix3 b p d) = x d) :
    (res_main_v371 σ : FVec Ideal S16x4096x2816 .f32) (ix3 b p k) = Layer.dot (rms c1024 x (params σ).g2) (params σ).wg2 k := by
  unfold res_main_v371
  pointwise [fun k => s370 σ b p k x hx]
  rfl
theorem s378 (b : Fin 16) (p : Fin 4096) (k : Fin 1024) (x : Fin 1024 → EReal) (hx : ∀ d, (res_main_v357 σ : FVec Ideal S16x4096x1024 .f32) (ix3 b p d) = x d) :
    (res_main_v378 σ : FVec Ideal S16x4096x1024 .f32) (ix3 b p k) = ffn x (params σ).g2 (params σ).wg2 (params σ).wu2 (params σ).wd2 k := by
  unfold res_main_v378
  pointwise [hx, fun k => s370 σ b p k x hx, fun k => s371 σ b p k x hx]
  rfl

/-- The reference's second result. -/
theorem result_sample (hP : ∀ x j, ∃ r : ℝ, (params σ).u x j = r) (b : Fin 16) (p : Fin 4096) (d : Fin 1024) :
    (mulf (mulf (res_main_v378 σ) (broadcastInDim S16x4096x1024 ![0, 1, 2] bcast_S16x4096x1_S16x4096x1024_0_1_2 (Host.rsqrt (addf (Host.divf (broadcastInDim S16x4096x1 ![0, 1] bcast_S16x4096_S16x4096x1_0_1 (Host.reduceAdd (mulf (res_main_v378 σ) (res_main_v378 σ)) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x358637BD#32)))))) (broadcastInDim S16x4096x1024 ![0, 1, 2] bcast_S1x1x1024_S16x4096x1024_0_1_2 (broadcastInDim S1x1x1024 ![2] bcast_S1024_S1x1x1024_2 (σ (Proc.devRef .tc main_arg16)))) : FVec Ideal S16x4096x1024 .f32) (ix3 b p d)
      = (params σ).layer (seqS σ b) p d := by
  have h := fun d => s378 σ b p d _ (fun d => s357 σ b p d _ _ (s305 σ hP b p) (s341 σ b p))
  pointwise [h]
  rfl

end Cert.LayerRef

end
-- ==== Proof.Pre.lean ====
/- What the precondition says of the in-projection's gain and matrix. -/
module

public import proofs.«01_k».proof.Defs
public import Idealize.ShloMosaic.Lib.ReduceAll
public import Idealize.ShloMosaic.Lib.Pointwise

@[expose] public section

set_option maxRecDepth 16384

noncomputable section

namespace Cert.Layer

open Idealize.ShloMosaic Idealize.ShloMosaic.TcCoe Idealize.ShloMosaic.Tactic

/-- The side conditions the precondition's text states. -/
theorem pre_facts : Cert.Pre_finite_projection.Facts where
  bcast_S_S1x1024 := by decide
  reducesTo_S1x1024_S_d0_1 := by decide
  h_S_ := by decide
  bcast_S_S1x1024x2048 := by decide
  reducesTo_S1x1024x2048_S_d0_1_2 := by decide

/-- A number whose absolute value is below infinity is real. -/
theorem real_of_olt (x : EReal) (h : Ideal.cmp .olt (max x (-x)) (Ideal.ofBits .f32 0x7F800000#32) = 1#1) : ∃ r : ℝ, x = r := by
  have ht : Ideal.ofBits .f32 0x7F800000#32 = ⊤ := by simp [Ideal.ofBits, Ideal.ieee]
  rw [ht] at h
  induction x with
  | coe r => exact ⟨r, rfl⟩
  | bot => simp [Ideal.cmp] at h
  | top => simp [Ideal.cmp] at h

/-- Under the precondition the in-projection's gain and matrix are real. -/
theorem reals_of_pre [hP : Cert.Pre_finite_projection.Facts] (m : (ℓ : Loc Cert.KernelIdeal.nD Cert.KernelIdeal.τ Cert.KernelIdeal.sig) → Buf (Elt Ideal) ℓ)
    (h : Cert.Pre_KernelIdeal_finite_projection m) (c : Dev Cert.KernelIdeal.nD) :
    (∀ k, ∃ r : ℝ, (m ((c.tc : Thread Cert.KernelIdeal.nD Cert.KernelIdeal.τ).loc Cert.KernelIdeal.main_arg6) : FVec Ideal Cert.KernelIdeal.S1x1024 .f32) (ix2 0 k) = (r : EReal))
    ∧ ∀ k j, ∃ r : ℝ, (m ((c.tc : Thread Cert.KernelIdeal.nD Cert.KernelIdeal.τ).loc Cert.KernelIdeal.main_arg7) : FVec Ideal Cert.KernelIdeal.S1x1024x2048 .f32) (ix3 0 k j) = (r : EReal) := by
  have e := congrFun (h c) (fun k => Fin.elim0 k)
  unfold Cert.Pre_finite_projection.fn at e
  dsimp only at e
  obtain ⟨e6, e7⟩ := IntOp.andi_eq_one.1 e
  haveI : Subsingleton (Shape.Idx Cert.Pre_finite_projection.S_) := ⟨fun a b => funext fun k => k.elim0⟩
  have a6 := Host.reduce_andi_all _ _ _ _ _ e6
  have a7 := Host.reduce_andi_all _ _ _ _ _ e7
  exact ⟨fun k => real_of_olt _ (a6 (ix2 0 k)), fun k j => real_of_olt _ (a7 (ix3 0 k j))⟩

end Cert.Layer

end
-- ==== Proof.lean ====
/- The claims about the encoder layer, assembled. -/
module

public import proofs.«01_k».proof.Defs
public import proofs.«01_k».proof.Proof.Gen.Kernel
public import proofs.«01_k».proof.Proof.Gen.Kernel.Frame
public import proofs.«01_k».proof.Proof.Run
public import proofs.«01_k».proof.Proof.Kern
public import proofs.«01_k».proof.Proof.RefSample
public import proofs.«01_k».proof.Proof.Pre
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.SL.Sem

section kernel
open Cert.KernelIdeal Cert.KernelIdeal.Gen

/-- The kernel ends with its results as the last boundary's contents say, and its arguments as launched. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v128) = W33 m ρ c (Proc.devRef .tc main_v128)
      ∧ r.2.mem ((c.tc : Thread nD τ).loc main_v229) = W33 m ρ c (Proc.devRef .tc main_v229)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run _ _ _).mono (fun _ h c =>
      ⟨h c _ (mem_uc main_v128 (by decide)), h c _ (mem_uc main_v229 (by decide)),
       (h c _ (mem_uc main_arg0 (by decide))).trans (W33_main_arg0 m ρ c),
       (h c _ (mem_uc main_arg1 (by decide))).trans (W33_main_arg1 m ρ c),
       (h c _ (mem_uc main_arg2 (by decide))).trans (W33_main_arg2 m ρ c),
       (h c _ (mem_uc main_arg3 (by decide))).trans (W33_main_arg3 m ρ c),
       (h c _ (mem_uc main_arg4 (by decide))).trans (W33_main_arg4 m ρ c),
       (h c _ (mem_uc main_arg5 (by decide))).trans (W33_main_arg5 m ρ c),
       (h c _ (mem_uc main_arg6 (by decide))).trans (W33_main_arg6 m ρ c),
       (h c _ (mem_uc main_arg7 (by decide))).trans (W33_main_arg7 m ρ c),
       (h c _ (mem_uc main_arg8 (by decide))).trans (W33_main_arg8 m ρ c),
       (h c _ (mem_uc main_arg9 (by decide))).trans (W33_main_arg9 m ρ c),
       (h c _ (mem_uc main_arg10 (by decide))).trans (W33_main_arg10 m ρ c),
       (h c _ (mem_uc main_arg11 (by decide))).trans (W33_main_arg11 m ρ c),
       (h c _ (mem_uc main_arg12 (by decide))).trans (W33_main_arg12 m ρ c),
       (h c _ (mem_uc main_arg13 (by decide))).trans (W33_main_arg13 m ρ c),
       (h c _ (mem_uc main_arg14 (by decide))).trans (W33_main_arg14 m ρ c),
       (h c _ (mem_uc main_arg15 (by decide))).trans (W33_main_arg15 m ρ c),
       (h c _ (mem_uc main_arg16 (by decide))).trans (W33_main_arg16 m ρ c)⟩)
    (Cert.Layer.run_ends m ρ)

end kernel

/-- The reference ends, its arguments as launched and its counters zero. -/
theorem reference_frame : Cert.quiescent_ReferenceIdeal := fun m ρ _ =>
  (θ_run _ _ _).mono (fun r h => ⟨fun c => (h c).2.2, sem_eq_zero_of_no_sems (by decide) r.2⟩)
    (Cert.ReferenceIdeal.Value.run (F := Ideal) m ρ)

/-- The parameters of the two programs are the same when their argument arrays are. -/
theorem same_params {a2 b2 : FVec Ideal KernelIdeal.S1x1024 .f32} {a3 b3 a4 b4 : FVec Ideal KernelIdeal.S1x1024x2816 .f32} {a5 b5 : FVec Ideal KernelIdeal.S1x2816x1024 .f32}
    {a6 b6 : FVec Ideal KernelIdeal.S1x1024 .f32} {a7 b7 : FVec Ideal KernelIdeal.S1x1024x2048 .f32} {a8 b8 : FVec Ideal KernelIdeal.S1x3x512 .f32}
    {a9 b9 a10 b10 : FVec Ideal KernelIdeal.S1x512 .f32} {a11 b11 : FVec Ideal KernelIdeal.S1x1024x1024 .f32} {a12 b12 : FVec Ideal KernelIdeal.S1x1024 .f32}
    {a13 b13 a14 b14 : FVec Ideal KernelIdeal.S1x1024x2816 .f32} {a15 b15 : FVec Ideal KernelIdeal.S1x2816x1024 .f32} {a16 b16 : FVec Ideal KernelIdeal.S1024 .f32}
    (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) :
    Layer.Weights.ofArgs a2 a3 a4 a5 a6 a7 a8 a9 a10 a11 a12 a13 a14 a15 a16 = Layer.Weights.ofArgs b2 b3 b4 b5 b6 b7 b8 b9 b10 b11 b12 b13 b14 b15 b16 := by
  subst h2 h3 h4 h5 h6 h7 h8 h9 h10 h11 h12 h13 h14 h15 h16
  rfl

attribute [local instance] Cert.Layer.pre_facts

/-- Under the precondition the two programs' results are equal. -/
theorem algebraic : Cert.algebraic_KernelIdeal_ReferenceIdeal_pre_finite_projection := fun m ρ m' ρ' hpre hag => by
  refine ⟨fun c => KernelIdeal.Gen.W33 m ρ c (Proc.devRef .tc KernelIdeal.main_v128), fun c => KernelIdeal.Gen.W33 m ρ c (Proc.devRef .tc KernelIdeal.main_v229),
    kernel_run m ρ, (θ_run _ _ _).mono (fun r h c => ?_) (Cert.ReferenceIdeal.Value.run (F := Ideal) m' ρ')⟩
  obtain ⟨h0, h1, h2, h3, h4, h5, h6, h7, h8, h9, h10, h11, h12, h13, h14, h15, h16⟩ := hag c
  have hp : LayerRef.params (StableHlo.launchContents m' c) = Layer.params m ρ c :=
    same_params h2 h3 h4 h5 h6 h7 h8 h9 h10 h11 h12 h13 h14 h15 h16
  obtain ⟨hg, hw⟩ := Layer.reals_of_pre m hpre c
  have hP : ∀ x j, ∃ r : ℝ, (Layer.params m ρ c).u x j = r := Layer.u_real _ hg hw
  have hP' : ∀ x j, ∃ r : ℝ, (LayerRef.params (StableHlo.launchContents m' c)).u x j = r := by rw [hp]; exact hP
  refine ⟨(h c).1.trans ?_, (h c).2.1.trans ?_, (h c).2.2⟩
  · have e : ∀ (b : Fin 4) (p : Fin 8192) (d : Fin 1024), _ = (KernelIdeal.Gen.W33 m ρ c (Proc.devRef .tc KernelIdeal.main_v128) : FVec Ideal KernelIdeal.S4x8192x1024 .f32) (ix3 b p d) := fun b p d =>
      (LayerRef.result_prompt (StableHlo.launchContents m' c) hP' b p d).trans (Eq.trans (by
        rw [hp, show LayerRef.seqP (StableHlo.launchContents m' c) b = fun n k => (KernelIdeal.Gen.W0 m ρ c (Proc.devRef .tc KernelIdeal.main_arg0) : FVec Ideal KernelIdeal.S4x8192x1024 .f32) (ix3 b n k) from
          funext fun n => funext fun k => congrFun h0 (ix3 b n k)]) (Layer.result_prompt m ρ c hP b p d).symm)
    refine funext fun i => ?_
    obtain ⟨b, p, d, rfl⟩ : ∃ (b : Fin 4) (p : Fin 8192) (d : Fin 1024), i = ix3 b p d := ⟨i 0, i 1, i 2, eq_ix3 (n0 := 4) (n1 := 8192) (n2 := 1024) i⟩
    exact e b p d
  · have e : ∀ (b : Fin 16) (p : Fin 4096) (d : Fin 1024), _ = (KernelIdeal.Gen.W33 m ρ c (Proc.devRef .tc KernelIdeal.main_v229) : FVec Ideal KernelIdeal.S16x4096x1024 .f32) (ix3 b p d) := fun b p d =>
      (LayerRef.result_sample (StableHlo.launchContents m' c) hP' b p d).trans (Eq.trans (by
        rw [hp, show LayerRef.seqS (StableHlo.launchContents m' c) b = fun n k => (KernelIdeal.Gen.W0 m ρ c (Proc.devRef .tc KernelIdeal.main_arg1) : FVec Ideal KernelIdeal.S16x4096x1024 .f32) (ix3 b n k) from
          funext fun n => funext fun k => congrFun h1 (ix3 b n k)]) (Layer.result_sample m ρ c hP b p d).symm)
    refine funext fun i => ?_
    obtain ⟨b, p, d, rfl⟩ : ∃ (b : Fin 16) (p : Fin 4096) (d : Fin 1024), i = ix3 b p d := ⟨i 0, i 1, i 2, eq_ix3 (n0 := 16) (n1 := 4096) (n2 := 1024) i⟩
    exact e b p d

/-- Every claim the certificate makes. -/
theorem claim : Cert.Claim :=
  ⟨Cert.Kernel.Gen.facts, Cert.KernelIdeal.Gen.facts, Cert.ReferenceIdeal.Gen.facts, Cert.Layer.pre_facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, trivial, algebraic⟩

end Cert.Proof

end
